-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)) →
    ∃ (v0 : (c : Dev Cert.KernelIdeal.nD) → Buf (Elt Ideal) ((c.tc : Thread Cert.KernelIdeal.nD Cert.KernelIdeal.τ).loc Cert.KernelIdeal.main_v4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v47) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S4x5000x85 : Shape := ⟨3, ![4, 5000, 85]⟩
abbrev S_ : Shape := ⟨0, ![]⟩
abbrev S4x5120x85 : Shape := ⟨3, ![4, 5120, 85]⟩
abbrev S4x85x5120 : Shape := ⟨3, ![4, 85, 5120]⟩
abbrev S4x85x40x128 : Shape := ⟨4, ![4, 85, 40, 128]⟩
abbrev S4x100x8 : Shape := ⟨3, ![4, 100, 8]⟩
abbrev S4x2x8x40x128 : Shape := ⟨5, ![4, 2, 8, 40, 128]⟩
abbrev S1x1x40x128 : Shape := ⟨4, ![1, 1, 40, 128]⟩
abbrev S40x128 : Shape := ⟨2, ![40, 128]⟩
abbrev S1x80x40x128 : Shape := ⟨4, ![1, 80, 40, 128]⟩
abbrev S80x40x128 : Shape := ⟨3, ![80, 40, 128]⟩
abbrev S1x40x128 : Shape := ⟨3, ![1, 40, 128]⟩
abbrev S1 : Shape := ⟨1, ![1]⟩
abbrev S1x1x1 : Shape := ⟨3, ![1, 1, 1]⟩
abbrev S1x1 : Shape := ⟨2, ![1, 1]⟩
abbrev S1x1x1x40x128 : Shape := ⟨5, ![1, 1, 1, 40, 128]⟩
abbrev S8x128 : Shape := ⟨2, ![8, 128]⟩
abbrev S8x8 : Shape := ⟨2, ![8, 8]⟩
abbrev S128x128 : Shape := ⟨2, ![128, 128]⟩
abbrev S128 : Shape := ⟨1, ![128]⟩
abbrev S1x128 : Shape := ⟨2, ![1, 128]⟩
abbrev S8 : Shape := ⟨1, ![8]⟩
abbrev S1x8 : Shape := ⟨2, ![1, 8]⟩
abbrev S1x1x8 : Shape := ⟨3, ![1, 1, 8]⟩
abbrev S4x100x7 : Shape := ⟨3, ![4, 100, 7]⟩

abbrev nBuf : Space → Nat
  | .hbm => 8
  | .vmem => 3
  | .smem => 0
  | _ => 0

abbrev bufTy : (tb : Table) → Fin (tcTables nBuf tb) → BufTy
  | .hbm, ⟨0, _⟩ => ⟨S4x5000x85, .f32⟩
  | .hbm, ⟨1, _⟩ => ⟨S_, .i32⟩
  | .hbm, ⟨2, _⟩ => ⟨S_, .f32⟩
  | .hbm, ⟨3, _⟩ => ⟨S4x5120x85, .f32⟩
  | .hbm, ⟨4, _⟩ => ⟨S4x85x5120, .f32⟩
  | .hbm, ⟨5, _⟩ => ⟨S4x85x40x128, .f32⟩
  | .hbm, ⟨6, _⟩ => ⟨S4x100x8, .f32⟩
  | .hbm, ⟨7, _⟩ => ⟨S4x100x7, .f32⟩
  | .local _ .vmem, ⟨0, _⟩ => ⟨S4x85x40x128, .f32⟩
  | .local _ .vmem, ⟨1, _⟩ => ⟨S4x100x8, .f32⟩
  | .local _ .vmem, ⟨2, _⟩ => ⟨S4x2x8x40x128, .f32⟩
  | _, _ => ⟨S4x5000x85, .f32⟩

abbrev bufScoped : (cs : CoreSpace) → Fin (nBuf (.core cs)) → Bool
  | .vmem, ⟨0, _⟩ => true
  | .vmem, ⟨1, _⟩ => true
  | .vmem, ⟨2, _⟩ => true
  | _, _ => false

abbrev semScoped : Fin 0 → Bool
  | ⟨_, h⟩ => absurd h (Nat.not_lt_zero _)

abbrev dmaSemScoped : Fin 2 → Bool
  | ⟨0, _⟩ => true
  | ⟨1, _⟩ => true
  | _ => false

abbrev sig : RefSig :=
  ofTc nBuf bufTy 0 2 bufScoped semScoped dmaSemScoped tileCredit tileCredit_eq_zero tileCredit_pos

abbrev main_arg0 : Ref sig .tc := ⟨.hbm, 0, rfl⟩
abbrev main_c : Ref sig .tc := ⟨.hbm, 1, rfl⟩
abbrev main_call0_v0 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev cc0_stg0_0 : Ref sig .tc := ⟨.vmem, 0, rfl⟩
abbrev cc0_stg1_0 : Ref sig .tc := ⟨.vmem, 1, rfl⟩
abbrev cc0_scratch0 : Ref sig .tc := ⟨.vmem, 2, rfl⟩
abbrev cc0_sem0_0 : DmaSem sig := 0
abbrev cc0_sem1_0 : DmaSem sig := 1

abbrev nD : Nat := 1
abbrev τ : Topo := Topo.v7x

variable {F : FTy → Type} [FloatOps F]

abbrev grid0 : Pipeline.Grid := ⟨1, ![1], ![false]⟩

@[reducible] def k0_t1_loop : Scf.Loop 32 :=
  let c0_i32 : BitVec 32 := 0#32
  let c100_i32 : BitVec 32 := 100#32
  let v424 : BitVec 32 := Scalar.addi c0_i32 c100_i32
  let c1_i32 : BitVec 32 := 1#32
  ⟨c0_i32, v424, c1_i32⟩
def k0_off1 (k0_t1 : Fin k0_t1_loop.trips) : Fin 5 → Nat :=
  let c0_472 : Index := 0#32
  let c0_i32 : BitVec 32 := 0#32
  let c1_i32 : BitVec 32 := 1#32
  let arg4 : BitVec 32 := Scf.iv c0_i32 c1_i32 k0_t1
  let c2_i32 : BitVec 32 := 2#32
  let v426 : BitVec 32 := Scalar.remsi arg4 c2_i32
  let v505 : Index := Scalar.indexCast v426
  let c0_473 : Index := 0#32
  let c0_474 : Index := 0#32
  let c0_475 : Index := 0#32
  ![0, v505.toNat, 0, 0, 0]
def k0_off2 (k0_t1 : Fin k0_t1_loop.trips) : Fin 5 → Nat :=
  let c0_479 : Index := 0#32
  let c0_i32 : BitVec 32 := 0#32
  let c1_i32 : BitVec 32 := 1#32
  let arg4 : BitVec 32 := Scf.iv c0_i32 c1_i32 k0_t1
  let c2_i32 : BitVec 32 := 2#32
  let v426 : BitVec 32 := Scalar.remsi arg4 c2_i32
  let v518 : Index := Scalar.indexCast v426
  let c1_480 : Index := 1#32
  let c0_481 : Index := 0#32
  let c0_482 : Index := 0#32
  ![0, v518.toNat, 1, 0, 0]
def k0_off3 (k0_t1 : Fin k0_t1_loop.trips) : Fin 5 → Nat :=
  let c0_486 : Index := 0#32
  let c0_i32 : BitVec 32 := 0#32
  let c1_i32 : BitVec 32 := 1#32
  let arg4 : BitVec 32 := Scf.iv c0_i32 c1_i32 k0_t1
  let c2_i32 : BitVec 32 := 2#32
  let v426 : BitVec 32 := Scalar.remsi arg4 c2_i32
  let v531 : Index := Scalar.indexCast v426
  let c2_487 : Index := 2#32
  let c0_488 : Index := 0#32
  let c0_489 : Index := 0#32
  ![0, v531.toNat, 2, 0, 0]
def k0_off4 (k0_t1 : Fin k0_t1_loop.trips) : Fin 5 → Nat :=
  let c0_493 : Index := 0#32
  let c0_i32 : BitVec 32 := 0#32
  let c1_i32 : BitVec 32 := 1#32
  let arg4 : BitVec 32 := Scf.iv c0_i32 c1_i32 k0_t1
  let c2_i32 : BitVec 32 := 2#32
  let v426 : BitVec 32 := Scalar.remsi arg4 c2_i32
  let v544 : Index := Scalar.indexCast v426
  let c3_494 : Index := 3#32
  let c0_495 : Index := 0#32
  let c0_496 : Index := 0#32
  ![0, v544.toNat, 3, 0, 0]
def k0_off5 (k0_t1 : Fin k0_t1_loop.trips) : Fin 5 → Nat :=
  let c0_499 : Index := 0#32
  let c0_i32 : BitVec 32 := 0#32
  let c1_i32 : BitVec 32 := 1#32
  let arg4 : BitVec 32 := Scf.iv c0_i32 c1_i32 k0_t1
  let c2_i32 : BitVec 32 := 2#32
  let v426 : BitVec 32 := Scalar.remsi arg4 c2_i32
  let v557 : Index := Scalar.indexCast v426
  let c4_500 : Index := 4#32
  let c0_501 : Index := 0#32
  let c0_502 : Index := 0#32
  ![0, v557.toNat, 4, 0, 0]
def k0_off6 (k0_t1 : Fin k0_t1_loop.trips) : Fin 5 → Nat :=
  let c0_505 : Index := 0#32
  let c0_i32 : BitVec 32 := 0#32
  let c1_i32 : BitVec 32 := 1#32
  let arg4 : BitVec 32 := Scf.iv c0_i32 c1_i32 k0_t1
  let c2_i32 : BitVec 32 := 2#32
  let v426 : BitVec 32 := Scalar.remsi arg4 c2_i32
  let v570 : Index := Scalar.indexCast v426
  let c5_506 : Index := 5#32
  let c0_507 : Index := 0#32
  let c0_508 : Index := 0#32
  ![0, v570.toNat, 5, 0, 0]
def k0_off7 (k0_t1 : Fin k0_t1_loop.trips) : Fin 5 → Nat :=
  let c0_511 : Index := 0#32
  let c0_i32 : BitVec 32 := 0#32
  let c1_i32 : BitVec 32 := 1#32
  let arg4 : BitVec 32 := Scf.iv c0_i32 c1_i32 k0_t1
  let c2_i32 : BitVec 32 := 2#32
  let v426 : BitVec 32 := Scalar.remsi arg4 c2_i32
  let v583 : Index := Scalar.indexCast v426
  let c6_512 : Index := 6#32
  let c0_513 : Index := 0#32
  let c0_514 : Index := 0#32
  ![0, v583.toNat, 6, 0, 0]
def k0_off8 (k0_t1 : Fin k0_t1_loop.trips) : Fin 5 → Nat :=
  let c0_517 : Index := 0#32
  let c0_i32 : BitVec 32 := 0#32
  let c1_i32 : BitVec 32 := 1#32
  let arg4 : BitVec 32 := Scf.iv c0_i32 c1_i32 k0_t1
  let c2_i32 : BitVec 32 := 2#32
  let v426 : BitVec 32 := Scalar.remsi arg4 c2_i32
  let v596 : Index := Scalar.indexCast v426
  let c7_518 : Index := 7#32
  let c0_519 : Index := 0#32
  let c0_520 : Index := 0#32
  ![0, v596.toNat, 7, 0, 0]
def k0_off9 (k0_t1 : Fin k0_t1_loop.trips) : Fin 5 → Nat :=
  let c1_525 : Index := 1#32
  let c0_i32 : BitVec 32 := 0#32
  let c1_i32 : BitVec 32 := 1#32
  let arg4 : BitVec 32 := Scf.iv c0_i32 c1_i32 k0_t1
  let c2_i32 : BitVec 32 := 2#32
  let v426 : BitVec 32 := Scalar.remsi arg4 c2_i32
  let v613 : Index := Scalar.indexCast v426
  let c0_526 : Index := 0#32
  let c0_527 : Index := 0#32
  let c0_528 : Index := 0#32
  ![1, v613.toNat, 0, 0, 0]
def k0_off10 (k0_t1 : Fin k0_t1_loop.trips) : Fin 5 → Nat :=
  let c1_532 : Index := 1#32
  let c0_i32 : BitVec 32 := 0#32
  let c1_i32 : BitVec 32 := 1#32
  let arg4 : BitVec 32 := Scf.iv c0_i32 c1_i32 k0_t1
  let c2_i32 : BitVec 32 := 2#32
  let v426 : BitVec 32 := Scalar.remsi arg4 c2_i32
  let v626 : Index := Scalar.indexCast v426
  let c1_533 : Index := 1#32
  let c0_534 : Index := 0#32
  let c0_535 : Index := 0#32
  ![1, v626.toNat, 1, 0, 0]
def k0_off11 (k0_t1 : Fin k0_t1_loop.trips) : Fin 5 → Nat :=
  let c1_539 : Index := 1#32
  let c0_i32 : BitVec 32 := 0#32
  let c1_i32 : BitVec 32 := 1#32
  let arg4 : BitVec 32 := Scf.iv c0_i32 c1_i32 k0_t1
  let c2_i32 : BitVec 32 := 2#32
  let v426 : BitVec 32 := Scalar.remsi arg4 c2_i32
  let v639 : Index := Scalar.indexCast v426
  let c2_540 : Index := 2#32
  let c0_541 : Index := 0#32
  let c0_542 : Index := 0#32
  ![1, v639.toNat, 2, 0, 0]
def k0_off12 (k0_t1 : Fin k0_t1_loop.trips) : Fin 5 → Nat :=
  let c1_546 : Index := 1#32
  let c0_i32 : BitVec 32 := 0#32
  let c1_i32 : BitVec 32 := 1#32
  let arg4 : BitVec 32 := Scf.iv c0_i32 c1_i32 k0_t1
  let c2_i32 : BitVec 32 := 2#32
  let v426 : BitVec 32 := Scalar.remsi arg4 c2_i32
  let v652 : Index := Scalar.indexCast v426
  let c3_547 : Index := 3#32
  let c0_548 : Index := 0#32
  let c0_549 : Index := 0#32
  ![1, v652.toNat, 3, 0, 0]
def k0_off13 (k0_t1 : Fin k0_t1_loop.trips) : Fin 5 → Nat :=
  let c1_553 : Index := 1#32
  let c0_i32 : BitVec 32 := 0#32
  let c1_i32 : BitVec 32 := 1#32
  let arg4 : BitVec 32 := Scf.iv c0_i32 c1_i32 k0_t1
  let c2_i32 : BitVec 32 := 2#32
  let v426 : BitVec 32 := Scalar.remsi arg4 c2_i32
  let v665 : Index := Scalar.indexCast v426
  let c4_554 : Index := 4#32
  let c0_555 : Index := 0#32
  let c0_556 : Index := 0#32
  ![1, v665.toNat, 4, 0, 0]
def k0_off14 (k0_t1 : Fin k0_t1_loop.trips) : Fin 5 → Nat :=
  let c1_560 : Index := 1#32
  let c0_i32 : BitVec 32 := 0#32
  let c1_i32 : BitVec 32 := 1#32
  let arg4 : BitVec 32 := Scf.iv c0_i32 c1_i32 k0_t1
  let c2_i32 : BitVec 32 := 2#32
  let v426 : BitVec 32 := Scalar.remsi arg4 c2_i32
  let v678 : Index := Scalar.indexCast v426
  let c5_561 : Index := 5#32
  let c0_562 : Index := 0#32
  let c0_563 : Index := 0#32
  ![1, v678.toNat, 5, 0, 0]
def k0_off15 (k0_t1 : Fin k0_t1_loop.trips) : Fin 5 → Nat :=
  let c1_567 : Index := 1#32
  let c0_i32 : BitVec 32 := 0#32
  let c1_i32 : BitVec 32 := 1#32
  let arg4 : BitVec 32 := Scf.iv c0_i32 c1_i32 k0_t1
  let c2_i32 : BitVec 32 := 2#32
  let v426 : BitVec 32 := Scalar.remsi arg4 c2_i32
  let v691 : Index := Scalar.indexCast v426
  let c6_568 : Index := 6#32
  let c0_569 : Index := 0#32
  let c0_570 : Index := 0#32
  ![1, v691.toNat, 6, 0, 0]
def k0_off16 (k0_t1 : Fin k0_t1_loop.trips) : Fin 5 → Nat :=
  let c1_574 : Index := 1#32
  let c0_i32 : BitVec 32 := 0#32
  let c1_i32 : BitVec 32 := 1#32
  let arg4 : BitVec 32 := Scf.iv c0_i32 c1_i32 k0_t1
  let c2_i32 : BitVec 32 := 2#32
  let v426 : BitVec 32 := Scalar.remsi arg4 c2_i32
  let v704 : Index := Scalar.indexCast v426
  let c7_575 : Index := 7#32
  let c0_576 : Index := 0#32
  let c0_577 : Index := 0#32
  ![1, v704.toNat, 7, 0, 0]
def k0_off17 (k0_t1 : Fin k0_t1_loop.trips) : Fin 5 → Nat :=
  let c2_583 : Index := 2#32
  let c0_i32 : BitVec 32 := 0#32
  let c1_i32 : BitVec 32 := 1#32
  let arg4 : BitVec 32 := Scf.iv c0_i32 c1_i32 k0_t1
  let c2_i32 : BitVec 32 := 2#32
  let v426 : BitVec 32 := Scalar.remsi arg4 c2_i32
  let v721 : Index := Scalar.indexCast v426
  let c0_584 : Index := 0#32
  let c0_585 : Index := 0#32
  let c0_586 : Index := 0#32
  ![2, v721.toNat, 0, 0, 0]
def k0_off18 (k0_t1 : Fin k0_t1_loop.trips) : Fin 5 → Nat :=
  let c2_590 : Index := 2#32
  let c0_i32 : BitVec 32 := 0#32
  let c1_i32 : BitVec 32 := 1#32
  let arg4 : BitVec 32 := Scf.iv c0_i32 c1_i32 k0_t1
  let c2_i32 : BitVec 32 := 2#32
  let v426 : BitVec 32 := Scalar.remsi arg4 c2_i32
  let v734 : Index := Scalar.indexCast v426
  let c1_591 : Index := 1#32
  let c0_592 : Index := 0#32
  let c0_593 : Index := 0#32
  ![2, v734.toNat, 1, 0, 0]
def k0_off19 (k0_t1 : Fin k0_t1_loop.trips) : Fin 5 → Nat :=
  let c2_597 : Index := 2#32
  let c0_i32 : BitVec 32 := 0#32
  let c1_i32 : BitVec 32 := 1#32
  let arg4 : BitVec 32 := Scf.iv c0_i32 c1_i32 k0_t1
  let c2_i32 : BitVec 32 := 2#32
  let v426 : BitVec 32 := Scalar.remsi arg4 c2_i32
  let v747 : Index := Scalar.indexCast v426
  let c2_598 : Index := 2#32
  let c0_599 : Index := 0#32
  let c0_600 : Index := 0#32
  ![2, v747.toNat, 2, 0, 0]
def k0_off20 (k0_t1 : Fin k0_t1_loop.trips) : Fin 5 → Nat :=
  let c2_604 : Index := 2#32
  let c0_i32 : BitVec 32 := 0#32
  let c1_i32 : BitVec 32 := 1#32
  let arg4 : BitVec 32 := Scf.iv c0_i32 c1_i32 k0_t1
  let c2_i32 : BitVec 32 := 2#32
  let v426 : BitVec 32 := Scalar.remsi arg4 c2_i32
  let v760 : Index := Scalar.indexCast v426
  let c3_605 : Index := 3#32
  let c0_606 : Index := 0#32
  let c0_607 : Index := 0#32
  ![2, v760.toNat, 3, 0, 0]
def k0_off21 (k0_t1 : Fin k0_t1_loop.trips) : Fin 5 → Nat :=
  let c2_611 : Index := 2#32
  let c0_i32 : BitVec 32 := 0#32
  let c1_i32 : BitVec 32 := 1#32
  let arg4 : BitVec 32 := Scf.iv c0_i32 c1_i32 k0_t1
  let c2_i32 : BitVec 32 := 2#32
  let v426 : BitVec 32 := Scalar.remsi arg4 c2_i32
  let v773 : Index := Scalar.indexCast v426
  let c4_612 : Index := 4#32
  let c0_613 : Index := 0#32
  let c0_614 : Index := 0#32
  ![2, v773.toNat, 4, 0, 0]
def k0_off22 (k0_t1 : Fin k0_t1_loop.trips) : Fin 5 → Nat :=
  let c2_618 : Index := 2#32
  let c0_i32 : BitVec 32 := 0#32
  let c1_i32 : BitVec 32 := 1#32
  let arg4 : BitVec 32 := Scf.iv c0_i32 c1_i32 k0_t1
  let c2_i32 : BitVec 32 := 2#32
  let v426 : BitVec 32 := Scalar.remsi arg4 c2_i32
  let v786 : Index := Scalar.indexCast v426
  let c5_619 : Index := 5#32
  let c0_620 : Index := 0#32
  let c0_621 : Index := 0#32
  ![2, v786.toNat, 5, 0, 0]
def k0_off23 (k0_t1 : Fin k0_t1_loop.trips) : Fin 5 → Nat :=
  let c2_625 : Index := 2#32
  let c0_i32 : BitVec 32 := 0#32
  let c1_i32 : BitVec 32 := 1#32
  let arg4 : BitVec 32 := Scf.iv c0_i32 c1_i32 k0_t1
  let c2_i32 : BitVec 32 := 2#32
  let v426 : BitVec 32 := Scalar.remsi arg4 c2_i32
  let v799 : Index := Scalar.indexCast v426
  let c6_626 : Index := 6#32
  let c0_627 : Index := 0#32
  let c0_628 : Index := 0#32
  ![2, v799.toNat, 6, 0, 0]
def k0_off24 (k0_t1 : Fin k0_t1_loop.trips) : Fin 5 → Nat :=
  let c2_632 : Index := 2#32
  let c0_i32 : BitVec 32 := 0#32
  let c1_i32 : BitVec 32 := 1#32
  let arg4 : BitVec 32 := Scf.iv c0_i32 c1_i32 k0_t1
  let c2_i32 : BitVec 32 := 2#32
  let v426 : BitVec 32 := Scalar.remsi arg4 c2_i32
  let v812 : Index := Scalar.indexCast v426
  let c7_633 : Index := 7#32
  let c0_634 : Index := 0#32
  let c0_635 : Index := 0#32
  ![2, v812.toNat, 7, 0, 0]
def k0_off25 (k0_t1 : Fin k0_t1_loop.trips) : Fin 5 → Nat :=
  let c3_641 : Index := 3#32
  let c0_i32 : BitVec 32 := 0#32
  let c1_i32 : BitVec 32 := 1#32
  let arg4 : BitVec 32 := Scf.iv c0_i32 c1_i32 k0_t1
  let c2_i32 : BitVec 32 := 2#32
  let v426 : BitVec 32 := Scalar.remsi arg4 c2_i32
  let v829 : Index := Scalar.indexCast v426
  let c0_642 : Index := 0#32
  let c0_643 : Index := 0#32
  let c0_644 : Index := 0#32
  ![3, v829.toNat, 0, 0, 0]
def k0_off26 (k0_t1 : Fin k0_t1_loop.trips) : Fin 5 → Nat :=
  let c3_648 : Index := 3#32
  let c0_i32 : BitVec 32 := 0#32
  let c1_i32 : BitVec 32 := 1#32
  let arg4 : BitVec 32 := Scf.iv c0_i32 c1_i32 k0_t1
  let c2_i32 : BitVec 32 := 2#32
  let v426 : BitVec 32 := Scalar.remsi arg4 c2_i32
  let v842 : Index := Scalar.indexCast v426
  let c1_649 : Index := 1#32
  let c0_650 : Index := 0#32
  let c0_651 : Index := 0#32
  ![3, v842.toNat, 1, 0, 0]
def k0_off27 (k0_t1 : Fin k0_t1_loop.trips) : Fin 5 → Nat :=
  let c3_655 : Index := 3#32
  let c0_i32 : BitVec 32 := 0#32
  let c1_i32 : BitVec 32 := 1#32
  let arg4 : BitVec 32 := Scf.iv c0_i32 c1_i32 k0_t1
  let c2_i32 : BitVec 32 := 2#32
  let v426 : BitVec 32 := Scalar.remsi arg4 c2_i32
  let v855 : Index := Scalar.indexCast v426
  let c2_656 : Index := 2#32
  let c0_657 : Index := 0#32
  let c0_658 : Index := 0#32
  ![3, v855.toNat, 2, 0, 0]
def k0_off28 (k0_t1 : Fin k0_t1_loop.trips) : Fin 5 → Nat :=
  let c3_662 : Index := 3#32
  let c0_i32 : BitVec 32 := 0#32
  let c1_i32 : BitVec 32 := 1#32
  let arg4 : BitVec 32 := Scf.iv c0_i32 c1_i32 k0_t1
  let c2_i32 : BitVec 32 := 2#32
  let v426 : BitVec 32 := Scalar.remsi arg4 c2_i32
  let v868 : Index := Scalar.indexCast v426
  let c3_663 : Index := 3#32
  let c0_664 : Index := 0#32
  let c0_665 : Index := 0#32
  ![3, v868.toNat, 3, 0, 0]
def k0_off29 (k0_t1 : Fin k0_t1_loop.trips) : Fin 5 → Nat :=
  let c3_669 : Index := 3#32
  let c0_i32 : BitVec 32 := 0#32
  let c1_i32 : BitVec 32 := 1#32
  let arg4 : BitVec 32 := Scf.iv c0_i32 c1_i32 k0_t1
  let c2_i32 : BitVec 32 := 2#32
  let v426 : BitVec 32 := Scalar.remsi arg4 c2_i32
  let v881 : Index := Scalar.indexCast v426
  let c4_670 : Index := 4#32
  let c0_671 : Index := 0#32
  let c0_672 : Index := 0#32
  ![3, v881.toNat, 4, 0, 0]
def k0_off30 (k0_t1 : Fin k0_t1_loop.trips) : Fin 5 → Nat :=
  let c3_676 : Index := 3#32
  let c0_i32 : BitVec 32 := 0#32
  let c1_i32 : BitVec 32 := 1#32
  let arg4 : BitVec 32 := Scf.iv c0_i32 c1_i32 k0_t1
  let c2_i32 : BitVec 32 := 2#32
  let v426 : BitVec 32 := Scalar.remsi arg4 c2_i32
  let v894 : Index := Scalar.indexCast v426
  let c5_677 : Index := 5#32
  let c0_678 : Index := 0#32
  let c0_679 : Index := 0#32
  ![3, v894.toNat, 5, 0, 0]
def k0_off31 (k0_t1 : Fin k0_t1_loop.trips) : Fin 5 → Nat :=
  let c3_683 : Index := 3#32
  let c0_i32 : BitVec 32 := 0#32
  let c1_i32 : BitVec 32 := 1#32
  let arg4 : BitVec 32 := Scf.iv c0_i32 c1_i32 k0_t1
  let c2_i32 : BitVec 32 := 2#32
  let v426 : BitVec 32 := Scalar.remsi arg4 c2_i32
  let v907 : Index := Scalar.indexCast v426
  let c6_684 : Index := 6#32
  let c0_685 : Index := 0#32
  let c0_686 : Index := 0#32
  ![3, v907.toNat, 6, 0, 0]
def k0_off32 (k0_t1 : Fin k0_t1_loop.trips) : Fin 5 → Nat :=
  let c3_690 : Index := 3#32
  let c0_i32 : BitVec 32 := 0#32
  let c1_i32 : BitVec 32 := 1#32
  let arg4 : BitVec 32 := Scf.iv c0_i32 c1_i32 k0_t1
  let c2_i32 : BitVec 32 := 2#32
  let v426 : BitVec 32 := Scalar.remsi arg4 c2_i32
  let v920 : Index := Scalar.indexCast v426
  let c7_691 : Index := 7#32
  let c0_692 : Index := 0#32
  let c0_693 : Index := 0#32
  ![3, v920.toNat, 7, 0, 0]
def k0_off33 (k0_t1 : Fin k0_t1_loop.trips) : Fin 3 → Nat :=
  let c0_834 : Index := 0#32
  let c0_i32 : BitVec 32 := 0#32
  let c1_i32 : BitVec 32 := 1#32
  let arg4 : BitVec 32 := Scf.iv c0_i32 c1_i32 k0_t1
  let v1202 : Index := Scalar.indexCast arg4
  let c0_835 : Index := 0#32
  ![0, v1202.toNat, 0]
def k0_off34 (k0_t1 : Fin k0_t1_loop.trips) : Fin 3 → Nat :=
  let c1_836 : Index := 1#32
  let c0_i32 : BitVec 32 := 0#32
  let c1_i32 : BitVec 32 := 1#32
  let arg4 : BitVec 32 := Scf.iv c0_i32 c1_i32 k0_t1
  let v1206 : Index := Scalar.indexCast arg4
  let c0_837 : Index := 0#32
  ![1, v1206.toNat, 0]
def k0_off35 (k0_t1 : Fin k0_t1_loop.trips) : Fin 3 → Nat :=
  let c2_838 : Index := 2#32
  let c0_i32 : BitVec 32 := 0#32
  let c1_i32 : BitVec 32 := 1#32
  let arg4 : BitVec 32 := Scf.iv c0_i32 c1_i32 k0_t1
  let v1210 : Index := Scalar.indexCast arg4
  let c0_839 : Index := 0#32
  ![2, v1210.toNat, 0]
def k0_off36 (k0_t1 : Fin k0_t1_loop.trips) : Fin 3 → Nat :=
  let c3_840 : Index := 3#32
  let c0_i32 : BitVec 32 := 0#32
  let c1_i32 : BitVec 32 := 1#32
  let arg4 : BitVec 32 := Scf.iv c0_i32 c1_i32 k0_t1
  let v1214 : Index := Scalar.indexCast arg4
  let c0_841 : Index := 0#32
  ![3, v1214.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 1 → Memref sig .tc .vmem S4x85x40x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true]

abbrev stage0_1 : Fin 1 → Memref sig .tc .vmem S4x100x8 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true]
-- ==== ReferenceIdeal.lean ====
abbrev S4x5000x85 : Shape := ⟨3, ![4, 5000, 85]⟩
abbrev S4x5000x1 : Shape := ⟨3, ![4, 5000, 1]⟩
abbrev S4x5000 : Shape := ⟨2, ![4, 5000]⟩
abbrev S_ : Shape := ⟨0, ![]⟩
abbrev S4x5000x80 : Shape := ⟨3, ![4, 5000, 80]⟩
abbrev S4 : Shape := ⟨1, ![4]⟩
abbrev S4x1 : Shape := ⟨2, ![4, 1]⟩
abbrev S4x5000x7 : Shape := ⟨3, ![4, 5000, 7]⟩
abbrev S5000 : Shape := ⟨1, ![5000]⟩
abbrev S1x5000 : Shape := ⟨2, ![1, 5000]⟩
abbrev S100x4x7 : Shape := ⟨3, ![100, 4, 7]⟩
abbrev S4x2 : Shape := ⟨2, ![4, 2]⟩
abbrev S4x7 : Shape := ⟨2, ![4, 7]⟩
abbrev S1x4x7 : Shape := ⟨3, ![1, 4, 7]⟩
abbrev S4x100x7 : Shape := ⟨3, ![4, 100, 7]⟩

abbrev nBuf : Space → Nat
  | .hbm => 159
  | .vmem => 0
  | .smem => 0
  | _ => 0

abbrev hbmTy0_0 (i : Nat) : BufTy := match i % 128 with
  | 0 => ⟨S4x5000x85, .f32⟩
  | 1 => ⟨S4x5000x1, .f32⟩
  | 2 => ⟨S4x5000, .f32⟩
  | 3 => ⟨S4x5000x1, .f32⟩
  | 4 => ⟨S4x5000, .f32⟩
  | 5 => ⟨S4x5000x1, .f32⟩
  | 6 => ⟨S4x5000, .f32⟩
  | 7 => ⟨S4x5000x1, .f32⟩
  | 8 => ⟨S4x5000, .f32⟩
  | 9 => ⟨S_, .f32⟩
  | 10 => ⟨S4x5000, .f32⟩
  | 11 => ⟨S4x5000, .f32⟩
  | 12 => ⟨S4x5000, .f32⟩
  | 13 => ⟨S_, .f32⟩
  | 14 => ⟨S4x5000, .f32⟩
  | 15 => ⟨S4x5000, .f32⟩
  | 16 => ⟨S4x5000, .f32⟩
  | 17 => ⟨S_, .f32⟩
  | 18 => ⟨S4x5000, .f32⟩
  | 19 => ⟨S4x5000, .f32⟩
  | 20 => ⟨S4x5000, .f32⟩
  | 21 => ⟨S_, .f32⟩
  | 22 => ⟨S4x5000, .f32⟩
  | 23 => ⟨S4x5000, .f32⟩
  | 24 => ⟨S4x5000, .f32⟩
  | 25 => ⟨S4x5000x1, .f32⟩
  | 26 => ⟨S4x5000, .f32⟩
  | 27 => ⟨S4x5000x80, .f32⟩
  | 28 => ⟨S_, .f32⟩
  | 29 => ⟨S4x5000, .f32⟩
  | 30 => ⟨S4x5000x80, .i32⟩
  | 31 => ⟨S_, .f32⟩
  | 32 => ⟨S_, .i32⟩
  | 33 => ⟨S4x5000, .f32⟩
  | 34 => ⟨S4x5000, .i32⟩
  | 35 => ⟨S4x5000, .f32⟩
  | 36 => ⟨S_, .f32⟩
  | 37 => ⟨S4, .f32⟩
  | 38 => ⟨S4x1, .f32⟩
  | 39 => ⟨S_, .f32⟩
  | 40 => ⟨S4x1, .f32⟩
  | 41 => ⟨S4x1, .f32⟩
  | 42 => ⟨S4x5000, .f32⟩
  | 43 => ⟨S4x5000, .i1⟩
  | 44 => ⟨S_, .f32⟩
  | 45 => ⟨S_, .f32⟩
  | 46 => ⟨S4x5000, .f32⟩
  | 47 => ⟨S4x5000, .f32⟩
  | 48 => ⟨S4x5000, .f32⟩
  | 49 => ⟨S4x5000x1, .f32⟩
  | 50 => ⟨S4x5000x1, .f32⟩
  | 51 => ⟨S4x5000x1, .f32⟩
  | 52 => ⟨S4x5000x1, .f32⟩
  | 53 => ⟨S4x5000x1, .f32⟩
  | 54 => ⟨S4x5000x1, .f32⟩
  | 55 => ⟨S4x5000x1, .f32⟩
  | 56 => ⟨S4x5000x7, .f32⟩
  | 57 => ⟨S4, .i32⟩
  | 58 => ⟨S5000, .i32⟩
  | 59 => ⟨S1x5000, .i32⟩
  | 60 => ⟨S_, .f32⟩
  | 61 => ⟨S100x4x7, .f32⟩
  | 62 => ⟨S_, .i32⟩
  | 63 => ⟨S4, .i32⟩
  | 64 => ⟨S4x5000x7, .f32⟩
  | 65 => ⟨S4x5000, .f32⟩
  | 66 => ⟨S4x5000, .f32⟩
  | 67 => ⟨S4x5000, .f32⟩
  | 68 => ⟨S4x5000, .f32⟩
  | 69 => ⟨S4x5000, .i32⟩
  | 70 => ⟨S1x5000, .i32⟩
  | 71 => ⟨S_, .i32⟩
  | 72 => ⟨S4x5000, .f32⟩
  | 73 => ⟨S100x4x7, .f32⟩
  | 74 => ⟨S_, .i32⟩
  | 75 => ⟨S_, .i1⟩
  | 76 => ⟨S4x5000, .i32⟩
  | 77 => ⟨S_, .f32⟩
  | 78 => ⟨S_, .i32⟩
  | 79 => ⟨S4, .f32⟩
  | 80 => ⟨S4, .i32⟩
  | 81 => ⟨S4x1, .i32⟩
  | 82 => ⟨S4x1, .i32⟩
  | 83 => ⟨S4x2, .i32⟩
  | 84 => ⟨S4, .f32⟩
  | 85 => ⟨S4x1, .f32⟩
  | 86 => ⟨S_, .f32⟩
  | 87 => ⟨S4x1, .f32⟩
  | 88 => ⟨S4x1, .i1⟩
  | 89 => ⟨S4x1, .i32⟩
  | 90 => ⟨S4x1, .i32⟩
  | 91 => ⟨S4x2, .i32⟩
  | 92 => ⟨S4x7, .f32⟩
  | 93 => ⟨S_, .f32⟩
  | 94 => ⟨S_, .f32⟩
  | 95 => ⟨S4x7, .i1⟩
  | 96 => ⟨S4x7, .f32⟩
  | 97 => ⟨S4x7, .f32⟩
  | 98 => ⟨S4x1, .f32⟩
  | 99 => ⟨S4x1, .f32⟩
  | 100 => ⟨S4x1, .f32⟩
  | 101 => ⟨S4x1, .f32⟩
  | 102 => ⟨S4x5000, .f32⟩
  | 103 => ⟨S4x5000, .f32⟩
  | 104 => ⟨S4x5000, .f32⟩
  | 105 => ⟨S4x5000, .f32⟩
  | 106 => ⟨S4x5000, .f32⟩
  | 107 => ⟨S4x5000, .f32⟩
  | 108 => ⟨S4x5000, .f32⟩
  | 109 => ⟨S4x5000, .f32⟩
  | 110 => ⟨S4x5000, .f32⟩
  | 111 => ⟨S_, .f32⟩
  | 112 => ⟨S4x5000, .f32⟩
  | 113 => ⟨S4x5000, .f32⟩
  | 114 => ⟨S4x5000, .f32⟩
  | 115 => ⟨S_, .f32⟩
  | 116 => ⟨S4x5000, .f32⟩
  | 117 => ⟨S4x5000, .f32⟩
  | 118 => ⟨S4x5000, .f32⟩
  | 119 => ⟨S4x1, .f32⟩
  | 120 => ⟨S4x1, .f32⟩
  | 121 => ⟨S4x1, .f32⟩
  | 122 => ⟨S4x5000, .f32⟩
  | 123 => ⟨S4x5000, .f32⟩
  | 124 => ⟨S4x5000, .f32⟩
  | 125 => ⟨S4x5000, .f32⟩
  | 126 => ⟨S4x5000, .f32⟩
  | 127 => ⟨S4x5000, .f32⟩
  | _ => ⟨S4x5000x85, .f32⟩

abbrev hbmTy0_1 (i : Nat) : BufTy := match i % 128 with
  | 0 => ⟨S_, .f32⟩
  | 1 => ⟨S4x5000, .f32⟩
  | 2 => ⟨S4x5000, .f32⟩
  | 3 => ⟨S4x5000, .f32⟩
  | 4 => ⟨S_, .f32⟩
  | 5 => ⟨S4x5000, .f32⟩
  | 6 => ⟨S4x5000, .i1⟩
  | 7 => ⟨S4x1, .i32⟩
  | 8 => ⟨S4x1, .i32⟩
  | 9 => ⟨S4x2, .i32⟩
  | 10 => ⟨S4, .i32⟩
  | 11 => ⟨S4x1, .i32⟩
  | 12 => ⟨S4x5000, .i32⟩
  | 13 => ⟨S4x5000, .i1⟩
  | 14 => ⟨S4x5000, .i1⟩
  | 15 => ⟨S4x1, .i32⟩
  | 16 => ⟨S4x5000, .i32⟩
  | 17 => ⟨S4x5000, .i32⟩
  | 18 => ⟨S4x5000, .i1⟩
  | 19 => ⟨S4x5000, .i1⟩
  | 20 => ⟨S_, .f32⟩
  | 21 => ⟨S_, .f32⟩
  | 22 => ⟨S4x5000, .f32⟩
  | 23 => ⟨S4x5000, .f32⟩
  | 24 => ⟨S1x4x7, .f32⟩
  | 25 => ⟨S_, .i32⟩
  | 26 => ⟨S_, .i32⟩
  | 27 => ⟨S100x4x7, .f32⟩
  | 28 => ⟨S_, .i32⟩
  | 29 => ⟨S_, .i32⟩
  | 30 => ⟨S4x100x7, .f32⟩
  | _ => ⟨S4x5000x85, .f32⟩

abbrev hbmTy (i : Nat) : BufTy := match i / 128 with
  | 0 => hbmTy0_0 i
  | 1 => hbmTy0_1 i
  | _ => ⟨S4x5000x85, .f32⟩

abbrev bufTy : (tb : Table) → Fin (tcTables nBuf tb) → BufTy
  | .hbm, ⟨i, _⟩ => hbmTy i
  | _, _ => ⟨S4x5000x85, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_v0 : Ref sig .tc := ⟨.hbm, 1, rfl⟩
abbrev main_v1 : Ref sig .tc := ⟨.hbm, 2, rfl⟩
abbrev main_v2 : Ref sig .tc := ⟨.hbm, 3, rfl⟩
abbrev main_v3 : Ref sig .tc := ⟨.hbm, 4, rfl⟩
abbrev main_v4 : Ref sig .tc := ⟨.hbm, 5, rfl⟩
abbrev main_v5 : Ref sig .tc := ⟨.hbm, 6, rfl⟩
abbrev main_v6 : Ref sig .tc := ⟨.hbm, 7, rfl⟩
abbrev main_v7 : Ref sig .tc := ⟨.hbm, 8, rfl⟩
abbrev main_cst : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_cst_0 : Ref sig .tc := ⟨.hbm, 13, rfl⟩
abbrev main_v11 : Ref sig .tc := ⟨.hbm, 14, rfl⟩
abbrev main_v12 : Ref sig .tc := ⟨.hbm, 15, rfl⟩
abbrev main_v13 : Ref sig .tc := ⟨.hbm, 16, rfl⟩
abbrev main_cst_1 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_cst_2 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_cst_3 : Ref sig .tc := ⟨.hbm, 28, rfl⟩
abbrev main_v23 : Ref sig .tc := ⟨.hbm, 29, rfl⟩
abbrev main_call0_v0 : Ref sig .tc := ⟨.hbm, 30, rfl⟩
abbrev main_call0_cst : Ref sig .tc := ⟨.hbm, 31, rfl⟩
abbrev main_call0_c : Ref sig .tc := ⟨.hbm, 32, rfl⟩
abbrev main_call0_v1_0 : Ref sig .tc := ⟨.hbm, 33, rfl⟩
abbrev main_v24 : Ref sig .tc := ⟨.hbm, 34, rfl⟩
abbrev main_v25 : Ref sig .tc := ⟨.hbm, 35, rfl⟩
abbrev main_cst_4 : Ref sig .tc := ⟨.hbm, 36, rfl⟩
abbrev main_v26 : Ref sig .tc := ⟨.hbm, 37, rfl⟩
abbrev main_v27 : Ref sig .tc := ⟨.hbm, 38, rfl⟩
abbrev main_cst_5 : Ref sig .tc := ⟨.hbm, 39, rfl⟩
abbrev main_v28 : Ref sig .tc := ⟨.hbm, 40, rfl⟩
abbrev main_v29 : Ref sig .tc := ⟨.hbm, 41, rfl⟩
abbrev main_v30 : Ref sig .tc := ⟨.hbm, 42, rfl⟩
abbrev main_v31 : Ref sig .tc := ⟨.hbm, 43, rfl⟩
abbrev main_cst_6 : Ref sig .tc := ⟨.hbm, 44, rfl⟩
abbrev main_call1_v0 : Ref sig .tc := ⟨.hbm, 45, rfl⟩
abbrev main_call1_v1 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_cst_7 : Ref sig .tc := ⟨.hbm, 60, rfl⟩
abbrev main_v45 : Ref sig .tc := ⟨.hbm, 61, rfl⟩
abbrev main_c : Ref sig .tc := ⟨.hbm, 62, rfl⟩
abbrev main_v46_0 : Ref sig .tc := ⟨.hbm, 63, rfl⟩
abbrev main_v46_1 : Ref sig .tc := ⟨.hbm, 64, rfl⟩
abbrev main_v46_2 : Ref sig .tc := ⟨.hbm, 65, rfl⟩
abbrev main_v46_3 : Ref sig .tc := ⟨.hbm, 66, rfl⟩
abbrev main_v46_4 : Ref sig .tc := ⟨.hbm, 67, rfl⟩
abbrev main_v46_5 : Ref sig .tc := ⟨.hbm, 68, rfl⟩
abbrev main_v46_6 : Ref sig .tc := ⟨.hbm, 69, rfl⟩
abbrev main_v46_7 : Ref sig .tc := ⟨.hbm, 70, rfl⟩
abbrev main_v46_8 : Ref sig .tc := ⟨.hbm, 71, rfl⟩
abbrev main_v46_9 : Ref sig .tc := ⟨.hbm, 72, rfl⟩
abbrev main_v46_10 : Ref sig .tc := ⟨.hbm, 73, rfl⟩
abbrev main_while0c_c_18 : Ref sig .tc := ⟨.hbm, 74, rfl⟩
abbrev main_while0c_v48 : Ref sig .tc := ⟨.hbm, 75, rfl⟩
abbrev main_while0b_call2_v0 : Ref sig .tc := ⟨.hbm, 76, rfl⟩
abbrev main_while0b_call2_cst : Ref sig .tc := ⟨.hbm, 77, rfl⟩
abbrev main_while0b_call2_c : Ref sig .tc := ⟨.hbm, 78, rfl⟩
abbrev main_while0b_call2_v1_0 : Ref sig .tc := ⟨.hbm, 79, rfl⟩
abbrev main_while0b_v48 : Ref sig .tc := ⟨.hbm, 80, rfl⟩
abbrev main_while0b_v49 : Ref sig .tc := ⟨.hbm, 81, rfl⟩
abbrev main_while0b_v50 : Ref sig .tc := ⟨.hbm, 82, rfl⟩
abbrev main_while0b_v51 : Ref sig .tc := ⟨.hbm, 83, rfl⟩
abbrev main_while0b_v52 : Ref sig .tc := ⟨.hbm, 84, rfl⟩
abbrev main_while0b_v53 : Ref sig .tc := ⟨.hbm, 85, rfl⟩
abbrev main_while0b_cst_18 : Ref sig .tc := ⟨.hbm, 86, rfl⟩
abbrev main_while0b_v54 : Ref sig .tc := ⟨.hbm, 87, rfl⟩
abbrev main_while0b_v55 : Ref sig .tc := ⟨.hbm, 88, rfl⟩
abbrev main_while0b_v56 : Ref sig .tc := ⟨.hbm, 89, rfl⟩
abbrev main_while0b_v57 : Ref sig .tc := ⟨.hbm, 90, rfl⟩
abbrev main_while0b_v58 : Ref sig .tc := ⟨.hbm, 91, rfl⟩
abbrev main_while0b_v59 : Ref sig .tc := ⟨.hbm, 92, rfl⟩
abbrev main_while0b_cst_19 : Ref sig .tc := ⟨.hbm, 93, rfl⟩
abbrev main_while0b_call3_v0 : Ref sig .tc := ⟨.hbm, 94, rfl⟩
abbrev main_while0b_call3_v1 : Ref sig .tc := ⟨.hbm, 95, rfl⟩
abbrev main_while0b_call3_v2 : Ref sig .tc := ⟨.hbm, 96, rfl⟩
abbrev main_while0b_v60 : Ref sig .tc := ⟨.hbm, 97, rfl⟩
abbrev main_while0b_v61 : Ref sig .tc := ⟨.hbm, 98, rfl⟩
abbrev main_while0b_v62 : Ref sig .tc := ⟨.hbm, 99, rfl⟩
abbrev main_while0b_v63 : Ref sig .tc := ⟨.hbm, 100, rfl⟩
abbrev main_while0b_v64 : Ref sig .tc := ⟨.hbm, 101, rfl⟩
abbrev main_while0b_v65 : Ref sig .tc := ⟨.hbm, 102, rfl⟩
abbrev main_while0b_v66 : Ref sig .tc := ⟨.hbm, 103, rfl⟩
abbrev main_while0b_v67 : Ref sig .tc := ⟨.hbm, 104, rfl⟩
abbrev main_while0b_v68 : Ref sig .tc := ⟨.hbm, 105, rfl⟩
abbrev main_while0b_v69 : Ref sig .tc := ⟨.hbm, 106, rfl⟩
abbrev main_while0b_v70 : Ref sig .tc := ⟨.hbm, 107, rfl⟩
abbrev main_while0b_v71 : Ref sig .tc := ⟨.hbm, 108, rfl⟩
abbrev main_while0b_v72 : Ref sig .tc := ⟨.hbm, 109, rfl⟩
abbrev main_while0b_v73 : Ref sig .tc := ⟨.hbm, 110, rfl⟩
abbrev main_while0b_cst_20 : Ref sig .tc := ⟨.hbm, 111, rfl⟩
abbrev main_while0b_v74 : Ref sig .tc := ⟨.hbm, 112, rfl⟩
abbrev main_while0b_v75 : Ref sig .tc := ⟨.hbm, 113, rfl⟩
abbrev main_while0b_v76 : Ref sig .tc := ⟨.hbm, 114, rfl⟩
abbrev main_while0b_cst_21 : Ref sig .tc := ⟨.hbm, 115, rfl⟩
abbrev main_while0b_v77 : Ref sig .tc := ⟨.hbm, 116, rfl⟩
abbrev main_while0b_v78 : Ref sig .tc := ⟨.hbm, 117, rfl⟩
abbrev main_while0b_v79 : Ref sig .tc := ⟨.hbm, 118, rfl⟩
abbrev main_while0b_v80 : Ref sig .tc := ⟨.hbm, 119, rfl⟩
abbrev main_while0b_v81 : Ref sig .tc := ⟨.hbm, 120, rfl⟩
abbrev main_while0b_v82 : Ref sig .tc := ⟨.hbm, 121, rfl⟩
abbrev main_while0b_v83 : Ref sig .tc := ⟨.hbm, 122, rfl⟩
abbrev main_while0b_v84 : Ref sig .tc := ⟨.hbm, 123, rfl⟩
abbrev main_while0b_v85 : Ref sig .tc := ⟨.hbm, 124, rfl⟩
abbrev main_while0b_v86 : Ref sig .tc := ⟨.hbm, 125, rfl⟩
abbrev main_while0b_v87 : Ref sig .tc := ⟨.hbm, 126, rfl⟩
abbrev main_while0b_v88 : Ref sig .tc := ⟨.hbm, 127, rfl⟩
abbrev main_while0b_cst_22 : Ref sig .tc := ⟨.hbm, 128, rfl⟩
abbrev main_while0b_v89 : Ref sig .tc := ⟨.hbm, 129, rfl⟩
abbrev main_while0b_v90 : Ref sig .tc := ⟨.hbm, 130, rfl⟩
abbrev main_while0b_v91 : Ref sig .tc := ⟨.hbm, 131, rfl⟩
abbrev main_while0b_cst_23 : Ref sig .tc := ⟨.hbm, 132, rfl⟩
abbrev main_while0b_v92 : Ref sig .tc := ⟨.hbm, 133, rfl⟩
abbrev main_while0b_v93 : Ref sig .tc := ⟨.hbm, 134, rfl⟩
abbrev main_while0b_v94 : Ref sig .tc := ⟨.hbm, 135, rfl⟩
abbrev main_while0b_v95 : Ref sig .tc := ⟨.hbm, 136, rfl⟩
abbrev main_while0b_v96 : Ref sig .tc := ⟨.hbm, 137, rfl⟩
abbrev main_while0b_v97 : Ref sig .tc := ⟨.hbm, 138, rfl⟩
abbrev main_while0b_v98 : Ref sig .tc := ⟨.hbm, 139, rfl⟩
abbrev main_while0b_v99 : Ref sig .tc := ⟨.hbm, 140, rfl⟩
abbrev main_while0b_v100 : Ref sig .tc := ⟨.hbm, 141, rfl⟩
abbrev main_while0b_v101 : Ref sig .tc := ⟨.hbm, 142, rfl⟩
abbrev main_while0b_v102 : Ref sig .tc := ⟨.hbm, 143, rfl⟩
abbrev main_while0b_v103 : Ref sig .tc := ⟨.hbm, 144, rfl⟩
abbrev main_while0b_v104 : Ref sig .tc := ⟨.hbm, 145, rfl⟩
abbrev main_while0b_v105 : Ref sig .tc := ⟨.hbm, 146, rfl⟩
abbrev main_while0b_v106 : Ref sig .tc := ⟨.hbm, 147, rfl⟩
abbrev main_while0b_cst_24 : Ref sig .tc := ⟨.hbm, 148, rfl⟩
abbrev main_while0b_call4_v0 : Ref sig .tc := ⟨.hbm, 149, rfl⟩
abbrev main_while0b_call4_v1 : Ref sig .tc := ⟨.hbm, 150, rfl⟩
abbrev main_while0b_v107 : Ref sig .tc := ⟨.hbm, 151, rfl⟩
abbrev main_while0b_call5_v0 : Ref sig .tc := ⟨.hbm, 152, rfl⟩
abbrev main_while0b_call5_c : Ref sig .tc := ⟨.hbm, 153, rfl⟩
abbrev main_while0b_call5_c_0 : Ref sig .tc := ⟨.hbm, 154, rfl⟩
abbrev main_while0b_v108 : Ref sig .tc := ⟨.hbm, 155, rfl⟩
abbrev main_while0b_c_25 : Ref sig .tc := ⟨.hbm, 156, rfl⟩
abbrev main_while0b_v109 : Ref sig .tc := ⟨.hbm, 157, rfl⟩
abbrev main_v47 : Ref sig .tc := ⟨.hbm, 158, rfl⟩

abbrev nD : Nat := 1
abbrev τ : Topo := Topo.v7x

variable {F : FTy → Type} [FloatOps F]

abbrev main_while0_count : Scf.Loop 32 := ⟨0#32, 100#32, 1#32⟩
-- ==== Proof.RefOps.lean ====
/- The reference program as stretches of host operations: the operations of @main before the loop, the loop body's
   and those after it, each stretch a list, and @main and the body as the chains of these stretches. -/
module

public import proofs.«01_k».proof.Proof.Gen.ReferenceIdeal
public import Idealize.ShloMosaic.Lib.Pipeline.Regions
public import Idealize.ShloMosaic.Lib.StableHlo.RunLoop
public import Idealize.ShloMosaic.Lib.StableHlo.RunRead
public import Idealize.ShloMosaic.Lib.Scf.ExitTest
public import Idealize.ShloMosaic.Lib.Scf.Counter

@[expose] public section

set_option maxRecDepth 1148

noncomputable section

namespace Cert.ReferenceIdeal.Gen

open Idealize.ShloMosaic Idealize.ShloMosaic.TcCoe
open Idealize.SL Idealize.SL.RA Idealize.SL.BI
open scoped Idealize.SL.BI
open Idealize.SL.BI.BIBase Idealize.SL.Sem

variable {F : FTy → Type} [FloatOps F]
/-! ## @main as segments and as a chain of items (Lib/Pipeline/Regions.lean `θ_run_regions_kit`, `Pipeline.chain`) -/

/-- 29 host operations of @main, in order. -/
abbrev hostOps0 : List (HloOp τ sig (Elt F)) :=
  [ StableHlo.unary main_arg0 main_v0 ((extractStridedSlice S4x5000x1 ![0, 0, 0] · slices_S4x5000x85_S4x5000x1_0_0_0) : (⟨S4x5000x85, .f32⟩ : BufTy).Contents (Elt F) → (⟨S4x5000x1, .f32⟩ : BufTy).Contents (Elt F)),
    StableHlo.reshape main_v0 main_v1 (rfl : (.f32 : EltTy) = .f32) shapeCasts_S4x5000x1_S4x5000,
    StableHlo.unary main_arg0 main_v2 ((extractStridedSlice S4x5000x1 ![0, 0, 1] · slices_S4x5000x85_S4x5000x1_0_0_1) : (⟨S4x5000x85, .f32⟩ : BufTy).Contents (Elt F) → (⟨S4x5000x1, .f32⟩ : BufTy).Contents (Elt F)),
    StableHlo.reshape main_v2 main_v3 (rfl : (.f32 : EltTy) = .f32) shapeCasts_S4x5000x1_S4x5000,
    StableHlo.unary main_arg0 main_v4 ((extractStridedSlice S4x5000x1 ![0, 0, 2] · slices_S4x5000x85_S4x5000x1_0_0_2) : (⟨S4x5000x85, .f32⟩ : BufTy).Contents (Elt F) → (⟨S4x5000x1, .f32⟩ : BufTy).Contents (Elt F)),
    StableHlo.reshape main_v4 main_v5 (rfl : (.f32 : EltTy) = .f32) shapeCasts_S4x5000x1_S4x5000,
    StableHlo.unary main_arg0 main_v6 ((extractStridedSlice S4x5000x1 ![0, 0, 3] · slices_S4x5000x85_S4x5000x1_0_0_3) : (⟨S4x5000x85, .f32⟩ : BufTy).Contents (Elt F) → (⟨S4x5000x1, .f32⟩ : BufTy).Contents (Elt F)),
    StableHlo.reshape main_v6 main_v7 (rfl : (.f32 : EltTy) = .f32) shapeCasts_S4x5000x1_S4x5000,
    StableHlo.nullary main_cst (constant S_ .f32 0x40000000#32),
    StableHlo.unary main_cst main_v8 (broadcastInDim S4x5000 ![] bcast_S_S4x5000 : (⟨S_, .f32⟩ : BufTy).Contents (Elt F) → (⟨S4x5000, .f32⟩ : BufTy).Contents (Elt F)),
    StableHlo.binary main_v5 main_v8 main_v9 (Host.divf : (⟨S4x5000, .f32⟩ : BufTy).Contents (Elt F) → (⟨S4x5000, .f32⟩ : BufTy).Contents (Elt F) → (⟨S4x5000, .f32⟩ : BufTy).Contents (Elt F)),
    StableHlo.binary main_v1 main_v9 main_v10 (subf : (⟨S4x5000, .f32⟩ : BufTy).Contents (Elt F) → (⟨S4x5000, .f32⟩ : BufTy).Contents (Elt F) → (⟨S4x5000, .f32⟩ : BufTy).Contents (Elt F)),
    StableHlo.nullary main_cst_0 (constant S_ .f32 0x40000000#32),
    StableHlo.unary main_cst_0 main_v11 (broadcastInDim S4x5000 ![] bcast_S_S4x5000 : (⟨S_, .f32⟩ : BufTy).Contents (Elt F) → (⟨S4x5000, .f32⟩ : BufTy).Contents (Elt F)),
    StableHlo.binary main_v7 main_v11 main_v12 (Host.divf : (⟨S4x5000, .f32⟩ : BufTy).Contents (Elt F) → (⟨S4x5000, .f32⟩ : BufTy).Contents (Elt F) → (⟨S4x5000, .f32⟩ : BufTy).Contents (Elt F)),
    StableHlo.binary main_v3 main_v12 main_v13 (subf : (⟨S4x5000, .f32⟩ : BufTy).Contents (Elt F) → (⟨S4x5000, .f32⟩ : BufTy).Contents (Elt F) → (⟨S4x5000, .f32⟩ : BufTy).Contents (Elt F)),
    StableHlo.nullary main_cst_1 (constant S_ .f32 0x40000000#32),
    StableHlo.unary main_cst_1 main_v14 (broadcastInDim S4x5000 ![] bcast_S_S4x5000 : (⟨S_, .f32⟩ : BufTy).Contents (Elt F) → (⟨S4x5000, .f32⟩ : BufTy).Contents (Elt F)),
    StableHlo.binary main_v5 main_v14 main_v15 (Host.divf : (⟨S4x5000, .f32⟩ : BufTy).Contents (Elt F) → (⟨S4x5000, .f32⟩ : BufTy).Contents (Elt F) → (⟨S4x5000, .f32⟩ : BufTy).Contents (Elt F)),
    StableHlo.binary main_v1 main_v15 main_v16 (addf : (⟨S4x5000, .f32⟩ : BufTy).Contents (Elt F) → (⟨S4x5000, .f32⟩ : BufTy).Contents (Elt F) → (⟨S4x5000, .f32⟩ : BufTy).Contents (Elt F)),
    StableHlo.nullary main_cst_2 (constant S_ .f32 0x40000000#32),
    StableHlo.unary main_cst_2 main_v17 (broadcastInDim S4x5000 ![] bcast_S_S4x5000 : (⟨S_, .f32⟩ : BufTy).Contents (Elt F) → (⟨S4x5000, .f32⟩ : BufTy).Contents (Elt F)),
    StableHlo.binary main_v7 main_v17 main_v18 (Host.divf : (⟨S4x5000, .f32⟩ : BufTy).Contents (Elt F) → (⟨S4x5000, .f32⟩ : BufTy).Contents (Elt F) → (⟨S4x5000, .f32⟩ : BufTy).Contents (Elt F)),
    StableHlo.binary main_v3 main_v18 main_v19 (addf : (⟨S4x5000, .f32⟩ : BufTy).Contents (Elt F) → (⟨S4x5000, .f32⟩ : BufTy).Contents (Elt F) → (⟨S4x5000, .f32⟩ : BufTy).Contents (Elt F)),
    StableHlo.unary main_arg0 main_v20 ((extractStridedSlice S4x5000x1 ![0, 0, 4] · slices_S4x5000x85_S4x5000x1_0_0_4) : (⟨S4x5000x85, .f32⟩ : BufTy).Contents (Elt F) → (⟨S4x5000x1, .f32⟩ : BufTy).Contents (Elt F)),
    StableHlo.reshape main_v20 main_v21 (rfl : (.f32 : EltTy) = .f32) shapeCasts_S4x5000x1_S4x5000,
    StableHlo.unary main_arg0 main_v22 ((extractStridedSlice S4x5000x80 ![0, 0, 5] · slices_S4x5000x85_S4x5000x80_0_0_5) : (⟨S4x5000x85, .f32⟩ : BufTy).Contents (Elt F) → (⟨S4x5000x80, .f32⟩ : BufTy).Contents (Elt F)),
    StableHlo.nullary main_cst_3 (constant S_ .f32 0xFF800000#32),
    StableHlo.binary main_v22 main_cst_3 main_v23 ((fun x v => Host.reduce FloatOps.maximumf x v reducesTo_S4x5000x80_S4x5000_d2 h_S_) : (⟨S4x5000x80, .f32⟩ : BufTy).Contents (Elt F) → (⟨S_, .f32⟩ : BufTy).Contents (Elt F) → (⟨S4x5000, .f32⟩ : BufTy).Contents (Elt F)) ]
/-- Each touches TensorCore references only (`HostSeg.ofOps` over `StableHlo.tcRefs`, or a subset by `sub_ucRefs`). -/
theorem hostOps0_sub : (hostOps0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.nullary_bufs_sub .., StableHlo.binary_bufs_sub ..⟩
/-- 5 host operations of @argmax (main_call0), in order. -/
abbrev hostOps0_1 : List (HloOp τ sig (Elt F)) :=
  [ StableHlo.TRef.nullary (.of main_call0_v0 : StableHlo.TRef sig ⟨S4x5000x80, .i32⟩) (iotaInDim S4x5000x80 32 2),
    StableHlo.TRef.nullary (.of main_call0_cst : StableHlo.TRef sig ⟨S_, .f32⟩) (constant S_ .f32 0xFF800000#32),
    StableHlo.TRef.nullary (.of main_call0_c : StableHlo.TRef sig ⟨S_, .i32⟩) (constantI S_ 32 0#32),
    StableHlo.TRef.quaternary (.of main_v22 : StableHlo.TRef sig ⟨S4x5000x80, .f32⟩) (.of main_call0_v0 : StableHlo.TRef sig ⟨S4x5000x80, .i32⟩) (.of main_call0_cst : StableHlo.TRef sig ⟨S_, .f32⟩) (.of main_call0_c : StableHlo.TRef sig ⟨S_, .i32⟩) (.of main_call0_v1_0 : StableHlo.TRef sig ⟨S4x5000, .f32⟩) (fun x y u v j => (Host.argReduce reducer_argmax_f32_i32 x y u v reducesTo_S4x5000x80_S4x5000_d2 h_S_ j).1),
    StableHlo.TRef.quaternary (.of main_v22 : StableHlo.TRef sig ⟨S4x5000x80, .f32⟩) (.of main_call0_v0 : StableHlo.TRef sig ⟨S4x5000x80, .i32⟩) (.of main_call0_cst : StableHlo.TRef sig ⟨S_, .f32⟩) (.of main_call0_c : StableHlo.TRef sig ⟨S_, .i32⟩) (.of main_v24 : StableHlo.TRef sig ⟨S4x5000, .i32⟩) (fun x y u v j => (Host.argReduce reducer_argmax_f32_i32 x y u v reducesTo_S4x5000x80_S4x5000_d2 h_S_ j).2) ]
/-- Each touches TensorCore references only (`HostSeg.ofOps` over `StableHlo.tcRefs`, or a subset by `sub_ucRefs`). -/
theorem hostOps0_1_sub : (hostOps0_1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 10 host operations of @main, in order. -/
abbrev hostOps0_2 : List (HloOp τ sig (Elt F)) :=
  [ StableHlo.binary main_v21 main_v23 main_v25 (mulf : (⟨S4x5000, .f32⟩ : BufTy).Contents (Elt F) → (⟨S4x5000, .f32⟩ : BufTy).Contents (Elt F) → (⟨S4x5000, .f32⟩ : BufTy).Contents (Elt F)),
    StableHlo.nullary main_cst_4 (constant S_ .f32 0xFF800000#32),
    StableHlo.binary main_v25 main_cst_4 main_v26 ((fun x v => Host.reduce FloatOps.maximumf x v reducesTo_S4x5000_S4_d1 h_S_) : (⟨S4x5000, .f32⟩ : BufTy).Contents (Elt F) → (⟨S_, .f32⟩ : BufTy).Contents (Elt F) → (⟨S4, .f32⟩ : BufTy).Contents (Elt F)),
    StableHlo.unary main_v26 main_v27 (broadcastInDim S4x1 ![0] bcast_S4_S4x1_0 : (⟨S4, .f32⟩ : BufTy).Contents (Elt F) → (⟨S4x1, .f32⟩ : BufTy).Contents (Elt F)),
    StableHlo.nullary main_cst_5 (constant S_ .f32 0x3E800000#32),
    StableHlo.unary main_cst_5 main_v28 (broadcastInDim S4x1 ![] bcast_S_S4x1 : (⟨S_, .f32⟩ : BufTy).Contents (Elt F) → (⟨S4x1, .f32⟩ : BufTy).Contents (Elt F)),
    StableHlo.binary main_v28 main_v27 main_v29 (minimumf : (⟨S4x1, .f32⟩ : BufTy).Contents (Elt F) → (⟨S4x1, .f32⟩ : BufTy).Contents (Elt F) → (⟨S4x1, .f32⟩ : BufTy).Contents (Elt F)),
    StableHlo.unary main_v29 main_v30 (broadcastInDim S4x5000 ![0, 1] bcast_S4x1_S4x5000_0_1 : (⟨S4x1, .f32⟩ : BufTy).Contents (Elt F) → (⟨S4x5000, .f32⟩ : BufTy).Contents (Elt F)),
    StableHlo.binary main_v25 main_v30 main_v31 (cmpf .oge : (⟨S4x5000, .f32⟩ : BufTy).Contents (Elt F) → (⟨S4x5000, .f32⟩ : BufTy).Contents (Elt F) → (⟨S4x5000, .i1⟩ : BufTy).Contents (Elt F)),
    StableHlo.nullary main_cst_6 (constant S_ .f32 0xFF800000#32) ]
/-- Each touches TensorCore references only (`HostSeg.ofOps` over `StableHlo.tcRefs`, or a subset by `sub_ucRefs`). -/
theorem hostOps0_2_sub : (hostOps0_2 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub ..⟩
/-- 3 host operations of @_where (main_call1), in order. -/
abbrev hostOps0_3 : List (HloOp τ sig (Elt F)) :=
  [ StableHlo.TRef.unary (.of main_cst_6 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S4x5000, .f32⟩) (broadcastInDim S4x5000 ![] bcast_S_S4x5000),
    StableHlo.TRef.ternary (.of main_v31 : StableHlo.TRef sig ⟨S4x5000, .i1⟩) (.of main_v25 : StableHlo.TRef sig ⟨S4x5000, .f32⟩) (.of main_call1_v1 : StableHlo.TRef sig ⟨S4x5000, .f32⟩) (.of main_v32 : StableHlo.TRef sig ⟨S4x5000, .f32⟩) select ]
/-- Each touches TensorCore references only (`HostSeg.ofOps` over `StableHlo.tcRefs`, or a subset by `sub_ucRefs`). -/
theorem hostOps0_3_sub : (hostOps0_3 : List (HloOp τ sig (Elt F))).Forall fun op => op.bufs ⊆ StableHlo.tcRefs τ sig :=
  ⟨StableHlo.unary_bufs_sub .., StableHlo.unary_bufs_sub .., StableHlo.ternary_bufs_sub ..⟩
/-- 26 host operations of @main, in order. -/
abbrev hostOps0_4 : List (HloOp τ sig (Elt F)) :=
  [ StableHlo.unary main_v24 main_v33 (sitofp .f32 : (⟨S4x5000, .i32⟩ : BufTy).Contents (Elt F) → (⟨S4x5000, .f32⟩ : BufTy).Contents (Elt F)),
    StableHlo.unary main_v10 main_v34 (broadcastInDim S4x5000x1 ![0, 1] bcast_S4x5000_S4x5000x1_0_1 : (⟨S4x5000, .f32⟩ : BufTy).Contents (Elt F) → (⟨S4x5000x1, .f32⟩ : BufTy).Contents (Elt F)),
    StableHlo.unary main_v13 main_v35 (broadcastInDim S4x5000x1 ![0, 1] bcast_S4x5000_S4x5000x1_0_1 : (⟨S4x5000, .f32⟩ : BufTy).Contents (Elt F) → (⟨S4x5000x1, .f32⟩ : BufTy).Contents (Elt F)),
    StableHlo.unary main_v16 main_v36 (broadcastInDim S4x5000x1 ![0, 1] bcast_S4x5000_S4x5000x1_0_1 : (⟨S4x5000, .f32⟩ : BufTy).Contents (Elt F) → (⟨S4x5000x1, .f32⟩ : BufTy).Contents (Elt F)),
    StableHlo.unary main_v19 main_v37 (broadcastInDim S4x5000x1 ![0, 1] bcast_S4x5000_S4x5000x1_0_1 : (⟨S4x5000, .f32⟩ : BufTy).Contents (Elt F) → (⟨S4x5000x1, .f32⟩ : BufTy).Contents (Elt F)),
    StableHlo.unary main_v21 main_v38 (broadcastInDim S4x5000x1 ![0, 1] bcast_S4x5000_S4x5000x1_0_1 : (⟨S4x5000, .f32⟩ : BufTy).Contents (Elt F) → (⟨S4x5000x1, .f32⟩ : BufTy).Contents (Elt F)),
    StableHlo.unary main_v23 main_v39 (broadcastInDim S4x5000x1 ![0, 1] bcast_S4x5000_S4x5000x1_0_1 : (⟨S4x5000, .f32⟩ : BufTy).Contents (Elt F) → (⟨S4x5000x1, .f32⟩ : BufTy).Contents (Elt F)),
    StableHlo.unary main_v33 main_v40 (broadcastInDim S4x5000x1 ![0, 1] bcast_S4x5000_S4x5000x1_0_1 : (⟨S4x5000, .f32⟩ : BufTy).Contents (Elt F) → (⟨S4x5000x1, .f32⟩ : BufTy).Contents (Elt F)),
    StableHlo.nary ![main_v34, main_v35, main_v36, main_v37, main_v38, main_v39, main_v40] main_v41 (fun u => (concatenate S4x5000x7 2 [⟨S4x5000x1, (u 0 : (⟨S4x5000x1, .f32⟩ : BufTy).Contents (Elt F))⟩, ⟨S4x5000x1, (u 1 : (⟨S4x5000x1, .f32⟩ : BufTy).Contents (Elt F))⟩, ⟨S4x5000x1, (u 2 : (⟨S4x5000x1, .f32⟩ : BufTy).Contents (Elt F))⟩, ⟨S4x5000x1, (u 3 : (⟨S4x5000x1, .f32⟩ : BufTy).Contents (Elt F))⟩, ⟨S4x5000x1, (u 4 : (⟨S4x5000x1, .f32⟩ : BufTy).Contents (Elt F))⟩, ⟨S4x5000x1, (u 5 : (⟨S4x5000x1, .f32⟩ : BufTy).Contents (Elt F))⟩, ⟨S4x5000x1, (u 6 : (⟨S4x5000x1, .f32⟩ : BufTy).Contents (Elt F))⟩] concatenates_S4x5000x1_S4x5000x1_S4x5000x1_S4x5000x1_S4x5000x1_S4x5000x1_S4x5000x1_S4x5000x7_d2 : (⟨S4x5000x7, .f32⟩ : BufTy).Contents (Elt F))),
    StableHlo.nullary main_v42 (iotaInDim S4 32 0),
    StableHlo.nullary main_v43 (iotaInDim S5000 32 0),
    StableHlo.unary main_v43 main_v44 (broadcastInDim S1x5000 ![1] bcast_S5000_S1x5000_1 : (⟨S5000, .i32⟩ : BufTy).Contents (Elt F) → (⟨S1x5000, .i32⟩ : BufTy).Contents (Elt F)),
    StableHlo.nullary main_cst_7 (constant S_ .f32 0x00000000#32),
    StableHlo.unary main_cst_7 main_v45 (broadcastInDim S100x4x7 ![] bcast_S_S100x4x7 : (⟨S_, .f32⟩ : BufTy).Contents (Elt F) → (⟨S100x4x7, .f32⟩ : BufTy).Contents (Elt F)),
    StableHlo.nullary main_c (constantI S_ 32 0#32),
    StableHlo.unary main_v42 main_v46_0 id,
    StableHlo.unary main_v41 main_v46_1 id,
    StableHlo.unary main_v10 main_v46_2 id,
    StableHlo.unary main_v13 main_v46_3 id,
    StableHlo.unary main_v16 main_v46_4 id,
    StableHlo.unary main_v19 main_v46_5 id,
    StableHlo.unary main_v24 main_v46_6 id,
    StableHlo.unary main_v44 main_v46_7 id,
    StableHlo.unary main_c main_v46_8 id,
    StableHlo.unary main_v32 main_v46_9 id,
    StableHlo.unary main_v45 main_v46_10 id ]
/-- Each touches TensorCore references only (`HostSeg.ofOps` over `StableHlo.tcRefs`, or a subset by `sub_ucRefs`). -/
theorem hostOps0_4_sub : (hostOps0_4 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.nullary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 1 host operation of @main, in order. -/
abbrev hostOps0_5 : List (HloOp τ sig (Elt F)) :=
  [ StableHlo.unary main_v46_10 main_v47 ((transpose S4x100x7 [1, 0, 2] · transposes_S100x4x7_S4x100x7_1_0_2) : (⟨S100x4x7, .f32⟩ : BufTy).Contents (Elt F) → (⟨S4x100x7, .f32⟩ : BufTy).Contents (Elt F)) ]
/-- Each touches TensorCore references only (`HostSeg.ofOps` over `StableHlo.tcRefs`, or a subset by `sub_ucRefs`). -/
theorem hostOps0_5_sub : (hostOps0_5 : List (HloOp τ sig (Elt F))).Forall fun op => op.bufs ⊆ StableHlo.tcRefs τ sig :=
  StableHlo.unary_bufs_sub ..
/-- 29 host operations of @main, window 0 (statements 1 … 60), in order. -/
abbrev main_part0_ops0 : List (HloOp τ sig (Elt F)) :=
  [ StableHlo.unary main_arg0 main_v0 ((extractStridedSlice S4x5000x1 ![0, 0, 0] · slices_S4x5000x85_S4x5000x1_0_0_0) : (⟨S4x5000x85, .f32⟩ : BufTy).Contents (Elt F) → (⟨S4x5000x1, .f32⟩ : BufTy).Contents (Elt F)),
    StableHlo.reshape main_v0 main_v1 (rfl : (.f32 : EltTy) = .f32) shapeCasts_S4x5000x1_S4x5000,
    StableHlo.unary main_arg0 main_v2 ((extractStridedSlice S4x5000x1 ![0, 0, 1] · slices_S4x5000x85_S4x5000x1_0_0_1) : (⟨S4x5000x85, .f32⟩ : BufTy).Contents (Elt F) → (⟨S4x5000x1, .f32⟩ : BufTy).Contents (Elt F)),
    StableHlo.reshape main_v2 main_v3 (rfl : (.f32 : EltTy) = .f32) shapeCasts_S4x5000x1_S4x5000,
    StableHlo.unary main_arg0 main_v4 ((extractStridedSlice S4x5000x1 ![0, 0, 2] · slices_S4x5000x85_S4x5000x1_0_0_2) : (⟨S4x5000x85, .f32⟩ : BufTy).Contents (Elt F) → (⟨S4x5000x1, .f32⟩ : BufTy).Contents (Elt F)),
    StableHlo.reshape main_v4 main_v5 (rfl : (.f32 : EltTy) = .f32) shapeCasts_S4x5000x1_S4x5000,
    StableHlo.unary main_arg0 main_v6 ((extractStridedSlice S4x5000x1 ![0, 0, 3] · slices_S4x5000x85_S4x5000x1_0_0_3) : (⟨S4x5000x85, .f32⟩ : BufTy).Contents (Elt F) → (⟨S4x5000x1, .f32⟩ : BufTy).Contents (Elt F)),
    StableHlo.reshape main_v6 main_v7 (rfl : (.f32 : EltTy) = .f32) shapeCasts_S4x5000x1_S4x5000,
    StableHlo.nullary main_cst (constant S_ .f32 0x40000000#32),
    StableHlo.unary main_cst main_v8 (broadcastInDim S4x5000 ![] bcast_S_S4x5000 : (⟨S_, .f32⟩ : BufTy).Contents (Elt F) → (⟨S4x5000, .f32⟩ : BufTy).Contents (Elt F)),
    StableHlo.binary main_v5 main_v8 main_v9 (Host.divf : (⟨S4x5000, .f32⟩ : BufTy).Contents (Elt F) → (⟨S4x5000, .f32⟩ : BufTy).Contents (Elt F) → (⟨S4x5000, .f32⟩ : BufTy).Contents (Elt F)),
    StableHlo.binary main_v1 main_v9 main_v10 (subf : (⟨S4x5000, .f32⟩ : BufTy).Contents (Elt F) → (⟨S4x5000, .f32⟩ : BufTy).Contents (Elt F) → (⟨S4x5000, .f32⟩ : BufTy).Contents (Elt F)),
    StableHlo.nullary main_cst_0 (constant S_ .f32 0x40000000#32),
    StableHlo.unary main_cst_0 main_v11 (broadcastInDim S4x5000 ![] bcast_S_S4x5000 : (⟨S_, .f32⟩ : BufTy).Contents (Elt F) → (⟨S4x5000, .f32⟩ : BufTy).Contents (Elt F)),
    StableHlo.binary main_v7 main_v11 main_v12 (Host.divf : (⟨S4x5000, .f32⟩ : BufTy).Contents (Elt F) → (⟨S4x5000, .f32⟩ : BufTy).Contents (Elt F) → (⟨S4x5000, .f32⟩ : BufTy).Contents (Elt F)),
    StableHlo.binary main_v3 main_v12 main_v13 (subf : (⟨S4x5000, .f32⟩ : BufTy).Contents (Elt F) → (⟨S4x5000, .f32⟩ : BufTy).Contents (Elt F) → (⟨S4x5000, .f32⟩ : BufTy).Contents (Elt F)),
    StableHlo.nullary main_cst_1 (constant S_ .f32 0x40000000#32),
    StableHlo.unary main_cst_1 main_v14 (broadcastInDim S4x5000 ![] bcast_S_S4x5000 : (⟨S_, .f32⟩ : BufTy).Contents (Elt F) → (⟨S4x5000, .f32⟩ : BufTy).Contents (Elt F)),
    StableHlo.binary main_v5 main_v14 main_v15 (Host.divf : (⟨S4x5000, .f32⟩ : BufTy).Contents (Elt F) → (⟨S4x5000, .f32⟩ : BufTy).Contents (Elt F) → (⟨S4x5000, .f32⟩ : BufTy).Contents (Elt F)),
    StableHlo.binary main_v1 main_v15 main_v16 (addf : (⟨S4x5000, .f32⟩ : BufTy).Contents (Elt F) → (⟨S4x5000, .f32⟩ : BufTy).Contents (Elt F) → (⟨S4x5000, .f32⟩ : BufTy).Contents (Elt F)),
    StableHlo.nullary main_cst_2 (constant S_ .f32 0x40000000#32),
    StableHlo.unary main_cst_2 main_v17 (broadcastInDim S4x5000 ![] bcast_S_S4x5000 : (⟨S_, .f32⟩ : BufTy).Contents (Elt F) → (⟨S4x5000, .f32⟩ : BufTy).Contents (Elt F)),
    StableHlo.binary main_v7 main_v17 main_v18 (Host.divf : (⟨S4x5000, .f32⟩ : BufTy).Contents (Elt F) → (⟨S4x5000, .f32⟩ : BufTy).Contents (Elt F) → (⟨S4x5000, .f32⟩ : BufTy).Contents (Elt F)),
    StableHlo.binary main_v3 main_v18 main_v19 (addf : (⟨S4x5000, .f32⟩ : BufTy).Contents (Elt F) → (⟨S4x5000, .f32⟩ : BufTy).Contents (Elt F) → (⟨S4x5000, .f32⟩ : BufTy).Contents (Elt F)),
    StableHlo.unary main_arg0 main_v20 ((extractStridedSlice S4x5000x1 ![0, 0, 4] · slices_S4x5000x85_S4x5000x1_0_0_4) : (⟨S4x5000x85, .f32⟩ : BufTy).Contents (Elt F) → (⟨S4x5000x1, .f32⟩ : BufTy).Contents (Elt F)),
    StableHlo.reshape main_v20 main_v21 (rfl : (.f32 : EltTy) = .f32) shapeCasts_S4x5000x1_S4x5000,
    StableHlo.unary main_arg0 main_v22 ((extractStridedSlice S4x5000x80 ![0, 0, 5] · slices_S4x5000x85_S4x5000x80_0_0_5) : (⟨S4x5000x85, .f32⟩ : BufTy).Contents (Elt F) → (⟨S4x5000x80, .f32⟩ : BufTy).Contents (Elt F)),
    StableHlo.nullary main_cst_3 (constant S_ .f32 0xFF800000#32),
    StableHlo.binary main_v22 main_cst_3 main_v23 ((fun x v => Host.reduce FloatOps.maximumf x v reducesTo_S4x5000x80_S4x5000_d2 h_S_) : (⟨S4x5000x80, .f32⟩ : BufTy).Contents (Elt F) → (⟨S_, .f32⟩ : BufTy).Contents (Elt F) → (⟨S4x5000, .f32⟩ : BufTy).Contents (Elt F)) ]
/-- Each touches TensorCore references only (`HostSeg.ofOps` over `StableHlo.tcRefs`, or a subset by `sub_ucRefs`). -/
theorem main_part0_ops0_sub : (main_part0_ops0 : List (HloOp τ sig (Elt F))).Forall fun op => op.bufs ⊆ StableHlo.tcRefs τ sig :=
  ⟨StableHlo.unary_bufs_sub .., StableHlo.reshape_bufs_sub .., StableHlo.unary_bufs_sub .., StableHlo.reshape_bufs_sub .., StableHlo.unary_bufs_sub .., StableHlo.reshape_bufs_sub .., StableHlo.unary_bufs_sub .., StableHlo.reshape_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.unary_bufs_sub .., StableHlo.reshape_bufs_sub .., StableHlo.unary_bufs_sub .., StableHlo.nullary_bufs_sub .., StableHlo.binary_bufs_sub ..⟩
/-- 5 host operations of @argmax (main_call0), window 0 (statements 1 … 60), in order. -/
abbrev main_part0_ops1 : List (HloOp τ sig (Elt F)) :=
  [ StableHlo.TRef.nullary (.of main_call0_v0 : StableHlo.TRef sig ⟨S4x5000x80, .i32⟩) (iotaInDim S4x5000x80 32 2),
    StableHlo.TRef.nullary (.of main_call0_cst : StableHlo.TRef sig ⟨S_, .f32⟩) (constant S_ .f32 0xFF800000#32),
    StableHlo.TRef.nullary (.of main_call0_c : StableHlo.TRef sig ⟨S_, .i32⟩) (constantI S_ 32 0#32),
    StableHlo.TRef.quaternary (.of main_v22 : StableHlo.TRef sig ⟨S4x5000x80, .f32⟩) (.of main_call0_v0 : StableHlo.TRef sig ⟨S4x5000x80, .i32⟩) (.of main_call0_cst : StableHlo.TRef sig ⟨S_, .f32⟩) (.of main_call0_c : StableHlo.TRef sig ⟨S_, .i32⟩) (.of main_call0_v1_0 : StableHlo.TRef sig ⟨S4x5000, .f32⟩) (fun x y u v j => (Host.argReduce reducer_argmax_f32_i32 x y u v reducesTo_S4x5000x80_S4x5000_d2 h_S_ j).1),
    StableHlo.TRef.quaternary (.of main_v22 : StableHlo.TRef sig ⟨S4x5000x80, .f32⟩) (.of main_call0_v0 : StableHlo.TRef sig ⟨S4x5000x80, .i32⟩) (.of main_call0_cst : StableHlo.TRef sig ⟨S_, .f32⟩) (.of main_call0_c : StableHlo.TRef sig ⟨S_, .i32⟩) (.of main_v24 : StableHlo.TRef sig ⟨S4x5000, .i32⟩) (fun x y u v j => (Host.argReduce reducer_argmax_f32_i32 x y u v reducesTo_S4x5000x80_S4x5000_d2 h_S_ j).2) ]
/-- Each touches TensorCore references only (`HostSeg.ofOps` over `StableHlo.tcRefs`, or a subset by `sub_ucRefs`). -/
theorem main_part0_ops1_sub : (main_part0_ops1 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 10 host operations of @main, window 0 (statements 1 … 60), in order. -/
abbrev main_part0_ops2 : List (HloOp τ sig (Elt F)) :=
  [ StableHlo.binary main_v21 main_v23 main_v25 (mulf : (⟨S4x5000, .f32⟩ : BufTy).Contents (Elt F) → (⟨S4x5000, .f32⟩ : BufTy).Contents (Elt F) → (⟨S4x5000, .f32⟩ : BufTy).Contents (Elt F)),
    StableHlo.nullary main_cst_4 (constant S_ .f32 0xFF800000#32),
    StableHlo.binary main_v25 main_cst_4 main_v26 ((fun x v => Host.reduce FloatOps.maximumf x v reducesTo_S4x5000_S4_d1 h_S_) : (⟨S4x5000, .f32⟩ : BufTy).Contents (Elt F) → (⟨S_, .f32⟩ : BufTy).Contents (Elt F) → (⟨S4, .f32⟩ : BufTy).Contents (Elt F)),
    StableHlo.unary main_v26 main_v27 (broadcastInDim S4x1 ![0] bcast_S4_S4x1_0 : (⟨S4, .f32⟩ : BufTy).Contents (Elt F) → (⟨S4x1, .f32⟩ : BufTy).Contents (Elt F)),
    StableHlo.nullary main_cst_5 (constant S_ .f32 0x3E800000#32),
    StableHlo.unary main_cst_5 main_v28 (broadcastInDim S4x1 ![] bcast_S_S4x1 : (⟨S_, .f32⟩ : BufTy).Contents (Elt F) → (⟨S4x1, .f32⟩ : BufTy).Contents (Elt F)),
    StableHlo.binary main_v28 main_v27 main_v29 (minimumf : (⟨S4x1, .f32⟩ : BufTy).Contents (Elt F) → (⟨S4x1, .f32⟩ : BufTy).Contents (Elt F) → (⟨S4x1, .f32⟩ : BufTy).Contents (Elt F)),
    StableHlo.unary main_v29 main_v30 (broadcastInDim S4x5000 ![0, 1] bcast_S4x1_S4x5000_0_1 : (⟨S4x1, .f32⟩ : BufTy).Contents (Elt F) → (⟨S4x5000, .f32⟩ : BufTy).Contents (Elt F)),
    StableHlo.binary main_v25 main_v30 main_v31 (cmpf .oge : (⟨S4x5000, .f32⟩ : BufTy).Contents (Elt F) → (⟨S4x5000, .f32⟩ : BufTy).Contents (Elt F) → (⟨S4x5000, .i1⟩ : BufTy).Contents (Elt F)),
    StableHlo.nullary main_cst_6 (constant S_ .f32 0xFF800000#32) ]
/-- Each touches TensorCore references only (`HostSeg.ofOps` over `StableHlo.tcRefs`, or a subset by `sub_ucRefs`). -/
theorem main_part0_ops2_sub : (main_part0_ops2 : List (HloOp τ sig (Elt F))).Forall fun op => op.bufs ⊆ StableHlo.tcRefs τ sig :=
  ⟨StableHlo.binary_bufs_sub .., StableHlo.nullary_bufs_sub .., StableHlo.binary_bufs_sub .., StableHlo.unary_bufs_sub .., StableHlo.nullary_bufs_sub .., StableHlo.unary_bufs_sub .., StableHlo.binary_bufs_sub .., StableHlo.unary_bufs_sub .., StableHlo.binary_bufs_sub .., StableHlo.nullary_bufs_sub ..⟩
/-- 3 host operations of @_where (main_call1), window 0 (statements 1 … 60), in order. -/
abbrev main_part0_ops3 : List (HloOp τ sig (Elt F)) :=
  [ StableHlo.TRef.unary (.of main_cst_6 : StableHlo.TRef sig ⟨S_, .f32⟩) (.of main_call1_v0 : StableHlo.TRef sig ⟨S_, .f32⟩) id,
    StableHlo.TRef.unary (.of main_call1_v0 : StableHlo.TRef sig ⟨S_, .f32⟩) (.of main_call1_v1 : StableHlo.TRef sig ⟨S4x5000, .f32⟩) (broadcastInDim S4x5000 ![] bcast_S_S4x5000),
    StableHlo.TRef.ternary (.of main_v31 : StableHlo.TRef sig ⟨S4x5000, .i1⟩) (.of main_v25 : StableHlo.TRef sig ⟨S4x5000, .f32⟩) (.of main_call1_v1 : StableHlo.TRef sig ⟨S4x5000, .f32⟩) (.of main_v32 : StableHlo.TRef sig ⟨S4x5000, .f32⟩) select ]
/-- Each touches TensorCore references only (`HostSeg.ofOps` over `StableHlo.tcRefs`, or a subset by `sub_ucRefs`). -/
theorem main_part0_ops3_sub : (main_part0_ops3 : List (HloOp τ sig (Elt F))).Forall fun op => op.bufs ⊆ StableHlo.tcRefs τ sig :=
  ⟨StableHlo.unary_bufs_sub .., StableHlo.unary_bufs_sub .., StableHlo.ternary_bufs_sub ..⟩
/-- 19 host operations of @main, window 0 (statements 1 … 60), in order. -/
abbrev main_part0_ops4 : List (HloOp τ sig (Elt F)) :=
  [ StableHlo.unary main_v24 main_v33 (sitofp .f32 : (⟨S4x5000, .i32⟩ : BufTy).Contents (Elt F) → (⟨S4x5000, .f32⟩ : BufTy).Contents (Elt F)),
    StableHlo.unary main_v10 main_v34 (broadcastInDim S4x5000x1 ![0, 1] bcast_S4x5000_S4x5000x1_0_1 : (⟨S4x5000, .f32⟩ : BufTy).Contents (Elt F) → (⟨S4x5000x1, .f32⟩ : BufTy).Contents (Elt F)),
    StableHlo.unary main_v13 main_v35 (broadcastInDim S4x5000x1 ![0, 1] bcast_S4x5000_S4x5000x1_0_1 : (⟨S4x5000, .f32⟩ : BufTy).Contents (Elt F) → (⟨S4x5000x1, .f32⟩ : BufTy).Contents (Elt F)),
    StableHlo.unary main_v16 main_v36 (broadcastInDim S4x5000x1 ![0, 1] bcast_S4x5000_S4x5000x1_0_1 : (⟨S4x5000, .f32⟩ : BufTy).Contents (Elt F) → (⟨S4x5000x1, .f32⟩ : BufTy).Contents (Elt F)),
    StableHlo.unary main_v19 main_v37 (broadcastInDim S4x5000x1 ![0, 1] bcast_S4x5000_S4x5000x1_0_1 : (⟨S4x5000, .f32⟩ : BufTy).Contents (Elt F) → (⟨S4x5000x1, .f32⟩ : BufTy).Contents (Elt F)),
    StableHlo.unary main_v21 main_v38 (broadcastInDim S4x5000x1 ![0, 1] bcast_S4x5000_S4x5000x1_0_1 : (⟨S4x5000, .f32⟩ : BufTy).Contents (Elt F) → (⟨S4x5000x1, .f32⟩ : BufTy).Contents (Elt F)),
    StableHlo.unary main_v23 main_v39 (broadcastInDim S4x5000x1 ![0, 1] bcast_S4x5000_S4x5000x1_0_1 : (⟨S4x5000, .f32⟩ : BufTy).Contents (Elt F) → (⟨S4x5000x1, .f32⟩ : BufTy).Contents (Elt F)),
    StableHlo.unary main_v33 main_v40 (broadcastInDim S4x5000x1 ![0, 1] bcast_S4x5000_S4x5000x1_0_1 : (⟨S4x5000, .f32⟩ : BufTy).Contents (Elt F) → (⟨S4x5000x1, .f32⟩ : BufTy).Contents (Elt F)),
    StableHlo.nary ![main_v34, main_v35, main_v36, main_v37, main_v38, main_v39, main_v40] main_v41 (fun u => (concatenate S4x5000x7 2 [⟨S4x5000x1, (u 0 : (⟨S4x5000x1, .f32⟩ : BufTy).Contents (Elt F))⟩, ⟨S4x5000x1, (u 1 : (⟨S4x5000x1, .f32⟩ : BufTy).Contents (Elt F))⟩, ⟨S4x5000x1, (u 2 : (⟨S4x5000x1, .f32⟩ : BufTy).Contents (Elt F))⟩, ⟨S4x5000x1, (u 3 : (⟨S4x5000x1, .f32⟩ : BufTy).Contents (Elt F))⟩, ⟨S4x5000x1, (u 4 : (⟨S4x5000x1, .f32⟩ : BufTy).Contents (Elt F))⟩, ⟨S4x5000x1, (u 5 : (⟨S4x5000x1, .f32⟩ : BufTy).Contents (Elt F))⟩, ⟨S4x5000x1, (u 6 : (⟨S4x5000x1, .f32⟩ : BufTy).Contents (Elt F))⟩] concatenates_S4x5000x1_S4x5000x1_S4x5000x1_S4x5000x1_S4x5000x1_S4x5000x1_S4x5000x1_S4x5000x7_d2 : (⟨S4x5000x7, .f32⟩ : BufTy).Contents (Elt F))),
    StableHlo.nullary main_v42 (iotaInDim S4 32 0),
    StableHlo.nullary main_v43 (iotaInDim S5000 32 0),
    StableHlo.unary main_v43 main_v44 (broadcastInDim S1x5000 ![1] bcast_S5000_S1x5000_1 : (⟨S5000, .i32⟩ : BufTy).Contents (Elt F) → (⟨S1x5000, .i32⟩ : BufTy).Contents (Elt F)),
    StableHlo.nullary main_cst_7 (constant S_ .f32 0x00000000#32),
    StableHlo.unary main_cst_7 main_v45 (broadcastInDim S100x4x7 ![] bcast_S_S100x4x7 : (⟨S_, .f32⟩ : BufTy).Contents (Elt F) → (⟨S100x4x7, .f32⟩ : BufTy).Contents (Elt F)),
    StableHlo.nullary main_c (constantI S_ 32 0#32),
    StableHlo.unary main_v42 main_v46_0 id,
    StableHlo.unary main_v41 main_v46_1 id,
    StableHlo.unary main_v10 main_v46_2 id,
    StableHlo.unary main_v13 main_v46_3 id ]
/-- Each touches TensorCore references only (`HostSeg.ofOps` over `StableHlo.tcRefs`, or a subset by `sub_ucRefs`). -/
theorem main_part0_ops4_sub : (main_part0_ops4 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.unary_bufs_sub .., StableHlo.nary_bufs_sub .., StableHlo.nullary_bufs_sub .., StableHlo.nullary_bufs_sub .., StableHlo.unary_bufs_sub .., StableHlo.nullary_bufs_sub .., StableHlo.unary_bufs_sub .., StableHlo.nullary_bufs_sub .., StableHlo.unary_bufs_sub .., StableHlo.unary_bufs_sub .., StableHlo.unary_bufs_sub .., StableHlo.unary_bufs_sub ..⟩
/-- Window 0 of `main` (`main_part0`, statements 1 … 60) is the chain of ITS items ending in the last
    (`Pipeline.chainK`: no closing `pure`, the window's last statement being in tail position), each item but the last aligned with the
    window's statements, then `chain_rfl`. -/
theorem main_part0_chain (c : Dev nD) : main_part0 (F := F) c = (Pipeline.chainK
  [ StableHlo.seq main_part0_ops0,
    StableHlo.seq main_part0_ops1,
    StableHlo.seq main_part0_ops2,
    StableHlo.seq main_part0_ops3 ]
  (StableHlo.seq main_part0_ops4) : Prog (TpuEff nD τ sig (Elt F) (HostLoop.Sig (Pipeline.Sig Λ₀ (Fin 0) fun p => (pcfgs (F := F) p).Adm) 1) .tc) PUnit) := by
  rewrite [StableHlo.chainK_seq_cons, Pipeline.chainK_cons, StableHlo.chainK_seq_cons, Pipeline.chainK_cons]
  chain_rfl

/-- 7 host operations of @main, window 1 (statements 61 … 70), in order. -/
abbrev main_part1_ops0 : List (HloOp τ sig (Elt F)) :=
  [ StableHlo.unary main_v16 main_v46_4 id,
    StableHlo.unary main_v19 main_v46_5 id,
    StableHlo.unary main_v24 main_v46_6 id,
    StableHlo.unary main_v44 main_v46_7 id,
    StableHlo.unary main_c main_v46_8 id,
    StableHlo.unary main_v32 main_v46_9 id,
    StableHlo.unary main_v45 main_v46_10 id ]
/-- Each touches TensorCore references only (`HostSeg.ofOps` over `StableHlo.tcRefs`, or a subset by `sub_ucRefs`). -/
theorem main_part1_ops0_sub : (main_part1_ops0 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.unary_bufs_sub .., StableHlo.unary_bufs_sub ..⟩
/-- 1 host operation of @main, window 1 (statements 61 … 70), in order. -/
abbrev main_part1_ops1 : List (HloOp τ sig (Elt F)) :=
  [ StableHlo.unary main_v46_10 main_v47 ((transpose S4x100x7 [1, 0, 2] · transposes_S100x4x7_S4x100x7_1_0_2) : (⟨S100x4x7, .f32⟩ : BufTy).Contents (Elt F) → (⟨S4x100x7, .f32⟩ : BufTy).Contents (Elt F)) ]
/-- Each touches TensorCore references only (`HostSeg.ofOps` over `StableHlo.tcRefs`, or a subset by `sub_ucRefs`). -/
theorem main_part1_ops1_sub : (main_part1_ops1 : List (HloOp τ sig (Elt F))).Forall fun op => op.bufs ⊆ StableHlo.tcRefs τ sig :=
  StableHlo.unary_bufs_sub ..
/-- The last window of `main` (`main_part1`, statements 61 … 70) is the chain of ITS items, each item aligned with the window's
    statements, then `chain_rfl`. -/
theorem main_part1_chain (c : Dev nD) : main_part1 (F := F) c = (Pipeline.chain
  [ StableHlo.seq main_part1_ops0,
    HostLoop.enter 0,
    StableHlo.seq main_part1_ops1 ] : Prog (TpuEff nD τ sig (Elt F) (HostLoop.Sig (Pipeline.Sig Λ₀ (Fin 0) fun p => (pcfgs (F := F) p).Adm) 1) .tc) PUnit) := by
  rewrite [StableHlo.chain_seq_cons, Pipeline.chain_cons, StableHlo.chain_seq_cons]
  chain_rfl

/-- `main` is the chain of its WINDOWS' items (a stretch a window boundary cuts is several items): assembled from
    the windows' equations, the last window's then each earlier one's followed by `Pipeline.chainK_bind_chain`, the
    closing `chain_rfl` between equal item lists — the form a certificate of a long block runs its segments over
    (`Seg.run_eq_chain`; `CSeg.runL` under host loops), each window piece with its `_sub`. -/
theorem main_chain_windows (c : Dev nD) : main (F := F) c = (Pipeline.chain
  [ StableHlo.seq main_part0_ops0,
    StableHlo.seq main_part0_ops1,
    StableHlo.seq main_part0_ops2,
    StableHlo.seq main_part0_ops3,
    StableHlo.seq main_part0_ops4,
    StableHlo.seq main_part1_ops0,
    HostLoop.enter 0,
    StableHlo.seq main_part1_ops1 ] : Prog (TpuEff nD τ sig (Elt F) (HostLoop.Sig (Pipeline.Sig Λ₀ (Fin 0) fun p => (pcfgs (F := F) p).Adm) 1) .tc) PUnit) := by
  show (main_part0 (F := F) c >>= fun _ => main_part1 (F := F) c) = _
  rewrite [main_part1_chain, main_part0_chain, Pipeline.chainK_bind_chain]
  chain_rfl

/-- `main`'s items, each with the pieces its windows cut it into: a stretch of its own operations as the window
    lists that make it up, in order, any other item as itself (`StableHlo.Group`; `main_chain` reads it). -/
abbrev main_groups (c : Dev nD) : List (StableHlo.Group nD τ sig (Elt F) (HostLoop.Sig (Pipeline.Sig Λ₀ (Fin 0) fun p => (pcfgs (F := F) p).Adm) 1)) :=
  [ .ops [main_part0_ops0],
    .ops [main_part0_ops1],
    .ops [main_part0_ops2],
    .ops [main_part0_ops3],
    .ops [main_part0_ops4, main_part1_ops0],
    .prog (HostLoop.enter 0),
    .ops [main_part1_ops1] ]

/-- The windows' item list is `main_groups` with each stretch cut into its window pieces (`StableHlo.Group.cut`): the two
    lists are the same, by `chain_rfl`. -/
theorem main_chain_cut (c : Dev nD) : (Pipeline.chain
  [ StableHlo.seq main_part0_ops0,
    StableHlo.seq main_part0_ops1,
    StableHlo.seq main_part0_ops2,
    StableHlo.seq main_part0_ops3,
    StableHlo.seq main_part0_ops4,
    StableHlo.seq main_part1_ops0,
    HostLoop.enter 0,
    StableHlo.seq main_part1_ops1 ] : Prog (TpuEff nD τ sig (Elt F) (HostLoop.Sig (Pipeline.Sig Λ₀ (Fin 0) fun p => (pcfgs (F := F) p).Adm) 1) .tc) PUnit) = Pipeline.chain ((main_groups (F := F) c).flatMap StableHlo.Group.cut) := by
  chain_rfl

/-- `main_groups` with each stretch's pieces joined (`StableHlo.Group.whole`) is `main`'s item list — the same
    operations once each stretch's pieces are concatenated —, by `chain_rfl`. -/
theorem main_chain_whole (c : Dev nD) : Pipeline.chain ((main_groups (F := F) c).map StableHlo.Group.whole) = (Pipeline.chain
  [ StableHlo.seq hostOps0,
    StableHlo.seq hostOps0_1,
    StableHlo.seq hostOps0_2,
    StableHlo.seq hostOps0_3,
    StableHlo.seq hostOps0_4,
    HostLoop.enter 0,
    StableHlo.seq hostOps0_5 ] : Prog (TpuEff nD τ sig (Elt F) (HostLoop.Sig (Pipeline.Sig Λ₀ (Fin 0) fun p => (pcfgs (F := F) p).Adm) 1) .tc) PUnit) := by
  chain_rfl

/-- `main` is the chain of its items (`Pipeline.chain`): operation stretches, regions, loops and branches in
    order, a module-local function called from it a stretch of its own. Assembled from its 2 windows'
    equations (`main_chain_windows`: the chain cut at the window boundaries); `StableHlo.chain_cut_eq_whole` over
    `main_groups` — each stretch with the window lists that make it up — then equates that cut chain with this one, its
    two ends being `main_chain_cut` and `main_chain_whole` (`chain_rfl` over equal lists), so that the kernel never compares
    a stretch with its pieces (Lib/Pipeline/Regions.lean § Aligning a block with its items). -/
theorem main_chain (c : Dev nD) : main (F := F) c = (Pipeline.chain
  [ StableHlo.seq hostOps0,
    StableHlo.seq hostOps0_1,
    StableHlo.seq hostOps0_2,
    StableHlo.seq hostOps0_3,
    StableHlo.seq hostOps0_4,
    HostLoop.enter 0,
    StableHlo.seq hostOps0_5 ] : Prog (TpuEff nD τ sig (Elt F) (HostLoop.Sig (Pipeline.Sig Λ₀ (Fin 0) fun p => (pcfgs (F := F) p).Adm) 1) .tc) PUnit) :=
  (main_chain_windows (F := F) c).trans <| (main_chain_cut (F := F) c).trans <|
    (StableHlo.chain_cut_eq_whole (main_groups (F := F) c)).trans (main_chain_whole (F := F) c)

-- no `main_segs` (the loop-free kit's `Seg.run` equation) for this @main: it has a host loop; a certificate takes `main_chain` (Lib/Pipeline/RegionsLoop.lean)

/-- 5 host operations of @argmax_0 (main_while0b_call2), in order. -/
abbrev while0Ops0 : List (HloOp τ sig (Elt F)) :=
  [ StableHlo.TRef.nullary (.of main_while0b_call2_v0 : StableHlo.TRef sig ⟨S4x5000, .i32⟩) (iotaInDim S4x5000 32 1),
    StableHlo.TRef.nullary (.of main_while0b_call2_cst : StableHlo.TRef sig ⟨S_, .f32⟩) (constant S_ .f32 0xFF800000#32),
    StableHlo.TRef.nullary (.of main_while0b_call2_c : StableHlo.TRef sig ⟨S_, .i32⟩) (constantI S_ 32 0#32),
    StableHlo.TRef.quaternary (.of main_v46_9 : StableHlo.TRef sig ⟨S4x5000, .f32⟩) (.of main_while0b_call2_v0 : StableHlo.TRef sig ⟨S4x5000, .i32⟩) (.of main_while0b_call2_cst : StableHlo.TRef sig ⟨S_, .f32⟩) (.of main_while0b_call2_c : StableHlo.TRef sig ⟨S_, .i32⟩) (.of main_while0b_call2_v1_0 : StableHlo.TRef sig ⟨S4, .f32⟩) (fun x y u v j => (Host.argReduce reducer_argmax_f32_i32 x y u v reducesTo_S4x5000_S4_d1 h_S_ j).1),
    StableHlo.TRef.quaternary (.of main_v46_9 : StableHlo.TRef sig ⟨S4x5000, .f32⟩) (.of main_while0b_call2_v0 : StableHlo.TRef sig ⟨S4x5000, .i32⟩) (.of main_while0b_call2_cst : StableHlo.TRef sig ⟨S_, .f32⟩) (.of main_while0b_call2_c : StableHlo.TRef sig ⟨S_, .i32⟩) (.of main_while0b_v48 : StableHlo.TRef sig ⟨S4, .i32⟩) (fun x y u v j => (Host.argReduce reducer_argmax_f32_i32 x y u v reducesTo_S4x5000_S4_d1 h_S_ j).2) ]
/-- Each touches TensorCore references only (`HostSeg.ofOps` over `StableHlo.tcRefs`, or a subset by `sub_ucRefs`). -/
theorem while0Ops0_sub : (while0Ops0 : List (HloOp τ sig (Elt F))).Forall fun op => op.bufs ⊆ StableHlo.tcRefs τ sig :=
  ⟨StableHlo.nullary_bufs_sub .., StableHlo.nullary_bufs_sub .., StableHlo.nullary_bufs_sub .., StableHlo.quaternary_bufs_sub .., StableHlo.quaternary_bufs_sub ..⟩
/-- 13 host operations of host loop 0's body region, in order. -/
abbrev while0Ops0_1 : List (HloOp τ sig (Elt F)) :=
  [ StableHlo.unary main_v46_0 main_while0b_v49 (broadcastInDim S4x1 ![0] bcast_S4_S4x1_0 : (⟨S4, .i32⟩ : BufTy).Contents (Elt F) → (⟨S4x1, .i32⟩ : BufTy).Contents (Elt F)),
    StableHlo.unary main_while0b_v48 main_while0b_v50 (broadcastInDim S4x1 ![0] bcast_S4_S4x1_0 : (⟨S4, .i32⟩ : BufTy).Contents (Elt F) → (⟨S4x1, .i32⟩ : BufTy).Contents (Elt F)),
    StableHlo.binary main_while0b_v49 main_while0b_v50 main_while0b_v51 ((fun a b => concatenate S4x2 1 [⟨S4x1, a⟩, ⟨S4x1, b⟩] concatenates_S4x1_S4x1_S4x2_d1) : (⟨S4x1, .i32⟩ : BufTy).Contents (Elt F) → (⟨S4x1, .i32⟩ : BufTy).Contents (Elt F) → (⟨S4x2, .i32⟩ : BufTy).Contents (Elt F)),
    StableHlo.binary main_v46_9 main_while0b_v51 main_while0b_v52 ((fun x i => Host.gather gather_S4x5000_S4x2_S4_n_01_n_n_01_1_11 x i) : (⟨S4x5000, .f32⟩ : BufTy).Contents (Elt F) → (⟨S4x2, .i32⟩ : BufTy).Contents (Elt F) → (⟨S4, .f32⟩ : BufTy).Contents (Elt F)),
    StableHlo.unary main_while0b_v52 main_while0b_v53 (broadcastInDim S4x1 ![0] bcast_S4_S4x1_0 : (⟨S4, .f32⟩ : BufTy).Contents (Elt F) → (⟨S4x1, .f32⟩ : BufTy).Contents (Elt F)),
    StableHlo.nullary main_while0b_cst_18 (constant S_ .f32 0xFF800000#32),
    StableHlo.unary main_while0b_cst_18 main_while0b_v54 (broadcastInDim S4x1 ![] bcast_S_S4x1 : (⟨S_, .f32⟩ : BufTy).Contents (Elt F) → (⟨S4x1, .f32⟩ : BufTy).Contents (Elt F)),
    StableHlo.binary main_while0b_v53 main_while0b_v54 main_while0b_v55 (cmpf .ogt : (⟨S4x1, .f32⟩ : BufTy).Contents (Elt F) → (⟨S4x1, .f32⟩ : BufTy).Contents (Elt F) → (⟨S4x1, .i1⟩ : BufTy).Contents (Elt F)),
    StableHlo.unary main_v46_0 main_while0b_v56 (broadcastInDim S4x1 ![0] bcast_S4_S4x1_0 : (⟨S4, .i32⟩ : BufTy).Contents (Elt F) → (⟨S4x1, .i32⟩ : BufTy).Contents (Elt F)),
    StableHlo.unary main_while0b_v48 main_while0b_v57 (broadcastInDim S4x1 ![0] bcast_S4_S4x1_0 : (⟨S4, .i32⟩ : BufTy).Contents (Elt F) → (⟨S4x1, .i32⟩ : BufTy).Contents (Elt F)),
    StableHlo.binary main_while0b_v56 main_while0b_v57 main_while0b_v58 ((fun a b => concatenate S4x2 1 [⟨S4x1, a⟩, ⟨S4x1, b⟩] concatenates_S4x1_S4x1_S4x2_d1) : (⟨S4x1, .i32⟩ : BufTy).Contents (Elt F) → (⟨S4x1, .i32⟩ : BufTy).Contents (Elt F) → (⟨S4x2, .i32⟩ : BufTy).Contents (Elt F)),
    StableHlo.binary main_v46_1 main_while0b_v58 main_while0b_v59 ((fun x i => Host.gather gather_S4x5000x7_S4x2_S4x7_1_01_n_n_01_1_117 x i) : (⟨S4x5000x7, .f32⟩ : BufTy).Contents (Elt F) → (⟨S4x2, .i32⟩ : BufTy).Contents (Elt F) → (⟨S4x7, .f32⟩ : BufTy).Contents (Elt F)),
    StableHlo.nullary main_while0b_cst_19 (constant S_ .f32 0x00000000#32) ]
/-- Each touches TensorCore references only (`HostSeg.ofOps` over `StableHlo.tcRefs`, or a subset by `sub_ucRefs`). -/
theorem while0Ops0_1_sub : (while0Ops0_1 : List (HloOp τ sig (Elt F))).Forall fun op => op.bufs ⊆ StableHlo.tcRefs τ sig :=
  ⟨StableHlo.unary_bufs_sub .., StableHlo.unary_bufs_sub .., StableHlo.binary_bufs_sub .., StableHlo.binary_bufs_sub .., StableHlo.unary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.nullary_bufs_sub ..⟩
/-- 4 host operations of @_where_1 (main_while0b_call3), in order. -/
abbrev while0Ops0_2 : List (HloOp τ sig (Elt F)) :=
  [ StableHlo.TRef.unary (.of main_while0b_cst_19 : StableHlo.TRef sig ⟨S_, .f32⟩) (.of main_while0b_call3_v0 : StableHlo.TRef sig ⟨S_, .f32⟩) id,
    StableHlo.TRef.unary (.of main_while0b_v55 : StableHlo.TRef sig ⟨S4x1, .i1⟩) (.of main_while0b_call3_v1 : StableHlo.TRef sig ⟨S4x7, .i1⟩) (broadcastInDim S4x7 ![0, 1] bcast_S4x1_S4x7_0_1),
    StableHlo.TRef.unary (.of main_while0b_call3_v0 : StableHlo.TRef sig ⟨S_, .f32⟩) (.of main_while0b_call3_v2 : StableHlo.TRef sig ⟨S4x7, .f32⟩) (broadcastInDim S4x7 ![] bcast_S_S4x7),
    StableHlo.TRef.ternary (.of main_while0b_call3_v1 : StableHlo.TRef sig ⟨S4x7, .i1⟩) (.of main_while0b_v59 : StableHlo.TRef sig ⟨S4x7, .f32⟩) (.of main_while0b_call3_v2 : StableHlo.TRef sig ⟨S4x7, .f32⟩) (.of main_while0b_v60 : StableHlo.TRef sig ⟨S4x7, .f32⟩) select ]
/-- Each touches TensorCore references only (`HostSeg.ofOps` over `StableHlo.tcRefs`, or a subset by `sub_ucRefs`). -/
theorem while0Ops0_2_sub : (while0Ops0_2 : List (HloOp τ sig (Elt F))).Forall fun op => op.bufs ⊆ StableHlo.tcRefs τ sig :=
  ⟨StableHlo.unary_bufs_sub .., StableHlo.unary_bufs_sub .., StableHlo.unary_bufs_sub .., StableHlo.ternary_bufs_sub ..⟩
/-- 51 host operations of host loop 0's body region, in order. -/
abbrev while0Ops0_3 : List (HloOp τ sig (Elt F)) :=
  ( StableHlo.unary main_while0b_v59 main_while0b_v61 ((extractStridedSlice S4x1 ![0, 0] · slices_S4x7_S4x1_0_0) : (⟨S4x7, .f32⟩ : BufTy).Contents (Elt F) → (⟨S4x1, .f32⟩ : BufTy).Contents (Elt F))
  :: StableHlo.unary main_while0b_v59 main_while0b_v62 ((extractStridedSlice S4x1 ![0, 1] · slices_S4x7_S4x1_0_1) : (⟨S4x7, .f32⟩ : BufTy).Contents (Elt F) → (⟨S4x1, .f32⟩ : BufTy).Contents (Elt F))
  :: StableHlo.unary main_while0b_v59 main_while0b_v63 ((extractStridedSlice S4x1 ![0, 2] · slices_S4x7_S4x1_0_2) : (⟨S4x7, .f32⟩ : BufTy).Contents (Elt F) → (⟨S4x1, .f32⟩ : BufTy).Contents (Elt F))
  :: StableHlo.unary main_while0b_v59 main_while0b_v64 ((extractStridedSlice S4x1 ![0, 3] · slices_S4x7_S4x1_0_3) : (⟨S4x7, .f32⟩ : BufTy).Contents (Elt F) → (⟨S4x1, .f32⟩ : BufTy).Contents (Elt F))
  :: StableHlo.unary main_while0b_v61 main_while0b_v65 (broadcastInDim S4x5000 ![0, 1] bcast_S4x1_S4x5000_0_1 : (⟨S4x1, .f32⟩ : BufTy).Contents (Elt F) → (⟨S4x5000, .f32⟩ : BufTy).Contents (Elt F))
  :: StableHlo.binary main_while0b_v65 main_v46_2 main_while0b_v66 (maximumf : (⟨S4x5000, .f32⟩ : BufTy).Contents (Elt F) → (⟨S4x5000, .f32⟩ : BufTy).Contents (Elt F) → (⟨S4x5000, .f32⟩ : BufTy).Contents (Elt F))
  :: StableHlo.unary main_while0b_v62 main_while0b_v67 (broadcastInDim S4x5000 ![0, 1] bcast_S4x1_S4x5000_0_1 : (⟨S4x1, .f32⟩ : BufTy).Contents (Elt F) → (⟨S4x5000, .f32⟩ : BufTy).Contents (Elt F))
  :: StableHlo.binary main_while0b_v67 main_v46_3 main_while0b_v68 (maximumf : (⟨S4x5000, .f32⟩ : BufTy).Contents (Elt F) → (⟨S4x5000, .f32⟩ : BufTy).Contents (Elt F) → (⟨S4x5000, .f32⟩ : BufTy).Contents (Elt F))
  :: StableHlo.unary main_while0b_v63 main_while0b_v69 (broadcastInDim S4x5000 ![0, 1] bcast_S4x1_S4x5000_0_1 : (⟨S4x1, .f32⟩ : BufTy).Contents (Elt F) → (⟨S4x5000, .f32⟩ : BufTy).Contents (Elt F))
  :: StableHlo.binary main_while0b_v69 main_v46_4 main_while0b_v70 (minimumf : (⟨S4x5000, .f32⟩ : BufTy).Contents (Elt F) → (⟨S4x5000, .f32⟩ : BufTy).Contents (Elt F) → (⟨S4x5000, .f32⟩ : BufTy).Contents (Elt F))
  :: StableHlo.unary main_while0b_v64 main_while0b_v71 (broadcastInDim S4x5000 ![0, 1] bcast_S4x1_S4x5000_0_1 : (⟨S4x1, .f32⟩ : BufTy).Contents (Elt F) → (⟨S4x5000, .f32⟩ : BufTy).Contents (Elt F))
  :: StableHlo.binary main_while0b_v71 main_v46_5 main_while0b_v72 (minimumf : (⟨S4x5000, .f32⟩ : BufTy).Contents (Elt F) → (⟨S4x5000, .f32⟩ : BufTy).Contents (Elt F) → (⟨S4x5000, .f32⟩ : BufTy).Contents (Elt F))
  :: StableHlo.binary main_while0b_v70 main_while0b_v66 main_while0b_v73 (subf : (⟨S4x5000, .f32⟩ : BufTy).Contents (Elt F) → (⟨S4x5000, .f32⟩ : BufTy).Contents (Elt F) → (⟨S4x5000, .f32⟩ : BufTy).Contents (Elt F))
  :: StableHlo.nullary main_while0b_cst_20 (constant S_ .f32 0x00000000#32)
  :: StableHlo.unary main_while0b_cst_20 main_while0b_v74 (broadcastInDim S4x5000 ![] bcast_S_S4x5000 : (⟨S_, .f32⟩ : BufTy).Contents (Elt F) → (⟨S4x5000, .f32⟩ : BufTy).Contents (Elt F))
  :: StableHlo.binary main_while0b_v73 main_while0b_v74 main_while0b_v75 (maximumf : (⟨S4x5000, .f32⟩ : BufTy).Contents (Elt F) → (⟨S4x5000, .f32⟩ : BufTy).Contents (Elt F) → (⟨S4x5000, .f32⟩ : BufTy).Contents (Elt F))
  :: StableHlo.binary main_while0b_v72 main_while0b_v68 main_while0b_v76 (subf : (⟨S4x5000, .f32⟩ : BufTy).Contents (Elt F) → (⟨S4x5000, .f32⟩ : BufTy).Contents (Elt F) → (⟨S4x5000, .f32⟩ : BufTy).Contents (Elt F))
  :: StableHlo.nullary main_while0b_cst_21 (constant S_ .f32 0x00000000#32)
  :: StableHlo.unary main_while0b_cst_21 main_while0b_v77 (broadcastInDim S4x5000 ![] bcast_S_S4x5000 : (⟨S_, .f32⟩ : BufTy).Contents (Elt F) → (⟨S4x5000, .f32⟩ : BufTy).Contents (Elt F))
  :: StableHlo.binary main_while0b_v76 main_while0b_v77 main_while0b_v78 (maximumf : (⟨S4x5000, .f32⟩ : BufTy).Contents (Elt F) → (⟨S4x5000, .f32⟩ : BufTy).Contents (Elt F) → (⟨S4x5000, .f32⟩ : BufTy).Contents (Elt F))
  :: StableHlo.binary main_while0b_v75 main_while0b_v78 main_while0b_v79 (mulf : (⟨S4x5000, .f32⟩ : BufTy).Contents (Elt F) → (⟨S4x5000, .f32⟩ : BufTy).Contents (Elt F) → (⟨S4x5000, .f32⟩ : BufTy).Contents (Elt F))
  :: StableHlo.binary main_while0b_v63 main_while0b_v61 main_while0b_v80 (subf : (⟨S4x1, .f32⟩ : BufTy).Contents (Elt F) → (⟨S4x1, .f32⟩ : BufTy).Contents (Elt F) → (⟨S4x1, .f32⟩ : BufTy).Contents (Elt F))
  :: StableHlo.binary main_while0b_v64 main_while0b_v62 main_while0b_v81 (subf : (⟨S4x1, .f32⟩ : BufTy).Contents (Elt F) → (⟨S4x1, .f32⟩ : BufTy).Contents (Elt F) → (⟨S4x1, .f32⟩ : BufTy).Contents (Elt F))
  :: StableHlo.binary main_while0b_v80 main_while0b_v81 main_while0b_v82 (mulf : (⟨S4x1, .f32⟩ : BufTy).Contents (Elt F) → (⟨S4x1, .f32⟩ : BufTy).Contents (Elt F) → (⟨S4x1, .f32⟩ : BufTy).Contents (Elt F))
  :: StableHlo.binary main_v46_4 main_v46_2 main_while0b_v83 (subf : (⟨S4x5000, .f32⟩ : BufTy).Contents (Elt F) → (⟨S4x5000, .f32⟩ : BufTy).Contents (Elt F) → (⟨S4x5000, .f32⟩ : BufTy).Contents (Elt F))
  :: StableHlo.binary main_v46_5 main_v46_3 main_while0b_v84 (subf : (⟨S4x5000, .f32⟩ : BufTy).Contents (Elt F) → (⟨S4x5000, .f32⟩ : BufTy).Contents (Elt F) → (⟨S4x5000, .f32⟩ : BufTy).Contents (Elt F))
  :: StableHlo.binary main_while0b_v83 main_while0b_v84 main_while0b_v85 (mulf : (⟨S4x5000, .f32⟩ : BufTy).Contents (Elt F) → (⟨S4x5000, .f32⟩ : BufTy).Contents (Elt F) → (⟨S4x5000, .f32⟩ : BufTy).Contents (Elt F))
  :: StableHlo.unary main_while0b_v82 main_while0b_v86 (broadcastInDim S4x5000 ![0, 1] bcast_S4x1_S4x5000_0_1 : (⟨S4x1, .f32⟩ : BufTy).Contents (Elt F) → (⟨S4x5000, .f32⟩ : BufTy).Contents (Elt F))
  :: StableHlo.binary main_while0b_v86 main_while0b_v85 main_while0b_v87 (addf : (⟨S4x5000, .f32⟩ : BufTy).Contents (Elt F) → (⟨S4x5000, .f32⟩ : BufTy).Contents (Elt F) → (⟨S4x5000, .f32⟩ : BufTy).Contents (Elt F))
  :: StableHlo.binary main_while0b_v87 main_while0b_v79 main_while0b_v88 (subf : (⟨S4x5000, .f32⟩ : BufTy).Contents (Elt F) → (⟨S4x5000, .f32⟩ : BufTy).Contents (Elt F) → (⟨S4x5000, .f32⟩ : BufTy).Contents (Elt F))
  :: StableHlo.nullary main_while0b_cst_22 (constant S_ .f32 0x3089705F#32)
  :: StableHlo.unary main_while0b_cst_22 main_while0b_v89 (broadcastInDim S4x5000 ![] bcast_S_S4x5000 : (⟨S_, .f32⟩ : BufTy).Contents (Elt F) → (⟨S4x5000, .f32⟩ : BufTy).Contents (Elt F))
  :: StableHlo.binary main_while0b_v88 main_while0b_v89 main_while0b_v90 (addf : (⟨S4x5000, .f32⟩ : BufTy).Contents (Elt F) → (⟨S4x5000, .f32⟩ : BufTy).Contents (Elt F) → (⟨S4x5000, .f32⟩ : BufTy).Contents (Elt F))
  :: StableHlo.binary main_while0b_v79 main_while0b_v90 main_while0b_v91 (Host.divf : (⟨S4x5000, .f32⟩ : BufTy).Contents (Elt F) → (⟨S4x5000, .f32⟩ : BufTy).Contents (Elt F) → (⟨S4x5000, .f32⟩ : BufTy).Contents (Elt F))
  :: StableHlo.nullary main_while0b_cst_23 (constant S_ .f32 0x3EE66666#32)
  :: StableHlo.unary main_while0b_cst_23 main_while0b_v92 (broadcastInDim S4x5000 ![] bcast_S_S4x5000 : (⟨S_, .f32⟩ : BufTy).Contents (Elt F) → (⟨S4x5000, .f32⟩ : BufTy).Contents (Elt F))
  :: StableHlo.binary main_while0b_v91 main_while0b_v92 main_while0b_v93 (cmpf .ogt : (⟨S4x5000, .f32⟩ : BufTy).Contents (Elt F) → (⟨S4x5000, .f32⟩ : BufTy).Contents (Elt F) → (⟨S4x5000, .i1⟩ : BufTy).Contents (Elt F))
  :: StableHlo.unary main_v46_0 main_while0b_v94 (broadcastInDim S4x1 ![0] bcast_S4_S4x1_0 : (⟨S4, .i32⟩ : BufTy).Contents (Elt F) → (⟨S4x1, .i32⟩ : BufTy).Contents (Elt F))
  :: StableHlo.unary main_while0b_v48 main_while0b_v95 (broadcastInDim S4x1 ![0] bcast_S4_S4x1_0 : (⟨S4, .i32⟩ : BufTy).Contents (Elt F) → (⟨S4x1, .i32⟩ : BufTy).Contents (Elt F))
  :: StableHlo.binary main_while0b_v94 main_while0b_v95 main_while0b_v96 ((fun a b => concatenate S4x2 1 [⟨S4x1, a⟩, ⟨S4x1, b⟩] concatenates_S4x1_S4x1_S4x2_d1) : (⟨S4x1, .i32⟩ : BufTy).Contents (Elt F) → (⟨S4x1, .i32⟩ : BufTy).Contents (Elt F) → (⟨S4x2, .i32⟩ : BufTy).Contents (Elt F))
  :: StableHlo.binary main_v46_6 main_while0b_v96 main_while0b_v97 ((fun x i => Host.gather gather_S4x5000_S4x2_S4_n_01_n_n_01_1_11 x i) : (⟨S4x5000, .i32⟩ : BufTy).Contents (Elt F) → (⟨S4x2, .i32⟩ : BufTy).Contents (Elt F) → (⟨S4, .i32⟩ : BufTy).Contents (Elt F))
  :: StableHlo.unary main_while0b_v97 main_while0b_v98 (broadcastInDim S4x1 ![0] bcast_S4_S4x1_0 : (⟨S4, .i32⟩ : BufTy).Contents (Elt F) → (⟨S4x1, .i32⟩ : BufTy).Contents (Elt F))
  :: StableHlo.unary main_while0b_v98 main_while0b_v99 (broadcastInDim S4x5000 ![0, 1] bcast_S4x1_S4x5000_0_1 : (⟨S4x1, .i32⟩ : BufTy).Contents (Elt F) → (⟨S4x5000, .i32⟩ : BufTy).Contents (Elt F))
  :: StableHlo.binary main_v46_6 main_while0b_v99 main_while0b_v100 (cmpi .eq : (⟨S4x5000, .i32⟩ : BufTy).Contents (Elt F) → (⟨S4x5000, .i32⟩ : BufTy).Contents (Elt F) → (⟨S4x5000, .i1⟩ : BufTy).Contents (Elt F))
  :: StableHlo.binary main_while0b_v93 main_while0b_v100 main_while0b_v101 (andi : (⟨S4x5000, .i1⟩ : BufTy).Contents (Elt F) → (⟨S4x5000, .i1⟩ : BufTy).Contents (Elt F) → (⟨S4x5000, .i1⟩ : BufTy).Contents (Elt F))
  :: StableHlo.unary main_while0b_v48 main_while0b_v102 (broadcastInDim S4x1 ![0] bcast_S4_S4x1_0 : (⟨S4, .i32⟩ : BufTy).Contents (Elt F) → (⟨S4x1, .i32⟩ : BufTy).Contents (Elt F))
  :: StableHlo.unary main_v46_7 main_while0b_v103 (broadcastInDim S4x5000 ![0, 1] bcast_S1x5000_S4x5000_0_1 : (⟨S1x5000, .i32⟩ : BufTy).Contents (Elt F) → (⟨S4x5000, .i32⟩ : BufTy).Contents (Elt F))
  :: StableHlo.unary main_while0b_v102 main_while0b_v104 (broadcastInDim S4x5000 ![0, 1] bcast_S4x1_S4x5000_0_1 : (⟨S4x1, .i32⟩ : BufTy).Contents (Elt F) → (⟨S4x5000, .i32⟩ : BufTy).Contents (Elt F))
  :: StableHlo.binary main_while0b_v103 main_while0b_v104 main_while0b_v105 (cmpi .eq : (⟨S4x5000, .i32⟩ : BufTy).Contents (Elt F) → (⟨S4x5000, .i32⟩ : BufTy).Contents (Elt F) → (⟨S4x5000, .i1⟩ : BufTy).Contents (Elt F))
  :: StableHlo.binary main_while0b_v101 main_while0b_v105 main_while0b_v106 (ori : (⟨S4x5000, .i1⟩ : BufTy).Contents (Elt F) → (⟨S4x5000, .i1⟩ : BufTy).Contents (Elt F) → (⟨S4x5000, .i1⟩ : BufTy).Contents (Elt F))
  :: StableHlo.nullary main_while0b_cst_24 (constant S_ .f32 0xFF800000#32)
  :: [] )
/-- Each touches TensorCore references only (`HostSeg.ofOps` over `StableHlo.tcRefs`, or a subset by `sub_ucRefs`). -/
theorem while0Ops0_3_sub : (while0Ops0_3 : List (HloOp τ sig (Elt F))).Forall fun op => op.bufs ⊆ StableHlo.tcRefs τ sig :=
  ⟨StableHlo.unary_bufs_sub .., StableHlo.unary_bufs_sub .., StableHlo.unary_bufs_sub .., StableHlo.unary_bufs_sub .., StableHlo.unary_bufs_sub .., StableHlo.binary_bufs_sub .., StableHlo.unary_bufs_sub .., StableHlo.binary_bufs_sub .., StableHlo.unary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.binary_bufs_sub .., StableHlo.unary_bufs_sub .., StableHlo.binary_bufs_sub .., StableHlo.binary_bufs_sub .., StableHlo.nullary_bufs_sub .., StableHlo.unary_bufs_sub .., StableHlo.binary_bufs_sub .., StableHlo.binary_bufs_sub .., StableHlo.nullary_bufs_sub .., StableHlo.unary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.binary_bufs_sub .., StableHlo.binary_bufs_sub .., StableHlo.unary_bufs_sub .., StableHlo.unary_bufs_sub .., StableHlo.unary_bufs_sub .., StableHlo.binary_bufs_sub .., StableHlo.binary_bufs_sub .., StableHlo.nullary_bufs_sub ..⟩
/-- 3 host operations of @_where_2 (main_while0b_call4), in order. -/
abbrev while0Ops0_4 : List (HloOp τ sig (Elt F)) :=
  [ StableHlo.TRef.unary (.of main_while0b_cst_24 : StableHlo.TRef sig ⟨S_, .f32⟩) (.of main_while0b_call4_v0 : StableHlo.TRef sig ⟨S_, .f32⟩) id,
    StableHlo.TRef.unary (.of main_while0b_call4_v0 : StableHlo.TRef sig ⟨S_, .f32⟩) (.of main_while0b_call4_v1 : StableHlo.TRef sig ⟨S4x5000, .f32⟩) (broadcastInDim S4x5000 ![] bcast_S_S4x5000),
    StableHlo.TRef.ternary (.of main_while0b_v106 : StableHlo.TRef sig ⟨S4x5000, .i1⟩) (.of main_while0b_call4_v1 : StableHlo.TRef sig ⟨S4x5000, .f32⟩) (.of main_v46_9 : StableHlo.TRef sig ⟨S4x5000, .f32⟩) (.of main_while0b_v107 : StableHlo.TRef sig ⟨S4x5000, .f32⟩) select ]
/-- Each touches TensorCore references only (`HostSeg.ofOps` over `StableHlo.tcRefs`, or a subset by `sub_ucRefs`). -/
theorem while0Ops0_4_sub : (while0Ops0_4 : List (HloOp τ sig (Elt F))).Forall fun op => op.bufs ⊆ StableHlo.tcRefs τ sig :=
  ⟨StableHlo.unary_bufs_sub .., StableHlo.unary_bufs_sub .., StableHlo.ternary_bufs_sub ..⟩
/-- 4 host operations of @dynamic_update_index_in_dim (main_while0b_call5), in order. -/
abbrev while0Ops0_5 : List (HloOp τ sig (Elt F)) :=
  [ StableHlo.TRef.unary (.of main_while0b_v60 : StableHlo.TRef sig ⟨S4x7, .f32⟩) (.of main_while0b_call5_v0 : StableHlo.TRef sig ⟨S1x4x7, .f32⟩) (broadcastInDim S1x4x7 ![1, 2] bcast_S4x7_S1x4x7_1_2),
    StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.binaryIndexed (.of main_v46_10 : StableHlo.TRef sig ⟨S100x4x7, .f32⟩) (.of main_while0b_call5_v0 : StableHlo.TRef sig ⟨S1x4x7, .f32⟩) ![(.of main_v46_8 : StableHlo.TRef sig ⟨S_, .i32⟩), (.of main_while0b_call5_c : StableHlo.TRef sig ⟨S_, .i32⟩), (.of main_while0b_call5_c_0 : StableHlo.TRef sig ⟨S_, .i32⟩)] (.of main_while0b_v108 : StableHlo.TRef sig ⟨S100x4x7, .f32⟩) (fun x u i => Host.dynamicUpdateSlice x u (fun k => (i k (Shape.Idx.first h_S_)).toInt) updateFits_S100x4x7_S1x4x7) ]
/-- Each touches TensorCore references only (`HostSeg.ofOps` over `StableHlo.tcRefs`, or a subset by `sub_ucRefs`). -/
theorem while0Ops0_5_sub : (while0Ops0_5 : List (HloOp τ sig (Elt F))).Forall fun op => op.bufs ⊆ StableHlo.tcRefs τ sig :=
  ⟨StableHlo.unary_bufs_sub .., StableHlo.nullary_bufs_sub .., StableHlo.nullary_bufs_sub .., StableHlo.binaryIndexed_bufs_sub ..⟩
/-- 5 host operations of host loop 0's body region, in order. -/
abbrev while0Ops0_6 : List (HloOp τ sig (Elt F)) :=
  [ StableHlo.nullary main_while0b_c_25 (constantI S_ 32 1#32),
    StableHlo.binary main_v46_8 main_while0b_c_25 main_while0b_v109 (addi : (⟨S_, .i32⟩ : BufTy).Contents (Elt F) → (⟨S_, .i32⟩ : BufTy).Contents (Elt F) → (⟨S_, .i32⟩ : BufTy).Contents (Elt F)),
    StableHlo.unary main_while0b_v109 main_v46_8 id,
    StableHlo.unary main_while0b_v107 main_v46_9 id,
    StableHlo.unary main_while0b_v108 main_v46_10 id ]
/-- Each touches TensorCore references only (`HostSeg.ofOps` over `StableHlo.tcRefs`, or a subset by `sub_ucRefs`). -/
theorem while0Ops0_6_sub : (while0Ops0_6 : List (HloOp τ sig (Elt F))).Forall fun op => op.bufs ⊆ StableHlo.tcRefs τ sig :=
  ⟨StableHlo.nullary_bufs_sub .., StableHlo.binary_bufs_sub .., StableHlo.unary_bufs_sub .., StableHlo.unary_bufs_sub .., StableHlo.unary_bufs_sub ..⟩
/-- `main_while0_body` is the chain of its items (`Pipeline.chain`): operation stretches, regions, loops and branches in
    order, a module-local function called from it a stretch of its own. Each item aligned with the block's
    statements (`StableHlo.chain_seq_cons` for a stretch of its own operations, `Pipeline.chain_cons` for any other item),
    then `chain_rfl`: the KERNEL's definitional unfolding peels the `do` sequence against the items an operation at a
    time, re-associating no bind of the block's own stretches; a called function's body that holds a region, an
    `AllocateBuffer` or a call not in tail position, or a body printed in parts, is still met across its binds
    (Lib/Pipeline/Regions.lean § Aligning a block with its items). -/
theorem while0_body_chain : main_while0_body (F := F) = (Pipeline.chain
  [ StableHlo.seq while0Ops0,
    StableHlo.seq while0Ops0_1,
    StableHlo.seq while0Ops0_2,
    StableHlo.seq while0Ops0_3,
    StableHlo.seq while0Ops0_4,
    StableHlo.seq while0Ops0_5,
    StableHlo.seq while0Ops0_6 ] : Prog (TpuEff nD τ sig (Elt F) (HostLoop.Sig (Pipeline.Sig Λ₀ (Fin 0) fun p => (pcfgs (F := F) p).Adm) 1) .tc) PUnit) := by
  rewrite [Pipeline.chain_cons, StableHlo.chain_seq_cons, Pipeline.chain_cons, StableHlo.chain_seq_cons, Pipeline.chain_cons, Pipeline.chain_cons, StableHlo.chain_seq_cons]
  chain_rfl

end Cert.ReferenceIdeal.Gen

end
-- ==== Proof.RefFold.lean ====
/- The reference program runs: every weakly fair execution terminates with each buffer at the fold of its operations,
   the counted loop's trips included (`run_fold`). -/
module

public import proofs.«01_k».proof.Proof.RefOps

@[expose] public section

set_option maxRecDepth 1148

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

/-! ## The stretches: none allocates a buffer, and what each writes -/

/-- No operation of `hostOps0` allocates a buffer. -/
theorem hostOps0_fresh : (hostOps0 : List (HloOp τ sig (Elt F))).Forall fun op => op.fresh = ∅ :=
  StableHlo.forall_fresh_of_map rfl
/-- The reference each operation of `hostOps0` writes, in order. -/
abbrev hostOps0_W : List (Ref sig .tc) := [main_v0, main_v1, main_v2, main_v3, main_v4, main_v5, main_v6, main_v7, main_cst, main_v8, main_v9, main_v10, main_cst_0, main_v11, main_v12, main_v13, main_cst_1, main_v14, main_v15, main_v16, main_cst_2, main_v17, main_v18, main_v19, main_v20, main_v21, main_v22, main_cst_3, main_v23]
theorem hostOps0_writes : (hostOps0 : List (HloOp τ sig (Elt F))).Forall fun op => op.writes ⊆ (hostOps0_W.map (Proc.devRef (τ := τ) .tc)).toFinset :=
  StableHlo.forall_writes_sub_of_map rfl
/-- No operation of `hostOps0_1` allocates a buffer. -/
theorem hostOps0_1_fresh : (hostOps0_1 : List (HloOp τ sig (Elt F))).Forall fun op => op.fresh = ∅ :=
  StableHlo.forall_fresh_of_map rfl
/-- The reference each operation of `hostOps0_1` writes, in order. -/
abbrev hostOps0_1_W : List (Ref sig .tc) := [main_call0_v0, main_call0_cst, main_call0_c, main_call0_v1_0, main_v24]
theorem hostOps0_1_writes : (hostOps0_1 : List (HloOp τ sig (Elt F))).Forall fun op => op.writes ⊆ (hostOps0_1_W.map (Proc.devRef (τ := τ) .tc)).toFinset :=
  StableHlo.forall_writes_sub_of_map rfl
/-- No operation of `hostOps0_2` allocates a buffer. -/
theorem hostOps0_2_fresh : (hostOps0_2 : List (HloOp τ sig (Elt F))).Forall fun op => op.fresh = ∅ :=
  StableHlo.forall_fresh_of_map rfl
/-- The reference each operation of `hostOps0_2` writes, in order. -/
abbrev hostOps0_2_W : List (Ref sig .tc) := [main_v25, main_cst_4, main_v26, main_v27, main_cst_5, main_v28, main_v29, main_v30, main_v31, main_cst_6]
theorem hostOps0_2_writes : (hostOps0_2 : List (HloOp τ sig (Elt F))).Forall fun op => op.writes ⊆ (hostOps0_2_W.map (Proc.devRef (τ := τ) .tc)).toFinset :=
  StableHlo.forall_writes_sub_of_map rfl
/-- No operation of `hostOps0_3` allocates a buffer. -/
theorem hostOps0_3_fresh : (hostOps0_3 : List (HloOp τ sig (Elt F))).Forall fun op => op.fresh = ∅ :=
  StableHlo.forall_fresh_of_map rfl
/-- The reference each operation of `hostOps0_3` writes, in order. -/
abbrev hostOps0_3_W : List (Ref sig .tc) := [main_call1_v0, main_call1_v1, main_v32]
theorem hostOps0_3_writes : (hostOps0_3 : List (HloOp τ sig (Elt F))).Forall fun op => op.writes ⊆ (hostOps0_3_W.map (Proc.devRef (τ := τ) .tc)).toFinset :=
  StableHlo.forall_writes_sub_of_map rfl
/-- No operation of `hostOps0_4` allocates a buffer. -/
theorem hostOps0_4_fresh : (hostOps0_4 : List (HloOp τ sig (Elt F))).Forall fun op => op.fresh = ∅ :=
  StableHlo.forall_fresh_of_map rfl
/-- The reference each operation of `hostOps0_4` writes, in order. -/
abbrev hostOps0_4_W : List (Ref sig .tc) := [main_v33, main_v34, main_v35, main_v36, main_v37, main_v38, main_v39, main_v40, main_v41, main_v42, main_v43, main_v44, main_cst_7, main_v45, main_c, main_v46_0, main_v46_1, main_v46_2, main_v46_3, main_v46_4, main_v46_5, main_v46_6, main_v46_7, main_v46_8, main_v46_9, main_v46_10]
theorem hostOps0_4_writes : (hostOps0_4 : List (HloOp τ sig (Elt F))).Forall fun op => op.writes ⊆ (hostOps0_4_W.map (Proc.devRef (τ := τ) .tc)).toFinset :=
  StableHlo.forall_writes_sub_of_map rfl
/-- No operation of `while0Ops0` allocates a buffer. -/
theorem while0Ops0_fresh : (while0Ops0 : List (HloOp τ sig (Elt F))).Forall fun op => op.fresh = ∅ :=
  StableHlo.forall_fresh_of_map rfl
/-- The reference each operation of `while0Ops0` writes, in order. -/
abbrev while0Ops0_W : List (Ref sig .tc) := [main_while0b_call2_v0, main_while0b_call2_cst, main_while0b_call2_c, main_while0b_call2_v1_0, main_while0b_v48]
theorem while0Ops0_writes : (while0Ops0 : List (HloOp τ sig (Elt F))).Forall fun op => op.writes ⊆ (while0Ops0_W.map (Proc.devRef (τ := τ) .tc)).toFinset :=
  StableHlo.forall_writes_sub_of_map rfl
/-- No operation of `while0Ops0_1` allocates a buffer. -/
theorem while0Ops0_1_fresh : (while0Ops0_1 : List (HloOp τ sig (Elt F))).Forall fun op => op.fresh = ∅ :=
  StableHlo.forall_fresh_of_map rfl
/-- The reference each operation of `while0Ops0_1` writes, in order. -/
abbrev while0Ops0_1_W : List (Ref sig .tc) := [main_while0b_v49, main_while0b_v50, main_while0b_v51, main_while0b_v52, main_while0b_v53, main_while0b_cst_18, main_while0b_v54, main_while0b_v55, main_while0b_v56, main_while0b_v57, main_while0b_v58, main_while0b_v59, main_while0b_cst_19]
theorem while0Ops0_1_writes : (while0Ops0_1 : List (HloOp τ sig (Elt F))).Forall fun op => op.writes ⊆ (while0Ops0_1_W.map (Proc.devRef (τ := τ) .tc)).toFinset :=
  StableHlo.forall_writes_sub_of_map rfl
/-- No operation of `while0Ops0_2` allocates a buffer. -/
theorem while0Ops0_2_fresh : (while0Ops0_2 : List (HloOp τ sig (Elt F))).Forall fun op => op.fresh = ∅ :=
  StableHlo.forall_fresh_of_map rfl
/-- The reference each operation of `while0Ops0_2` writes, in order. -/
abbrev while0Ops0_2_W : List (Ref sig .tc) := [main_while0b_call3_v0, main_while0b_call3_v1, main_while0b_call3_v2, main_while0b_v60]
theorem while0Ops0_2_writes : (while0Ops0_2 : List (HloOp τ sig (Elt F))).Forall fun op => op.writes ⊆ (while0Ops0_2_W.map (Proc.devRef (τ := τ) .tc)).toFinset :=
  StableHlo.forall_writes_sub_of_map rfl
/-- No operation of `while0Ops0_3` allocates a buffer. -/
theorem while0Ops0_3_fresh : (while0Ops0_3 : List (HloOp τ sig (Elt F))).Forall fun op => op.fresh = ∅ :=
  StableHlo.forall_fresh_of_map rfl
/-- The reference each operation of `while0Ops0_3` writes, in order. -/
abbrev while0Ops0_3_W : List (Ref sig .tc) := [main_while0b_v61, main_while0b_v62, main_while0b_v63, main_while0b_v64, main_while0b_v65, main_while0b_v66, main_while0b_v67, main_while0b_v68, main_while0b_v69, main_while0b_v70, main_while0b_v71, main_while0b_v72, main_while0b_v73, main_while0b_cst_20, main_while0b_v74, main_while0b_v75, main_while0b_v76, main_while0b_cst_21, main_while0b_v77, main_while0b_v78, main_while0b_v79, main_while0b_v80, main_while0b_v81, main_while0b_v82, main_while0b_v83, main_while0b_v84, main_while0b_v85, main_while0b_v86, main_while0b_v87, main_while0b_v88, main_while0b_cst_22, main_while0b_v89, main_while0b_v90, main_while0b_v91, main_while0b_cst_23, main_while0b_v92, main_while0b_v93, main_while0b_v94, main_while0b_v95, main_while0b_v96, main_while0b_v97, main_while0b_v98, main_while0b_v99, main_while0b_v100, main_while0b_v101, main_while0b_v102, main_while0b_v103, main_while0b_v104, main_while0b_v105, main_while0b_v106, main_while0b_cst_24]
theorem while0Ops0_3_writes : (while0Ops0_3 : List (HloOp τ sig (Elt F))).Forall fun op => op.writes ⊆ (while0Ops0_3_W.map (Proc.devRef (τ := τ) .tc)).toFinset :=
  StableHlo.forall_writes_sub_of_map rfl
/-- No operation of `while0Ops0_4` allocates a buffer. -/
theorem while0Ops0_4_fresh : (while0Ops0_4 : List (HloOp τ sig (Elt F))).Forall fun op => op.fresh = ∅ :=
  StableHlo.forall_fresh_of_map rfl
/-- The reference each operation of `while0Ops0_4` writes, in order. -/
abbrev while0Ops0_4_W : List (Ref sig .tc) := [main_while0b_call4_v0, main_while0b_call4_v1, main_while0b_v107]
theorem while0Ops0_4_writes : (while0Ops0_4 : List (HloOp τ sig (Elt F))).Forall fun op => op.writes ⊆ (while0Ops0_4_W.map (Proc.devRef (τ := τ) .tc)).toFinset :=
  StableHlo.forall_writes_sub_of_map rfl
/-- No operation of `while0Ops0_5` allocates a buffer. -/
theorem while0Ops0_5_fresh : (while0Ops0_5 : List (HloOp τ sig (Elt F))).Forall fun op => op.fresh = ∅ :=
  StableHlo.forall_fresh_of_map rfl
/-- The reference each operation of `while0Ops0_5` writes, in order. -/
abbrev while0Ops0_5_W : List (Ref sig .tc) := [main_while0b_call5_v0, main_while0b_call5_c, main_while0b_call5_c_0, main_while0b_v108]
theorem while0Ops0_5_writes : (while0Ops0_5 : List (HloOp τ sig (Elt F))).Forall fun op => op.writes ⊆ (while0Ops0_5_W.map (Proc.devRef (τ := τ) .tc)).toFinset :=
  StableHlo.forall_writes_sub_of_map rfl
/-- No operation of `while0Ops0_6` allocates a buffer. -/
theorem while0Ops0_6_fresh : (while0Ops0_6 : List (HloOp τ sig (Elt F))).Forall fun op => op.fresh = ∅ :=
  StableHlo.forall_fresh_of_map rfl
/-- The reference each operation of `while0Ops0_6` writes, in order. -/
abbrev while0Ops0_6_W : List (Ref sig .tc) := [main_while0b_c_25, main_while0b_v109, main_v46_8, main_v46_9, main_v46_10]
theorem while0Ops0_6_writes : (while0Ops0_6 : List (HloOp τ sig (Elt F))).Forall fun op => op.writes ⊆ (while0Ops0_6_W.map (Proc.devRef (τ := τ) .tc)).toFinset :=
  StableHlo.forall_writes_sub_of_map rfl
/-- No operation of `hostOps0_5` allocates a buffer. -/
theorem hostOps0_5_fresh : (hostOps0_5 : List (HloOp τ sig (Elt F))).Forall fun op => op.fresh = ∅ :=
  StableHlo.forall_fresh_of_map rfl
/-- The reference each operation of `hostOps0_5` writes, in order. -/
abbrev hostOps0_5_W : List (Ref sig .tc) := [main_v47]
theorem hostOps0_5_writes : (hostOps0_5 : List (HloOp τ sig (Elt F))).Forall fun op => op.writes ⊆ (hostOps0_5_W.map (Proc.devRef (τ := τ) .tc)).toFinset :=
  StableHlo.forall_writes_sub_of_map rfl

/-- The condition region's two operations: the bound, and the trip counter compared with it. -/
abbrev condOps : List (HloOp τ sig (Elt F)) :=
  [ StableHlo.nullary main_while0c_c_18 (constantI S_ 32 100#32),
    StableHlo.binary main_v46_8 main_while0c_c_18 main_while0c_v48 (cmpi .slt) ]

/-- @main's stretches before the loop, the loop body's, and @main's after the loop. -/
abbrev preI : List (List (HloOp τ sig (Elt F))) := [hostOps0, hostOps0_1, hostOps0_2, hostOps0_3, hostOps0_4]
abbrev bodyI : List (List (HloOp τ sig (Elt F))) := [while0Ops0, while0Ops0_1, while0Ops0_2, while0Ops0_3, while0Ops0_4, while0Ops0_5, while0Ops0_6]
abbrev postI : List (List (HloOp τ sig (Elt F))) := [hostOps0_5]

theorem hpre : Plain (preI (F := F)) := .cons hostOps0_sub (hf := List.forall_iff_forall_mem.mp hostOps0_fresh) (.cons hostOps0_1_sub (hf := List.forall_iff_forall_mem.mp hostOps0_1_fresh) (.cons hostOps0_2_sub (hf := List.forall_iff_forall_mem.mp hostOps0_2_fresh) (.cons hostOps0_3_sub (hf := List.forall_iff_forall_mem.mp hostOps0_3_fresh) (.cons hostOps0_4_sub (hf := List.forall_iff_forall_mem.mp hostOps0_4_fresh) (.nil)))))
theorem hbodyI : Plain (bodyI (F := F)) := .cons while0Ops0_sub (hf := List.forall_iff_forall_mem.mp while0Ops0_fresh) (.cons while0Ops0_1_sub (hf := List.forall_iff_forall_mem.mp while0Ops0_1_fresh) (.cons while0Ops0_2_sub (hf := List.forall_iff_forall_mem.mp while0Ops0_2_fresh) (.cons while0Ops0_3_sub (hf := List.forall_iff_forall_mem.mp while0Ops0_3_fresh) (.cons while0Ops0_4_sub (hf := List.forall_iff_forall_mem.mp while0Ops0_4_fresh) (.cons while0Ops0_5_sub (hf := List.forall_iff_forall_mem.mp while0Ops0_5_fresh) (.cons while0Ops0_6_sub (hf := List.forall_iff_forall_mem.mp while0Ops0_6_fresh) (.nil)))))))
theorem hpost : Plain (postI (F := F)) := .cons hostOps0_5_sub (hf := List.forall_iff_forall_mem.mp hostOps0_5_fresh) (.nil)

/-- The reference each operation of `condOps` writes, in order. -/
abbrev condOps_W : List (Ref sig .tc) := [main_while0c_c_18, main_while0c_v48]
theorem condOps_writes : (condOps : List (HloOp τ sig (Elt F))).Forall fun op => op.writes ⊆ (condOps_W.map (Proc.devRef (τ := τ) .tc)).toFinset :=
  StableHlo.forall_writes_sub_of_map rfl

variable (m : (ℓ : Loc nD τ sig) → Buf (Elt F) ℓ) (ρ : Dev nD → PrngReg)

/-- Every buffer's contents before the `k`-th run of the condition, counted from 0. -/
abbrev atK (k : ℕ) (c : Dev nD) : Valuation τ sig (Elt F) := atTrip condOps bodyI (entryContents preI m) k c

/-- The trip counter (`main_v46_8`) is written by one stretch of the body, `while0Ops0_6`: not by the condition, nor by the
    body's other stretches. -/
theorem ctr_cond (V : Valuation τ sig (Elt F)) : after condOps V (Proc.devRef .tc main_v46_8) = V (Proc.devRef .tc main_v46_8) :=
  after_of_writes_sub condOps V condOps_writes (by decide +kernel)
theorem ctr_while0Ops0 (V : Valuation τ sig (Elt F)) : after while0Ops0 V (Proc.devRef .tc main_v46_8) = V (Proc.devRef .tc main_v46_8) :=
  after_of_writes_sub while0Ops0 V while0Ops0_writes (by decide +kernel)
theorem ctr_while0Ops0_1 (V : Valuation τ sig (Elt F)) : after while0Ops0_1 V (Proc.devRef .tc main_v46_8) = V (Proc.devRef .tc main_v46_8) :=
  after_of_writes_sub while0Ops0_1 V while0Ops0_1_writes (by decide +kernel)
theorem ctr_while0Ops0_2 (V : Valuation τ sig (Elt F)) : after while0Ops0_2 V (Proc.devRef .tc main_v46_8) = V (Proc.devRef .tc main_v46_8) :=
  after_of_writes_sub while0Ops0_2 V while0Ops0_2_writes (by decide +kernel)
theorem ctr_while0Ops0_3 (V : Valuation τ sig (Elt F)) : after while0Ops0_3 V (Proc.devRef .tc main_v46_8) = V (Proc.devRef .tc main_v46_8) :=
  after_of_writes_sub while0Ops0_3 V while0Ops0_3_writes (by decide +kernel)
theorem ctr_while0Ops0_4 (V : Valuation τ sig (Elt F)) : after while0Ops0_4 V (Proc.devRef .tc main_v46_8) = V (Proc.devRef .tc main_v46_8) :=
  after_of_writes_sub while0Ops0_4 V while0Ops0_4_writes (by decide +kernel)
theorem ctr_while0Ops0_5 (V : Valuation τ sig (Elt F)) : after while0Ops0_5 V (Proc.devRef .tc main_v46_8) = V (Proc.devRef .tc main_v46_8) :=
  after_of_writes_sub while0Ops0_5 V while0Ops0_5_writes (by decide +kernel)

set_option maxRecDepth 100000 in
/-- `while0Ops0_6` leaves the counter one step on. -/
theorem ctr_step (X : Valuation τ sig (Elt F)) :
    after while0Ops0_6 X (Proc.devRef .tc main_v46_8) = addi (X (Proc.devRef .tc main_v46_8)) (constantI S_ 32 1#32) := by
  after_results
  rfl

/-- The counter is the loop's lower bound at the loop's entry: its last writer before the loop read back. -/
theorem ctr_entry (c : Dev nD) : entryContents preI m c (Proc.devRef .tc main_v46_8) = fun _ => (0#32 : BitVec 32) := by
  simp only [entryContents, afterL_cons, afterL_nil]
  after_reads_simp
  rfl

/-- Before the `k`-th condition the counter is the loop's induction variable at `k`. -/
theorem atK_ctr (c : Dev nD) : ∀ k, atK m k c (Proc.devRef .tc main_v46_8) = fun _ => Scf.iv 0#32 1#32 k
  | 0 => by rw [show atK m 0 c = entryContents preI m c from rfl, ctr_entry, Scf.iv_zero]
  | k + 1 => by
    rw [show atK m (k + 1) c = afterL bodyI (after condOps (atK m k c)) from rfl]
    simp only [afterL_cons, afterL_nil]
    rw [ctr_step, ctr_while0Ops0_5, ctr_while0Ops0_4, ctr_while0Ops0_3, ctr_while0Ops0_2, ctr_while0Ops0_1, ctr_while0Ops0, ctr_cond, atK_ctr c k, Scf.iv_succ]
    rfl

-- `iapply` of a rule stated for any thread at the TensorCore thread unifies only when unification may unfold
-- plain definitions in a metavariable's type
set_option backward.isDefEq.respectTransparency.types false in
/-- The condition's specification at the fold. -/
theorem cond_spec : CondSpec (pcfgs (F := F)) defs₀ loops (main_while0_cond (F := F)) condOps bodyI (entryContents preI m) 100 := by
  intro k hk c bd
  have hctr := atK_ctr m c k
  unfold main_while0_cond
  rw [wp_bind]
  iintro ⟨Hb, Hh⟩
  iapply (wp_hlo_within (Variants.lift Variants.none) (c : Thread nD τ) bd Set.univ (sub_ucRefs _ (nullary_bufs_sub ..))) $$ [Hb Hh]
  · isplitl [Hb]; · iexact Hb
    iexact Hh
  iintro ⟨Hb, Hh⟩
  rw [wp_ret]; imodintro
  iapply (wp_hlo_within (Variants.lift Variants.none) (c : Thread nD τ) bd Set.univ (sub_ucRefs _ (binary_bufs_sub ..))) $$ [Hb Hh]
  · isplitl [Hb]; · iexact Hb
    iexact Hh
  iintro ⟨Hb, Hh⟩
  rw [HostLoop.elt_apply, wp_ret]; imodintro
  isplitr
  · ipureintro
    show Iff (IntOp.cmpi .slt (HloOp.result _ (atK m k c) main_v46_8 HostLoop.idx0)
        (HloOp.result _ (atK m k c) main_while0c_c_18 HostLoop.idx0) = 1#1) (k < 100)
    rw [nullary_result_ne _ _ _ _ (by decide), nullary_result, hctr]
    exact Scf.cmpi_slt_iv_ub_iff (lb := 0#32) (ub := 100#32) (st := 1#32) (by decide) (show k ≤ Scf.trips 0#32 100#32 1#32 from hk)
  isplitl [Hb]; · iexact Hb
  rw [after_cons, after_cons, after_nil]; iexact Hh

set_option maxRecDepth 100000 in
/-- On every device, for any float values, from any memory with zero counters: every weakly fair execution of @main
    terminates with every unscoped TensorCore buffer at the fold. -/
theorem run_fold : θ_run (defs (F := F)) (onTc (τ := τ) (main (F := F))) ⟨m, fun _ => 0, ρ⟩
    (fun r => ∀ (c : Dev nD) (b : Ref sig .tc), (Proc.devRef .tc b : DevRef τ sig).isScoped = false →
      r.2.mem ((c.tc : Thread nD τ).loc b) = finalContents condOps preI bodyI postI 100 m c (Proc.devRef .tc b)) :=
  run_loop (pcfgs (F := F)) defs₀ loops main 0 main_while0_cond main_while0_body rfl preI bodyI postI condOps hpre hbodyI hpost
    (fun c => by rw [main_chain]; rfl) (by rw [while0_body_chain]; rfl) 100 m ρ (cond_spec m)

end Cert.ReferenceIdeal.Value

end
-- ==== Proof.RefTrip.lean ====
/- One trip of the reference's loop: what the body makes of each carried array, from any contents it starts from
   (`step_…`), the trip as one map of contents (`STEP`), and the program's result as that map repeated 100 times (`run`). -/
module

public import proofs.«01_k».proof.Proof.RefFold

@[expose] public section

set_option maxRecDepth 1148

noncomputable section

namespace Cert.ReferenceIdeal.Value

open Cert.ReferenceIdeal Cert.ReferenceIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.StableHlo
open Idealize.ShloMosaic.Pipeline (ucRefs sub_ucRefs)

variable {F : FTy → Type} [FloatOps F]

variable (m : (ℓ : Loc nD τ sig) → Buf (Elt F) ℓ) (ρ : Dev nD → PrngReg)

/-! ## One trip's values -/

/-- The function of the body's operation that writes `main_while0b_v51`, named. It packs its operands into a list of dependent pairs
    whose shapes a later argument's type mentions, so `simp` cannot rewrite an operand where it stands; applied by
    name, the operands are plain arguments, which the window lemmas below rewrite before the name unfolds. -/
def fn_main_while0b_v51 : (⟨S4x1, .i32⟩ : BufTy).Contents (Elt F) → (⟨S4x1, .i32⟩ : BufTy).Contents (Elt F) → (⟨S4x2, .i32⟩ : BufTy).Contents (Elt F) :=
  (fun a b => concatenate S4x2 1 [⟨S4x1, a⟩, ⟨S4x1, b⟩] concatenates_S4x1_S4x1_S4x2_d1)

/-- The function of the body's operation that writes `main_while0b_v58`, named. It packs its operands into a list of dependent pairs
    whose shapes a later argument's type mentions, so `simp` cannot rewrite an operand where it stands; applied by
    name, the operands are plain arguments, which the window lemmas below rewrite before the name unfolds. -/
def fn_main_while0b_v58 : (⟨S4x1, .i32⟩ : BufTy).Contents (Elt F) → (⟨S4x1, .i32⟩ : BufTy).Contents (Elt F) → (⟨S4x2, .i32⟩ : BufTy).Contents (Elt F) :=
  (fun a b => concatenate S4x2 1 [⟨S4x1, a⟩, ⟨S4x1, b⟩] concatenates_S4x1_S4x1_S4x2_d1)

/-- The function of the body's operation that writes `main_while0b_v96`, named. It packs its operands into a list of dependent pairs
    whose shapes a later argument's type mentions, so `simp` cannot rewrite an operand where it stands; applied by
    name, the operands are plain arguments, which the window lemmas below rewrite before the name unfolds. -/
def fn_main_while0b_v96 : (⟨S4x1, .i32⟩ : BufTy).Contents (Elt F) → (⟨S4x1, .i32⟩ : BufTy).Contents (Elt F) → (⟨S4x2, .i32⟩ : BufTy).Contents (Elt F) :=
  (fun a b => concatenate S4x2 1 [⟨S4x1, a⟩, ⟨S4x1, b⟩] concatenates_S4x1_S4x1_S4x2_d1)

/-- The body's operations 1 … 5 of 85. -/
abbrev trip_w0 : List (HloOp τ sig (Elt F)) :=
  [ StableHlo.TRef.nullary (.of main_while0b_call2_v0 : StableHlo.TRef sig ⟨S4x5000, .i32⟩) (iotaInDim S4x5000 32 1),
    StableHlo.TRef.nullary (.of main_while0b_call2_cst : StableHlo.TRef sig ⟨S_, .f32⟩) (constant S_ .f32 0xFF800000#32),
    StableHlo.TRef.nullary (.of main_while0b_call2_c : StableHlo.TRef sig ⟨S_, .i32⟩) (constantI S_ 32 0#32),
    StableHlo.TRef.quaternary (.of main_v46_9 : StableHlo.TRef sig ⟨S4x5000, .f32⟩) (.of main_while0b_call2_v0 : StableHlo.TRef sig ⟨S4x5000, .i32⟩) (.of main_while0b_call2_cst : StableHlo.TRef sig ⟨S_, .f32⟩) (.of main_while0b_call2_c : StableHlo.TRef sig ⟨S_, .i32⟩) (.of main_while0b_call2_v1_0 : StableHlo.TRef sig ⟨S4, .f32⟩) (fun x y u v j => (Host.argReduce reducer_argmax_f32_i32 x y u v reducesTo_S4x5000_S4_d1 h_S_ j).1),
    StableHlo.TRef.quaternary (.of main_v46_9 : StableHlo.TRef sig ⟨S4x5000, .f32⟩) (.of main_while0b_call2_v0 : StableHlo.TRef sig ⟨S4x5000, .i32⟩) (.of main_while0b_call2_cst : StableHlo.TRef sig ⟨S_, .f32⟩) (.of main_while0b_call2_c : StableHlo.TRef sig ⟨S_, .i32⟩) (.of main_while0b_v48 : StableHlo.TRef sig ⟨S4, .i32⟩) (fun x y u v j => (Host.argReduce reducer_argmax_f32_i32 x y u v reducesTo_S4x5000_S4_d1 h_S_ j).2) ]

/-- The body's operations 6 … 18 of 85. -/
abbrev trip_w1 : List (HloOp τ sig (Elt F)) :=
  [ StableHlo.unary main_v46_0 main_while0b_v49 (broadcastInDim S4x1 ![0] bcast_S4_S4x1_0 : (⟨S4, .i32⟩ : BufTy).Contents (Elt F) → (⟨S4x1, .i32⟩ : BufTy).Contents (Elt F)),
    StableHlo.unary main_while0b_v48 main_while0b_v50 (broadcastInDim S4x1 ![0] bcast_S4_S4x1_0 : (⟨S4, .i32⟩ : BufTy).Contents (Elt F) → (⟨S4x1, .i32⟩ : BufTy).Contents (Elt F)),
    StableHlo.binary main_while0b_v49 main_while0b_v50 main_while0b_v51 (fn_main_while0b_v51 (F := F)),
    StableHlo.binary main_v46_9 main_while0b_v51 main_while0b_v52 ((fun x i => Host.gather gather_S4x5000_S4x2_S4_n_01_n_n_01_1_11 x i) : (⟨S4x5000, .f32⟩ : BufTy).Contents (Elt F) → (⟨S4x2, .i32⟩ : BufTy).Contents (Elt F) → (⟨S4, .f32⟩ : BufTy).Contents (Elt F)),
    StableHlo.unary main_while0b_v52 main_while0b_v53 (broadcastInDim S4x1 ![0] bcast_S4_S4x1_0 : (⟨S4, .f32⟩ : BufTy).Contents (Elt F) → (⟨S4x1, .f32⟩ : BufTy).Contents (Elt F)),
    StableHlo.nullary main_while0b_cst_18 (constant S_ .f32 0xFF800000#32),
    StableHlo.unary main_while0b_cst_18 main_while0b_v54 (broadcastInDim S4x1 ![] bcast_S_S4x1 : (⟨S_, .f32⟩ : BufTy).Contents (Elt F) → (⟨S4x1, .f32⟩ : BufTy).Contents (Elt F)),
    StableHlo.binary main_while0b_v53 main_while0b_v54 main_while0b_v55 (cmpf .ogt : (⟨S4x1, .f32⟩ : BufTy).Contents (Elt F) → (⟨S4x1, .f32⟩ : BufTy).Contents (Elt F) → (⟨S4x1, .i1⟩ : BufTy).Contents (Elt F)),
    StableHlo.unary main_v46_0 main_while0b_v56 (broadcastInDim S4x1 ![0] bcast_S4_S4x1_0 : (⟨S4, .i32⟩ : BufTy).Contents (Elt F) → (⟨S4x1, .i32⟩ : BufTy).Contents (Elt F)),
    StableHlo.unary main_while0b_v48 main_while0b_v57 (broadcastInDim S4x1 ![0] bcast_S4_S4x1_0 : (⟨S4, .i32⟩ : BufTy).Contents (Elt F) → (⟨S4x1, .i32⟩ : BufTy).Contents (Elt F)),
    StableHlo.binary main_while0b_v56 main_while0b_v57 main_while0b_v58 (fn_main_while0b_v58 (F := F)),
    StableHlo.binary main_v46_1 main_while0b_v58 main_while0b_v59 ((fun x i => Host.gather gather_S4x5000x7_S4x2_S4x7_1_01_n_n_01_1_117 x i) : (⟨S4x5000x7, .f32⟩ : BufTy).Contents (Elt F) → (⟨S4x2, .i32⟩ : BufTy).Contents (Elt F) → (⟨S4x7, .f32⟩ : BufTy).Contents (Elt F)),
    StableHlo.nullary main_while0b_cst_19 (constant S_ .f32 0x00000000#32) ]

/-- The body's operations 19 … 22 of 85. -/
abbrev trip_w2 : List (HloOp τ sig (Elt F)) :=
  [ StableHlo.TRef.unary (.of main_while0b_cst_19 : StableHlo.TRef sig ⟨S_, .f32⟩) (.of main_while0b_call3_v0 : StableHlo.TRef sig ⟨S_, .f32⟩) id,
    StableHlo.TRef.unary (.of main_while0b_v55 : StableHlo.TRef sig ⟨S4x1, .i1⟩) (.of main_while0b_call3_v1 : StableHlo.TRef sig ⟨S4x7, .i1⟩) (broadcastInDim S4x7 ![0, 1] bcast_S4x1_S4x7_0_1),
    StableHlo.TRef.unary (.of main_while0b_call3_v0 : StableHlo.TRef sig ⟨S_, .f32⟩) (.of main_while0b_call3_v2 : StableHlo.TRef sig ⟨S4x7, .f32⟩) (broadcastInDim S4x7 ![] bcast_S_S4x7),
    StableHlo.TRef.ternary (.of main_while0b_call3_v1 : StableHlo.TRef sig ⟨S4x7, .i1⟩) (.of main_while0b_v59 : StableHlo.TRef sig ⟨S4x7, .f32⟩) (.of main_while0b_call3_v2 : StableHlo.TRef sig ⟨S4x7, .f32⟩) (.of main_while0b_v60 : StableHlo.TRef sig ⟨S4x7, .f32⟩) select ]

/-- The body's operations 23 … 46 of 85. -/
abbrev trip_w3 : List (HloOp τ sig (Elt F)) :=
  [ StableHlo.unary main_while0b_v59 main_while0b_v61 ((extractStridedSlice S4x1 ![0, 0] · slices_S4x7_S4x1_0_0) : (⟨S4x7, .f32⟩ : BufTy).Contents (Elt F) → (⟨S4x1, .f32⟩ : BufTy).Contents (Elt F)),
    StableHlo.unary main_while0b_v59 main_while0b_v62 ((extractStridedSlice S4x1 ![0, 1] · slices_S4x7_S4x1_0_1) : (⟨S4x7, .f32⟩ : BufTy).Contents (Elt F) → (⟨S4x1, .f32⟩ : BufTy).Contents (Elt F)),
    StableHlo.unary main_while0b_v59 main_while0b_v63 ((extractStridedSlice S4x1 ![0, 2] · slices_S4x7_S4x1_0_2) : (⟨S4x7, .f32⟩ : BufTy).Contents (Elt F) → (⟨S4x1, .f32⟩ : BufTy).Contents (Elt F)),
    StableHlo.unary main_while0b_v59 main_while0b_v64 ((extractStridedSlice S4x1 ![0, 3] · slices_S4x7_S4x1_0_3) : (⟨S4x7, .f32⟩ : BufTy).Contents (Elt F) → (⟨S4x1, .f32⟩ : BufTy).Contents (Elt F)),
    StableHlo.unary main_while0b_v61 main_while0b_v65 (broadcastInDim S4x5000 ![0, 1] bcast_S4x1_S4x5000_0_1 : (⟨S4x1, .f32⟩ : BufTy).Contents (Elt F) → (⟨S4x5000, .f32⟩ : BufTy).Contents (Elt F)),
    StableHlo.binary main_while0b_v65 main_v46_2 main_while0b_v66 (maximumf : (⟨S4x5000, .f32⟩ : BufTy).Contents (Elt F) → (⟨S4x5000, .f32⟩ : BufTy).Contents (Elt F) → (⟨S4x5000, .f32⟩ : BufTy).Contents (Elt F)),
    StableHlo.unary main_while0b_v62 main_while0b_v67 (broadcastInDim S4x5000 ![0, 1] bcast_S4x1_S4x5000_0_1 : (⟨S4x1, .f32⟩ : BufTy).Contents (Elt F) → (⟨S4x5000, .f32⟩ : BufTy).Contents (Elt F)),
    StableHlo.binary main_while0b_v67 main_v46_3 main_while0b_v68 (maximumf : (⟨S4x5000, .f32⟩ : BufTy).Contents (Elt F) → (⟨S4x5000, .f32⟩ : BufTy).Contents (Elt F) → (⟨S4x5000, .f32⟩ : BufTy).Contents (Elt F)),
    StableHlo.unary main_while0b_v63 main_while0b_v69 (broadcastInDim S4x5000 ![0, 1] bcast_S4x1_S4x5000_0_1 : (⟨S4x1, .f32⟩ : BufTy).Contents (Elt F) → (⟨S4x5000, .f32⟩ : BufTy).Contents (Elt F)),
    StableHlo.binary main_while0b_v69 main_v46_4 main_while0b_v70 (minimumf : (⟨S4x5000, .f32⟩ : BufTy).Contents (Elt F) → (⟨S4x5000, .f32⟩ : BufTy).Contents (Elt F) → (⟨S4x5000, .f32⟩ : BufTy).Contents (Elt F)),
    StableHlo.unary main_while0b_v64 main_while0b_v71 (broadcastInDim S4x5000 ![0, 1] bcast_S4x1_S4x5000_0_1 : (⟨S4x1, .f32⟩ : BufTy).Contents (Elt F) → (⟨S4x5000, .f32⟩ : BufTy).Contents (Elt F)),
    StableHlo.binary main_while0b_v71 main_v46_5 main_while0b_v72 (minimumf : (⟨S4x5000, .f32⟩ : BufTy).Contents (Elt F) → (⟨S4x5000, .f32⟩ : BufTy).Contents (Elt F) → (⟨S4x5000, .f32⟩ : BufTy).Contents (Elt F)),
    StableHlo.binary main_while0b_v70 main_while0b_v66 main_while0b_v73 (subf : (⟨S4x5000, .f32⟩ : BufTy).Contents (Elt F) → (⟨S4x5000, .f32⟩ : BufTy).Contents (Elt F) → (⟨S4x5000, .f32⟩ : BufTy).Contents (Elt F)),
    StableHlo.nullary main_while0b_cst_20 (constant S_ .f32 0x00000000#32),
    StableHlo.unary main_while0b_cst_20 main_while0b_v74 (broadcastInDim S4x5000 ![] bcast_S_S4x5000 : (⟨S_, .f32⟩ : BufTy).Contents (Elt F) → (⟨S4x5000, .f32⟩ : BufTy).Contents (Elt F)),
    StableHlo.binary main_while0b_v73 main_while0b_v74 main_while0b_v75 (maximumf : (⟨S4x5000, .f32⟩ : BufTy).Contents (Elt F) → (⟨S4x5000, .f32⟩ : BufTy).Contents (Elt F) → (⟨S4x5000, .f32⟩ : BufTy).Contents (Elt F)),
    StableHlo.binary main_while0b_v72 main_while0b_v68 main_while0b_v76 (subf : (⟨S4x5000, .f32⟩ : BufTy).Contents (Elt F) → (⟨S4x5000, .f32⟩ : BufTy).Contents (Elt F) → (⟨S4x5000, .f32⟩ : BufTy).Contents (Elt F)),
    StableHlo.nullary main_while0b_cst_21 (constant S_ .f32 0x00000000#32),
    StableHlo.unary main_while0b_cst_21 main_while0b_v77 (broadcastInDim S4x5000 ![] bcast_S_S4x5000 : (⟨S_, .f32⟩ : BufTy).Contents (Elt F) → (⟨S4x5000, .f32⟩ : BufTy).Contents (Elt F)),
    StableHlo.binary main_while0b_v76 main_while0b_v77 main_while0b_v78 (maximumf : (⟨S4x5000, .f32⟩ : BufTy).Contents (Elt F) → (⟨S4x5000, .f32⟩ : BufTy).Contents (Elt F) → (⟨S4x5000, .f32⟩ : BufTy).Contents (Elt F)),
    StableHlo.binary main_while0b_v75 main_while0b_v78 main_while0b_v79 (mulf : (⟨S4x5000, .f32⟩ : BufTy).Contents (Elt F) → (⟨S4x5000, .f32⟩ : BufTy).Contents (Elt F) → (⟨S4x5000, .f32⟩ : BufTy).Contents (Elt F)),
    StableHlo.binary main_while0b_v63 main_while0b_v61 main_while0b_v80 (subf : (⟨S4x1, .f32⟩ : BufTy).Contents (Elt F) → (⟨S4x1, .f32⟩ : BufTy).Contents (Elt F) → (⟨S4x1, .f32⟩ : BufTy).Contents (Elt F)),
    StableHlo.binary main_while0b_v64 main_while0b_v62 main_while0b_v81 (subf : (⟨S4x1, .f32⟩ : BufTy).Contents (Elt F) → (⟨S4x1, .f32⟩ : BufTy).Contents (Elt F) → (⟨S4x1, .f32⟩ : BufTy).Contents (Elt F)),
    StableHlo.binary main_while0b_v80 main_while0b_v81 main_while0b_v82 (mulf : (⟨S4x1, .f32⟩ : BufTy).Contents (Elt F) → (⟨S4x1, .f32⟩ : BufTy).Contents (Elt F) → (⟨S4x1, .f32⟩ : BufTy).Contents (Elt F)) ]

/-- The body's operations 47 … 70 of 85. -/
abbrev trip_w4 : List (HloOp τ sig (Elt F)) :=
  [ StableHlo.binary main_v46_4 main_v46_2 main_while0b_v83 (subf : (⟨S4x5000, .f32⟩ : BufTy).Contents (Elt F) → (⟨S4x5000, .f32⟩ : BufTy).Contents (Elt F) → (⟨S4x5000, .f32⟩ : BufTy).Contents (Elt F)),
    StableHlo.binary main_v46_5 main_v46_3 main_while0b_v84 (subf : (⟨S4x5000, .f32⟩ : BufTy).Contents (Elt F) → (⟨S4x5000, .f32⟩ : BufTy).Contents (Elt F) → (⟨S4x5000, .f32⟩ : BufTy).Contents (Elt F)),
    StableHlo.binary main_while0b_v83 main_while0b_v84 main_while0b_v85 (mulf : (⟨S4x5000, .f32⟩ : BufTy).Contents (Elt F) → (⟨S4x5000, .f32⟩ : BufTy).Contents (Elt F) → (⟨S4x5000, .f32⟩ : BufTy).Contents (Elt F)),
    StableHlo.unary main_while0b_v82 main_while0b_v86 (broadcastInDim S4x5000 ![0, 1] bcast_S4x1_S4x5000_0_1 : (⟨S4x1, .f32⟩ : BufTy).Contents (Elt F) → (⟨S4x5000, .f32⟩ : BufTy).Contents (Elt F)),
    StableHlo.binary main_while0b_v86 main_while0b_v85 main_while0b_v87 (addf : (⟨S4x5000, .f32⟩ : BufTy).Contents (Elt F) → (⟨S4x5000, .f32⟩ : BufTy).Contents (Elt F) → (⟨S4x5000, .f32⟩ : BufTy).Contents (Elt F)),
    StableHlo.binary main_while0b_v87 main_while0b_v79 main_while0b_v88 (subf : (⟨S4x5000, .f32⟩ : BufTy).Contents (Elt F) → (⟨S4x5000, .f32⟩ : BufTy).Contents (Elt F) → (⟨S4x5000, .f32⟩ : BufTy).Contents (Elt F)),
    StableHlo.nullary main_while0b_cst_22 (constant S_ .f32 0x3089705F#32),
    StableHlo.unary main_while0b_cst_22 main_while0b_v89 (broadcastInDim S4x5000 ![] bcast_S_S4x5000 : (⟨S_, .f32⟩ : BufTy).Contents (Elt F) → (⟨S4x5000, .f32⟩ : BufTy).Contents (Elt F)),
    StableHlo.binary main_while0b_v88 main_while0b_v89 main_while0b_v90 (addf : (⟨S4x5000, .f32⟩ : BufTy).Contents (Elt F) → (⟨S4x5000, .f32⟩ : BufTy).Contents (Elt F) → (⟨S4x5000, .f32⟩ : BufTy).Contents (Elt F)),
    StableHlo.binary main_while0b_v79 main_while0b_v90 main_while0b_v91 (Host.divf : (⟨S4x5000, .f32⟩ : BufTy).Contents (Elt F) → (⟨S4x5000, .f32⟩ : BufTy).Contents (Elt F) → (⟨S4x5000, .f32⟩ : BufTy).Contents (Elt F)),
    StableHlo.nullary main_while0b_cst_23 (constant S_ .f32 0x3EE66666#32),
    StableHlo.unary main_while0b_cst_23 main_while0b_v92 (broadcastInDim S4x5000 ![] bcast_S_S4x5000 : (⟨S_, .f32⟩ : BufTy).Contents (Elt F) → (⟨S4x5000, .f32⟩ : BufTy).Contents (Elt F)),
    StableHlo.binary main_while0b_v91 main_while0b_v92 main_while0b_v93 (cmpf .ogt : (⟨S4x5000, .f32⟩ : BufTy).Contents (Elt F) → (⟨S4x5000, .f32⟩ : BufTy).Contents (Elt F) → (⟨S4x5000, .i1⟩ : BufTy).Contents (Elt F)),
    StableHlo.unary main_v46_0 main_while0b_v94 (broadcastInDim S4x1 ![0] bcast_S4_S4x1_0 : (⟨S4, .i32⟩ : BufTy).Contents (Elt F) → (⟨S4x1, .i32⟩ : BufTy).Contents (Elt F)),
    StableHlo.unary main_while0b_v48 main_while0b_v95 (broadcastInDim S4x1 ![0] bcast_S4_S4x1_0 : (⟨S4, .i32⟩ : BufTy).Contents (Elt F) → (⟨S4x1, .i32⟩ : BufTy).Contents (Elt F)),
    StableHlo.binary main_while0b_v94 main_while0b_v95 main_while0b_v96 (fn_main_while0b_v96 (F := F)),
    StableHlo.binary main_v46_6 main_while0b_v96 main_while0b_v97 ((fun x i => Host.gather gather_S4x5000_S4x2_S4_n_01_n_n_01_1_11 x i) : (⟨S4x5000, .i32⟩ : BufTy).Contents (Elt F) → (⟨S4x2, .i32⟩ : BufTy).Contents (Elt F) → (⟨S4, .i32⟩ : BufTy).Contents (Elt F)),
    StableHlo.unary main_while0b_v97 main_while0b_v98 (broadcastInDim S4x1 ![0] bcast_S4_S4x1_0 : (⟨S4, .i32⟩ : BufTy).Contents (Elt F) → (⟨S4x1, .i32⟩ : BufTy).Contents (Elt F)),
    StableHlo.unary main_while0b_v98 main_while0b_v99 (broadcastInDim S4x5000 ![0, 1] bcast_S4x1_S4x5000_0_1 : (⟨S4x1, .i32⟩ : BufTy).Contents (Elt F) → (⟨S4x5000, .i32⟩ : BufTy).Contents (Elt F)),
    StableHlo.binary main_v46_6 main_while0b_v99 main_while0b_v100 (cmpi .eq : (⟨S4x5000, .i32⟩ : BufTy).Contents (Elt F) → (⟨S4x5000, .i32⟩ : BufTy).Contents (Elt F) → (⟨S4x5000, .i1⟩ : BufTy).Contents (Elt F)),
    StableHlo.binary main_while0b_v93 main_while0b_v100 main_while0b_v101 (andi : (⟨S4x5000, .i1⟩ : BufTy).Contents (Elt F) → (⟨S4x5000, .i1⟩ : BufTy).Contents (Elt F) → (⟨S4x5000, .i1⟩ : BufTy).Contents (Elt F)),
    StableHlo.unary main_while0b_v48 main_while0b_v102 (broadcastInDim S4x1 ![0] bcast_S4_S4x1_0 : (⟨S4, .i32⟩ : BufTy).Contents (Elt F) → (⟨S4x1, .i32⟩ : BufTy).Contents (Elt F)),
    StableHlo.unary main_v46_7 main_while0b_v103 (broadcastInDim S4x5000 ![0, 1] bcast_S1x5000_S4x5000_0_1 : (⟨S1x5000, .i32⟩ : BufTy).Contents (Elt F) → (⟨S4x5000, .i32⟩ : BufTy).Contents (Elt F)),
    StableHlo.unary main_while0b_v102 main_while0b_v104 (broadcastInDim S4x5000 ![0, 1] bcast_S4x1_S4x5000_0_1 : (⟨S4x1, .i32⟩ : BufTy).Contents (Elt F) → (⟨S4x5000, .i32⟩ : BufTy).Contents (Elt F)) ]

/-- The body's operations 71 … 73 of 85. -/
abbrev trip_w5 : List (HloOp τ sig (Elt F)) :=
  [ StableHlo.binary main_while0b_v103 main_while0b_v104 main_while0b_v105 (cmpi .eq : (⟨S4x5000, .i32⟩ : BufTy).Contents (Elt F) → (⟨S4x5000, .i32⟩ : BufTy).Contents (Elt F) → (⟨S4x5000, .i1⟩ : BufTy).Contents (Elt F)),
    StableHlo.binary main_while0b_v101 main_while0b_v105 main_while0b_v106 (ori : (⟨S4x5000, .i1⟩ : BufTy).Contents (Elt F) → (⟨S4x5000, .i1⟩ : BufTy).Contents (Elt F) → (⟨S4x5000, .i1⟩ : BufTy).Contents (Elt F)),
    StableHlo.nullary main_while0b_cst_24 (constant S_ .f32 0xFF800000#32) ]

/-- The body's operations 74 … 76 of 85. -/
abbrev trip_w6 : List (HloOp τ sig (Elt F)) :=
  [ StableHlo.TRef.unary (.of main_while0b_cst_24 : StableHlo.TRef sig ⟨S_, .f32⟩) (.of main_while0b_call4_v0 : StableHlo.TRef sig ⟨S_, .f32⟩) id,
    StableHlo.TRef.unary (.of main_while0b_call4_v0 : StableHlo.TRef sig ⟨S_, .f32⟩) (.of main_while0b_call4_v1 : StableHlo.TRef sig ⟨S4x5000, .f32⟩) (broadcastInDim S4x5000 ![] bcast_S_S4x5000),
    StableHlo.TRef.ternary (.of main_while0b_v106 : StableHlo.TRef sig ⟨S4x5000, .i1⟩) (.of main_while0b_call4_v1 : StableHlo.TRef sig ⟨S4x5000, .f32⟩) (.of main_v46_9 : StableHlo.TRef sig ⟨S4x5000, .f32⟩) (.of main_while0b_v107 : StableHlo.TRef sig ⟨S4x5000, .f32⟩) select ]

/-- The body's operations 77 … 80 of 85. -/
abbrev trip_w7 : List (HloOp τ sig (Elt F)) :=
  [ StableHlo.TRef.unary (.of main_while0b_v60 : StableHlo.TRef sig ⟨S4x7, .f32⟩) (.of main_while0b_call5_v0 : StableHlo.TRef sig ⟨S1x4x7, .f32⟩) (broadcastInDim S1x4x7 ![1, 2] bcast_S4x7_S1x4x7_1_2),
    StableHlo.TRef.nullary (.of main_while0b_call5_c : StableHlo.TRef sig ⟨S_, .i32⟩) (constantI S_ 32 0#32),
    StableHlo.TRef.nullary (.of main_while0b_call5_c_0 : StableHlo.TRef sig ⟨S_, .i32⟩) (constantI S_ 32 0#32),
    StableHlo.TRef.binaryIndexed (.of main_v46_10 : StableHlo.TRef sig ⟨S100x4x7, .f32⟩) (.of main_while0b_call5_v0 : StableHlo.TRef sig ⟨S1x4x7, .f32⟩) ![(.of main_v46_8 : StableHlo.TRef sig ⟨S_, .i32⟩), (.of main_while0b_call5_c : StableHlo.TRef sig ⟨S_, .i32⟩), (.of main_while0b_call5_c_0 : StableHlo.TRef sig ⟨S_, .i32⟩)] (.of main_while0b_v108 : StableHlo.TRef sig ⟨S100x4x7, .f32⟩) (fun x u i => Host.dynamicUpdateSlice x u (fun k => (i k (Shape.Idx.first h_S_)).toInt) updateFits_S100x4x7_S1x4x7) ]

set_option maxRecDepth 5000 in
/-- `while0Ops0` is its windows in order. -/
theorem while0Ops0_cut : (while0Ops0 : List (HloOp τ sig (Elt F))) = trip_w0 := rfl
set_option maxRecDepth 5000 in
/-- `while0Ops0_1` is its windows in order. -/
theorem while0Ops0_1_cut : (while0Ops0_1 : List (HloOp τ sig (Elt F))) = trip_w1 := rfl
set_option maxRecDepth 5000 in
/-- `while0Ops0_2` is its windows in order. -/
theorem while0Ops0_2_cut : (while0Ops0_2 : List (HloOp τ sig (Elt F))) = trip_w2 := rfl
set_option maxRecDepth 5000 in
/-- `while0Ops0_3` is its windows in order. -/
theorem while0Ops0_3_cut : (while0Ops0_3 : List (HloOp τ sig (Elt F))) = trip_w3 ++ (trip_w4 ++ (trip_w5)) := rfl
set_option maxRecDepth 5000 in
/-- `while0Ops0_4` is its windows in order. -/
theorem while0Ops0_4_cut : (while0Ops0_4 : List (HloOp τ sig (Elt F))) = trip_w6 := rfl
set_option maxRecDepth 5000 in
/-- `while0Ops0_5` is its windows in order. -/
theorem while0Ops0_5_cut : (while0Ops0_5 : List (HloOp τ sig (Elt F))) = trip_w7 := rfl

set_option maxRecDepth 8192 in
/-- `main_while0b_call2_v0`'s composed term of the carried buffers (named: it is used 2 times). -/
def res_main_while0b_call2_v0 (V0 : Valuation τ sig (Elt F)) : (Proc.devRef .tc main_while0b_call2_v0 : DevRef τ sig).ty.Contents (Elt F) :=
  iotaInDim S4x5000 32 1

set_option maxRecDepth 8192 in
/-- `main_while0b_call2_cst`'s composed term of the carried buffers (named: it is used 2 times). -/
def res_main_while0b_call2_cst (V0 : Valuation τ sig (Elt F)) : (Proc.devRef .tc main_while0b_call2_cst : DevRef τ sig).ty.Contents (Elt F) :=
  constant S_ .f32 0xFF800000#32

set_option maxRecDepth 8192 in
/-- `main_while0b_call2_c`'s composed term of the carried buffers (named: it is used 2 times). -/
def res_main_while0b_call2_c (V0 : Valuation τ sig (Elt F)) : (Proc.devRef .tc main_while0b_call2_c : DevRef τ sig).ty.Contents (Elt F) :=
  constantI S_ 32 0#32

set_option maxRecDepth 8192 in
/-- `main_while0b_v48`'s composed term of the carried buffers (named: it is used 4 times). -/
def res_main_while0b_v48 (V0 : Valuation τ sig (Elt F)) : (Proc.devRef .tc main_while0b_v48 : DevRef τ sig).ty.Contents (Elt F) :=
  fun j => (Host.argReduce reducer_argmax_f32_i32 (V0 (Proc.devRef .tc main_v46_9)) (res_main_while0b_call2_v0 V0) (res_main_while0b_call2_cst V0) (res_main_while0b_call2_c V0) reducesTo_S4x5000_S4_d1 h_S_ j).2

set_option maxRecDepth 8192 in
/-- `main_while0b_v59`'s composed term of the carried buffers (named: it is used 5 times). -/
def res_main_while0b_v59 (V0 : Valuation τ sig (Elt F)) : (Proc.devRef .tc main_while0b_v59 : DevRef τ sig).ty.Contents (Elt F) :=
  Host.gather gather_S4x5000x7_S4x2_S4x7_1_01_n_n_01_1_117 (V0 (Proc.devRef .tc main_v46_1)) (concatenate S4x2 1 [⟨S4x1, (broadcastInDim S4x1 ![0] bcast_S4_S4x1_0 (V0 (Proc.devRef .tc main_v46_0)))⟩, ⟨S4x1, (broadcastInDim S4x1 ![0] bcast_S4_S4x1_0 (res_main_while0b_v48 V0))⟩] concatenates_S4x1_S4x1_S4x2_d1)

set_option maxRecDepth 8192 in
/-- `main_while0b_v61`'s composed term of the carried buffers (named: it is used 2 times). -/
def res_main_while0b_v61 (V0 : Valuation τ sig (Elt F)) : (Proc.devRef .tc main_while0b_v61 : DevRef τ sig).ty.Contents (Elt F) :=
  extractStridedSlice S4x1 ![0, 0] (res_main_while0b_v59 V0) slices_S4x7_S4x1_0_0

set_option maxRecDepth 8192 in
/-- `main_while0b_v62`'s composed term of the carried buffers (named: it is used 2 times). -/
def res_main_while0b_v62 (V0 : Valuation τ sig (Elt F)) : (Proc.devRef .tc main_while0b_v62 : DevRef τ sig).ty.Contents (Elt F) :=
  extractStridedSlice S4x1 ![0, 1] (res_main_while0b_v59 V0) slices_S4x7_S4x1_0_1

set_option maxRecDepth 8192 in
/-- `main_while0b_v63`'s composed term of the carried buffers (named: it is used 2 times). -/
def res_main_while0b_v63 (V0 : Valuation τ sig (Elt F)) : (Proc.devRef .tc main_while0b_v63 : DevRef τ sig).ty.Contents (Elt F) :=
  extractStridedSlice S4x1 ![0, 2] (res_main_while0b_v59 V0) slices_S4x7_S4x1_0_2

set_option maxRecDepth 8192 in
/-- `main_while0b_v64`'s composed term of the carried buffers (named: it is used 2 times). -/
def res_main_while0b_v64 (V0 : Valuation τ sig (Elt F)) : (Proc.devRef .tc main_while0b_v64 : DevRef τ sig).ty.Contents (Elt F) :=
  extractStridedSlice S4x1 ![0, 3] (res_main_while0b_v59 V0) slices_S4x7_S4x1_0_3

set_option maxRecDepth 8192 in
/-- `main_while0b_v79`'s composed term of the carried buffers (named: it is used 2 times). -/
def res_main_while0b_v79 (V0 : Valuation τ sig (Elt F)) : (Proc.devRef .tc main_while0b_v79 : DevRef τ sig).ty.Contents (Elt F) :=
  mulf (maximumf (subf (minimumf (broadcastInDim S4x5000 ![0, 1] bcast_S4x1_S4x5000_0_1 (res_main_while0b_v63 V0)) (V0 (Proc.devRef .tc main_v46_4))) (maximumf (broadcastInDim S4x5000 ![0, 1] bcast_S4x1_S4x5000_0_1 (res_main_while0b_v61 V0)) (V0 (Proc.devRef .tc main_v46_2)))) (broadcastInDim S4x5000 ![] bcast_S_S4x5000 (constant S_ .f32 0x00000000#32))) (maximumf (subf (minimumf (broadcastInDim S4x5000 ![0, 1] bcast_S4x1_S4x5000_0_1 (res_main_while0b_v64 V0)) (V0 (Proc.devRef .tc main_v46_5))) (maximumf (broadcastInDim S4x5000 ![0, 1] bcast_S4x1_S4x5000_0_1 (res_main_while0b_v62 V0)) (V0 (Proc.devRef .tc main_v46_3)))) (broadcastInDim S4x5000 ![] bcast_S_S4x5000 (constant S_ .f32 0x00000000#32)))

/-- The device's buffer contents before the body's first window. -/
def val0 (V0 : Valuation τ sig (Elt F)) : Valuation τ sig (Elt F) := V0
theorem val0_main_v46_9 (V0 : Valuation τ sig (Elt F)) : val0 V0 (no_index (Proc.devRef .tc main_v46_9)) = V0 (Proc.devRef .tc main_v46_9) := rfl
theorem val0_main_v46_0 (V0 : Valuation τ sig (Elt F)) : val0 V0 (no_index (Proc.devRef .tc main_v46_0)) = V0 (Proc.devRef .tc main_v46_0) := rfl
theorem val0_main_v46_1 (V0 : Valuation τ sig (Elt F)) : val0 V0 (no_index (Proc.devRef .tc main_v46_1)) = V0 (Proc.devRef .tc main_v46_1) := rfl
theorem val0_main_v46_2 (V0 : Valuation τ sig (Elt F)) : val0 V0 (no_index (Proc.devRef .tc main_v46_2)) = V0 (Proc.devRef .tc main_v46_2) := rfl
theorem val0_main_v46_3 (V0 : Valuation τ sig (Elt F)) : val0 V0 (no_index (Proc.devRef .tc main_v46_3)) = V0 (Proc.devRef .tc main_v46_3) := rfl
theorem val0_main_v46_4 (V0 : Valuation τ sig (Elt F)) : val0 V0 (no_index (Proc.devRef .tc main_v46_4)) = V0 (Proc.devRef .tc main_v46_4) := rfl
theorem val0_main_v46_5 (V0 : Valuation τ sig (Elt F)) : val0 V0 (no_index (Proc.devRef .tc main_v46_5)) = V0 (Proc.devRef .tc main_v46_5) := rfl
theorem val0_main_v46_6 (V0 : Valuation τ sig (Elt F)) : val0 V0 (no_index (Proc.devRef .tc main_v46_6)) = V0 (Proc.devRef .tc main_v46_6) := rfl
theorem val0_main_v46_7 (V0 : Valuation τ sig (Elt F)) : val0 V0 (no_index (Proc.devRef .tc main_v46_7)) = V0 (Proc.devRef .tc main_v46_7) := rfl
theorem val0_main_v46_10 (V0 : Valuation τ sig (Elt F)) : val0 V0 (no_index (Proc.devRef .tc main_v46_10)) = V0 (Proc.devRef .tc main_v46_10) := rfl
theorem val0_main_v46_8 (V0 : Valuation τ sig (Elt F)) : val0 V0 (no_index (Proc.devRef .tc main_v46_8)) = V0 (Proc.devRef .tc main_v46_8) := rfl

/-- The device's buffer contents after the body's first 1 window. -/
def val1 (V0 : Valuation τ sig (Elt F)) : Valuation τ sig (Elt F) := after trip_w0 (val0 V0)
/-- The buffers that window `trip_w0`'s operations write. -/
abbrev trip_w0_W : List (Ref sig .tc) := [main_while0b_call2_v0, main_while0b_call2_cst, main_while0b_call2_c, main_while0b_call2_v1_0, main_while0b_v48]
set_option maxRecDepth 8192 in
theorem trip_w0_writes : (trip_w0 : List (HloOp τ sig (Elt F))).Forall fun op => op.writes ⊆ (trip_w0_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w0` does not write keeps its contents through it. -/
theorem val1_keep (V0 : Valuation τ sig (Elt F)) (r : Ref sig .tc) (h : r ∉ trip_w0_W) :
    val1 V0 (Proc.devRef .tc r) = val0 V0 (Proc.devRef .tc r) :=
  after_of_writes_sub trip_w0 _ trip_w0_writes h
theorem val1_main_v46_9 (V0 : Valuation τ sig (Elt F)) : val1 V0 (no_index (Proc.devRef .tc main_v46_9)) = V0 (Proc.devRef .tc main_v46_9) :=
  (val1_keep V0 main_v46_9 (by decide)).trans (val0_main_v46_9 V0)
theorem val1_main_v46_0 (V0 : Valuation τ sig (Elt F)) : val1 V0 (no_index (Proc.devRef .tc main_v46_0)) = V0 (Proc.devRef .tc main_v46_0) :=
  (val1_keep V0 main_v46_0 (by decide)).trans (val0_main_v46_0 V0)
theorem val1_main_v46_1 (V0 : Valuation τ sig (Elt F)) : val1 V0 (no_index (Proc.devRef .tc main_v46_1)) = V0 (Proc.devRef .tc main_v46_1) :=
  (val1_keep V0 main_v46_1 (by decide)).trans (val0_main_v46_1 V0)
theorem val1_main_v46_2 (V0 : Valuation τ sig (Elt F)) : val1 V0 (no_index (Proc.devRef .tc main_v46_2)) = V0 (Proc.devRef .tc main_v46_2) :=
  (val1_keep V0 main_v46_2 (by decide)).trans (val0_main_v46_2 V0)
theorem val1_main_v46_3 (V0 : Valuation τ sig (Elt F)) : val1 V0 (no_index (Proc.devRef .tc main_v46_3)) = V0 (Proc.devRef .tc main_v46_3) :=
  (val1_keep V0 main_v46_3 (by decide)).trans (val0_main_v46_3 V0)
theorem val1_main_v46_4 (V0 : Valuation τ sig (Elt F)) : val1 V0 (no_index (Proc.devRef .tc main_v46_4)) = V0 (Proc.devRef .tc main_v46_4) :=
  (val1_keep V0 main_v46_4 (by decide)).trans (val0_main_v46_4 V0)
theorem val1_main_v46_5 (V0 : Valuation τ sig (Elt F)) : val1 V0 (no_index (Proc.devRef .tc main_v46_5)) = V0 (Proc.devRef .tc main_v46_5) :=
  (val1_keep V0 main_v46_5 (by decide)).trans (val0_main_v46_5 V0)
theorem val1_main_v46_6 (V0 : Valuation τ sig (Elt F)) : val1 V0 (no_index (Proc.devRef .tc main_v46_6)) = V0 (Proc.devRef .tc main_v46_6) :=
  (val1_keep V0 main_v46_6 (by decide)).trans (val0_main_v46_6 V0)
theorem val1_main_v46_7 (V0 : Valuation τ sig (Elt F)) : val1 V0 (no_index (Proc.devRef .tc main_v46_7)) = V0 (Proc.devRef .tc main_v46_7) :=
  (val1_keep V0 main_v46_7 (by decide)).trans (val0_main_v46_7 V0)
theorem val1_main_v46_10 (V0 : Valuation τ sig (Elt F)) : val1 V0 (no_index (Proc.devRef .tc main_v46_10)) = V0 (Proc.devRef .tc main_v46_10) :=
  (val1_keep V0 main_v46_10 (by decide)).trans (val0_main_v46_10 V0)
theorem val1_main_v46_8 (V0 : Valuation τ sig (Elt F)) : val1 V0 (no_index (Proc.devRef .tc main_v46_8)) = V0 (Proc.devRef .tc main_v46_8) :=
  (val1_keep V0 main_v46_8 (by decide)).trans (val0_main_v46_8 V0)
set_option maxRecDepth 8192 in
theorem val1_main_while0b_v48 (V0 : Valuation τ sig (Elt F)) : val1 V0 (no_index (Proc.devRef .tc main_while0b_v48)) = res_main_while0b_v48 V0 := by
  unfold val1
  simp only [trip_w0]
  after_results_entrywise [val0_main_v46_9, res_main_while0b_call2_v0, res_main_while0b_call2_cst, res_main_while0b_call2_c, res_main_while0b_v48, cast_eq]

/-- The device's buffer contents after the body's first 2 windows. -/
def val2 (V0 : Valuation τ sig (Elt F)) : Valuation τ sig (Elt F) := after trip_w1 (val1 V0)
/-- The buffers that window `trip_w1`'s operations write. -/
abbrev trip_w1_W : List (Ref sig .tc) := [main_while0b_v49, main_while0b_v50, main_while0b_v51, main_while0b_v52, main_while0b_v53, main_while0b_cst_18, main_while0b_v54, main_while0b_v55, main_while0b_v56, main_while0b_v57, main_while0b_v58, main_while0b_v59, main_while0b_cst_19]
set_option maxRecDepth 8192 in
theorem trip_w1_writes : (trip_w1 : List (HloOp τ sig (Elt F))).Forall fun op => op.writes ⊆ (trip_w1_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w1` does not write keeps its contents through it. -/
theorem val2_keep (V0 : Valuation τ sig (Elt F)) (r : Ref sig .tc) (h : r ∉ trip_w1_W) :
    val2 V0 (Proc.devRef .tc r) = val1 V0 (Proc.devRef .tc r) :=
  after_of_writes_sub trip_w1 _ trip_w1_writes h
theorem val2_main_v46_9 (V0 : Valuation τ sig (Elt F)) : val2 V0 (no_index (Proc.devRef .tc main_v46_9)) = V0 (Proc.devRef .tc main_v46_9) :=
  (val2_keep V0 main_v46_9 (by decide)).trans (val1_main_v46_9 V0)
theorem val2_main_v46_0 (V0 : Valuation τ sig (Elt F)) : val2 V0 (no_index (Proc.devRef .tc main_v46_0)) = V0 (Proc.devRef .tc main_v46_0) :=
  (val2_keep V0 main_v46_0 (by decide)).trans (val1_main_v46_0 V0)
theorem val2_main_v46_1 (V0 : Valuation τ sig (Elt F)) : val2 V0 (no_index (Proc.devRef .tc main_v46_1)) = V0 (Proc.devRef .tc main_v46_1) :=
  (val2_keep V0 main_v46_1 (by decide)).trans (val1_main_v46_1 V0)
theorem val2_main_v46_2 (V0 : Valuation τ sig (Elt F)) : val2 V0 (no_index (Proc.devRef .tc main_v46_2)) = V0 (Proc.devRef .tc main_v46_2) :=
  (val2_keep V0 main_v46_2 (by decide)).trans (val1_main_v46_2 V0)
theorem val2_main_v46_3 (V0 : Valuation τ sig (Elt F)) : val2 V0 (no_index (Proc.devRef .tc main_v46_3)) = V0 (Proc.devRef .tc main_v46_3) :=
  (val2_keep V0 main_v46_3 (by decide)).trans (val1_main_v46_3 V0)
theorem val2_main_v46_4 (V0 : Valuation τ sig (Elt F)) : val2 V0 (no_index (Proc.devRef .tc main_v46_4)) = V0 (Proc.devRef .tc main_v46_4) :=
  (val2_keep V0 main_v46_4 (by decide)).trans (val1_main_v46_4 V0)
theorem val2_main_v46_5 (V0 : Valuation τ sig (Elt F)) : val2 V0 (no_index (Proc.devRef .tc main_v46_5)) = V0 (Proc.devRef .tc main_v46_5) :=
  (val2_keep V0 main_v46_5 (by decide)).trans (val1_main_v46_5 V0)
theorem val2_main_v46_6 (V0 : Valuation τ sig (Elt F)) : val2 V0 (no_index (Proc.devRef .tc main_v46_6)) = V0 (Proc.devRef .tc main_v46_6) :=
  (val2_keep V0 main_v46_6 (by decide)).trans (val1_main_v46_6 V0)
theorem val2_main_v46_7 (V0 : Valuation τ sig (Elt F)) : val2 V0 (no_index (Proc.devRef .tc main_v46_7)) = V0 (Proc.devRef .tc main_v46_7) :=
  (val2_keep V0 main_v46_7 (by decide)).trans (val1_main_v46_7 V0)
theorem val2_main_v46_10 (V0 : Valuation τ sig (Elt F)) : val2 V0 (no_index (Proc.devRef .tc main_v46_10)) = V0 (Proc.devRef .tc main_v46_10) :=
  (val2_keep V0 main_v46_10 (by decide)).trans (val1_main_v46_10 V0)
theorem val2_main_v46_8 (V0 : Valuation τ sig (Elt F)) : val2 V0 (no_index (Proc.devRef .tc main_v46_8)) = V0 (Proc.devRef .tc main_v46_8) :=
  (val2_keep V0 main_v46_8 (by decide)).trans (val1_main_v46_8 V0)
theorem val2_main_while0b_v48 (V0 : Valuation τ sig (Elt F)) : val2 V0 (no_index (Proc.devRef .tc main_while0b_v48)) = res_main_while0b_v48 V0 :=
  (val2_keep V0 main_while0b_v48 (by decide)).trans (val1_main_while0b_v48 V0)
set_option maxRecDepth 8192 in
set_option maxHeartbeats 1300000 in
theorem val2_main_while0b_v55 (V0 : Valuation τ sig (Elt F)) : val2 V0 (no_index (Proc.devRef .tc main_while0b_v55)) = cmpf .ogt (broadcastInDim S4x1 ![0] bcast_S4_S4x1_0 (Host.gather gather_S4x5000_S4x2_S4_n_01_n_n_01_1_11 (V0 (Proc.devRef .tc main_v46_9)) (concatenate S4x2 1 [⟨S4x1, (broadcastInDim S4x1 ![0] bcast_S4_S4x1_0 (V0 (Proc.devRef .tc main_v46_0)))⟩, ⟨S4x1, (broadcastInDim S4x1 ![0] bcast_S4_S4x1_0 (res_main_while0b_v48 V0))⟩] concatenates_S4x1_S4x1_S4x2_d1))) (broadcastInDim S4x1 ![] bcast_S_S4x1 (constant S_ .f32 0xFF800000#32)) := by
  unfold val2
  simp only [trip_w1]
  after_results_entrywise [val1_main_while0b_v48, val1_main_v46_0, val1_main_v46_9, cast_eq]
set_option maxRecDepth 8192 in
set_option maxHeartbeats 1300000 in
theorem val2_main_while0b_v59 (V0 : Valuation τ sig (Elt F)) : val2 V0 (no_index (Proc.devRef .tc main_while0b_v59)) = res_main_while0b_v59 V0 := by
  unfold val2
  simp only [trip_w1]
  after_results_entrywise [val1_main_while0b_v48, val1_main_v46_0, val1_main_v46_1, res_main_while0b_v59, cast_eq]
set_option maxRecDepth 8192 in
set_option maxHeartbeats 1300000 in
theorem val2_main_while0b_cst_19 (V0 : Valuation τ sig (Elt F)) : val2 V0 (no_index (Proc.devRef .tc main_while0b_cst_19)) = constant S_ .f32 0x00000000#32 := by
  unfold val2
  simp only [trip_w1]
  after_results_entrywise [cast_eq]

/-- The device's buffer contents after the body's first 3 windows. -/
def val3 (V0 : Valuation τ sig (Elt F)) : Valuation τ sig (Elt F) := after trip_w2 (val2 V0)
/-- The buffers that window `trip_w2`'s operations write. -/
abbrev trip_w2_W : List (Ref sig .tc) := [main_while0b_call3_v0, main_while0b_call3_v1, main_while0b_call3_v2, main_while0b_v60]
set_option maxRecDepth 8192 in
theorem trip_w2_writes : (trip_w2 : List (HloOp τ sig (Elt F))).Forall fun op => op.writes ⊆ (trip_w2_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w2` does not write keeps its contents through it. -/
theorem val3_keep (V0 : Valuation τ sig (Elt F)) (r : Ref sig .tc) (h : r ∉ trip_w2_W) :
    val3 V0 (Proc.devRef .tc r) = val2 V0 (Proc.devRef .tc r) :=
  after_of_writes_sub trip_w2 _ trip_w2_writes h
theorem val3_main_v46_9 (V0 : Valuation τ sig (Elt F)) : val3 V0 (no_index (Proc.devRef .tc main_v46_9)) = V0 (Proc.devRef .tc main_v46_9) :=
  (val3_keep V0 main_v46_9 (by decide)).trans (val2_main_v46_9 V0)
theorem val3_main_v46_0 (V0 : Valuation τ sig (Elt F)) : val3 V0 (no_index (Proc.devRef .tc main_v46_0)) = V0 (Proc.devRef .tc main_v46_0) :=
  (val3_keep V0 main_v46_0 (by decide)).trans (val2_main_v46_0 V0)
theorem val3_main_v46_1 (V0 : Valuation τ sig (Elt F)) : val3 V0 (no_index (Proc.devRef .tc main_v46_1)) = V0 (Proc.devRef .tc main_v46_1) :=
  (val3_keep V0 main_v46_1 (by decide)).trans (val2_main_v46_1 V0)
theorem val3_main_v46_2 (V0 : Valuation τ sig (Elt F)) : val3 V0 (no_index (Proc.devRef .tc main_v46_2)) = V0 (Proc.devRef .tc main_v46_2) :=
  (val3_keep V0 main_v46_2 (by decide)).trans (val2_main_v46_2 V0)
theorem val3_main_v46_3 (V0 : Valuation τ sig (Elt F)) : val3 V0 (no_index (Proc.devRef .tc main_v46_3)) = V0 (Proc.devRef .tc main_v46_3) :=
  (val3_keep V0 main_v46_3 (by decide)).trans (val2_main_v46_3 V0)
theorem val3_main_v46_4 (V0 : Valuation τ sig (Elt F)) : val3 V0 (no_index (Proc.devRef .tc main_v46_4)) = V0 (Proc.devRef .tc main_v46_4) :=
  (val3_keep V0 main_v46_4 (by decide)).trans (val2_main_v46_4 V0)
theorem val3_main_v46_5 (V0 : Valuation τ sig (Elt F)) : val3 V0 (no_index (Proc.devRef .tc main_v46_5)) = V0 (Proc.devRef .tc main_v46_5) :=
  (val3_keep V0 main_v46_5 (by decide)).trans (val2_main_v46_5 V0)
theorem val3_main_v46_6 (V0 : Valuation τ sig (Elt F)) : val3 V0 (no_index (Proc.devRef .tc main_v46_6)) = V0 (Proc.devRef .tc main_v46_6) :=
  (val3_keep V0 main_v46_6 (by decide)).trans (val2_main_v46_6 V0)
theorem val3_main_v46_7 (V0 : Valuation τ sig (Elt F)) : val3 V0 (no_index (Proc.devRef .tc main_v46_7)) = V0 (Proc.devRef .tc main_v46_7) :=
  (val3_keep V0 main_v46_7 (by decide)).trans (val2_main_v46_7 V0)
theorem val3_main_v46_10 (V0 : Valuation τ sig (Elt F)) : val3 V0 (no_index (Proc.devRef .tc main_v46_10)) = V0 (Proc.devRef .tc main_v46_10) :=
  (val3_keep V0 main_v46_10 (by decide)).trans (val2_main_v46_10 V0)
theorem val3_main_v46_8 (V0 : Valuation τ sig (Elt F)) : val3 V0 (no_index (Proc.devRef .tc main_v46_8)) = V0 (Proc.devRef .tc main_v46_8) :=
  (val3_keep V0 main_v46_8 (by decide)).trans (val2_main_v46_8 V0)
theorem val3_main_while0b_v48 (V0 : Valuation τ sig (Elt F)) : val3 V0 (no_index (Proc.devRef .tc main_while0b_v48)) = res_main_while0b_v48 V0 :=
  (val3_keep V0 main_while0b_v48 (by decide)).trans (val2_main_while0b_v48 V0)
theorem val3_main_while0b_v59 (V0 : Valuation τ sig (Elt F)) : val3 V0 (no_index (Proc.devRef .tc main_while0b_v59)) = res_main_while0b_v59 V0 :=
  (val3_keep V0 main_while0b_v59 (by decide)).trans (val2_main_while0b_v59 V0)
set_option maxRecDepth 8192 in
theorem val3_main_while0b_v60 (V0 : Valuation τ sig (Elt F)) : val3 V0 (no_index (Proc.devRef .tc main_while0b_v60)) = select (broadcastInDim S4x7 ![0, 1] bcast_S4x1_S4x7_0_1 (cmpf .ogt (broadcastInDim S4x1 ![0] bcast_S4_S4x1_0 (Host.gather gather_S4x5000_S4x2_S4_n_01_n_n_01_1_11 (V0 (Proc.devRef .tc main_v46_9)) (concatenate S4x2 1 [⟨S4x1, (broadcastInDim S4x1 ![0] bcast_S4_S4x1_0 (V0 (Proc.devRef .tc main_v46_0)))⟩, ⟨S4x1, (broadcastInDim S4x1 ![0] bcast_S4_S4x1_0 (res_main_while0b_v48 V0))⟩] concatenates_S4x1_S4x1_S4x2_d1))) (broadcastInDim S4x1 ![] bcast_S_S4x1 (constant S_ .f32 0xFF800000#32)))) (res_main_while0b_v59 V0) (broadcastInDim S4x7 ![] bcast_S_S4x7 (id (constant S_ .f32 0x00000000#32))) := by
  unfold val3
  simp only [trip_w2]
  after_results_entrywise [val2_main_while0b_cst_19, val2_main_while0b_v59, val2_main_while0b_v55, cast_eq]

/-- The device's buffer contents after the body's first 4 windows. -/
def val4 (V0 : Valuation τ sig (Elt F)) : Valuation τ sig (Elt F) := after trip_w3 (val3 V0)
/-- The buffers that window `trip_w3`'s operations write. -/
abbrev trip_w3_W : List (Ref sig .tc) := [main_while0b_v61, main_while0b_v62, main_while0b_v63, main_while0b_v64, main_while0b_v65, main_while0b_v66, main_while0b_v67, main_while0b_v68, main_while0b_v69, main_while0b_v70, main_while0b_v71, main_while0b_v72, main_while0b_v73, main_while0b_cst_20, main_while0b_v74, main_while0b_v75, main_while0b_v76, main_while0b_cst_21, main_while0b_v77, main_while0b_v78, main_while0b_v79, main_while0b_v80, main_while0b_v81, main_while0b_v82]
set_option maxRecDepth 8192 in
theorem trip_w3_writes : (trip_w3 : List (HloOp τ sig (Elt F))).Forall fun op => op.writes ⊆ (trip_w3_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w3` does not write keeps its contents through it. -/
theorem val4_keep (V0 : Valuation τ sig (Elt F)) (r : Ref sig .tc) (h : r ∉ trip_w3_W) :
    val4 V0 (Proc.devRef .tc r) = val3 V0 (Proc.devRef .tc r) :=
  after_of_writes_sub trip_w3 _ trip_w3_writes h
theorem val4_main_v46_9 (V0 : Valuation τ sig (Elt F)) : val4 V0 (no_index (Proc.devRef .tc main_v46_9)) = V0 (Proc.devRef .tc main_v46_9) :=
  (val4_keep V0 main_v46_9 (by decide)).trans (val3_main_v46_9 V0)
theorem val4_main_v46_0 (V0 : Valuation τ sig (Elt F)) : val4 V0 (no_index (Proc.devRef .tc main_v46_0)) = V0 (Proc.devRef .tc main_v46_0) :=
  (val4_keep V0 main_v46_0 (by decide)).trans (val3_main_v46_0 V0)
theorem val4_main_v46_1 (V0 : Valuation τ sig (Elt F)) : val4 V0 (no_index (Proc.devRef .tc main_v46_1)) = V0 (Proc.devRef .tc main_v46_1) :=
  (val4_keep V0 main_v46_1 (by decide)).trans (val3_main_v46_1 V0)
theorem val4_main_v46_2 (V0 : Valuation τ sig (Elt F)) : val4 V0 (no_index (Proc.devRef .tc main_v46_2)) = V0 (Proc.devRef .tc main_v46_2) :=
  (val4_keep V0 main_v46_2 (by decide)).trans (val3_main_v46_2 V0)
theorem val4_main_v46_3 (V0 : Valuation τ sig (Elt F)) : val4 V0 (no_index (Proc.devRef .tc main_v46_3)) = V0 (Proc.devRef .tc main_v46_3) :=
  (val4_keep V0 main_v46_3 (by decide)).trans (val3_main_v46_3 V0)
theorem val4_main_v46_4 (V0 : Valuation τ sig (Elt F)) : val4 V0 (no_index (Proc.devRef .tc main_v46_4)) = V0 (Proc.devRef .tc main_v46_4) :=
  (val4_keep V0 main_v46_4 (by decide)).trans (val3_main_v46_4 V0)
theorem val4_main_v46_5 (V0 : Valuation τ sig (Elt F)) : val4 V0 (no_index (Proc.devRef .tc main_v46_5)) = V0 (Proc.devRef .tc main_v46_5) :=
  (val4_keep V0 main_v46_5 (by decide)).trans (val3_main_v46_5 V0)
theorem val4_main_v46_6 (V0 : Valuation τ sig (Elt F)) : val4 V0 (no_index (Proc.devRef .tc main_v46_6)) = V0 (Proc.devRef .tc main_v46_6) :=
  (val4_keep V0 main_v46_6 (by decide)).trans (val3_main_v46_6 V0)
theorem val4_main_v46_7 (V0 : Valuation τ sig (Elt F)) : val4 V0 (no_index (Proc.devRef .tc main_v46_7)) = V0 (Proc.devRef .tc main_v46_7) :=
  (val4_keep V0 main_v46_7 (by decide)).trans (val3_main_v46_7 V0)
theorem val4_main_v46_10 (V0 : Valuation τ sig (Elt F)) : val4 V0 (no_index (Proc.devRef .tc main_v46_10)) = V0 (Proc.devRef .tc main_v46_10) :=
  (val4_keep V0 main_v46_10 (by decide)).trans (val3_main_v46_10 V0)
theorem val4_main_v46_8 (V0 : Valuation τ sig (Elt F)) : val4 V0 (no_index (Proc.devRef .tc main_v46_8)) = V0 (Proc.devRef .tc main_v46_8) :=
  (val4_keep V0 main_v46_8 (by decide)).trans (val3_main_v46_8 V0)
theorem val4_main_while0b_v48 (V0 : Valuation τ sig (Elt F)) : val4 V0 (no_index (Proc.devRef .tc main_while0b_v48)) = res_main_while0b_v48 V0 :=
  (val4_keep V0 main_while0b_v48 (by decide)).trans (val3_main_while0b_v48 V0)
theorem val4_main_while0b_v60 (V0 : Valuation τ sig (Elt F)) : val4 V0 (no_index (Proc.devRef .tc main_while0b_v60)) = select (broadcastInDim S4x7 ![0, 1] bcast_S4x1_S4x7_0_1 (cmpf .ogt (broadcastInDim S4x1 ![0] bcast_S4_S4x1_0 (Host.gather gather_S4x5000_S4x2_S4_n_01_n_n_01_1_11 (V0 (Proc.devRef .tc main_v46_9)) (concatenate S4x2 1 [⟨S4x1, (broadcastInDim S4x1 ![0] bcast_S4_S4x1_0 (V0 (Proc.devRef .tc main_v46_0)))⟩, ⟨S4x1, (broadcastInDim S4x1 ![0] bcast_S4_S4x1_0 (res_main_while0b_v48 V0))⟩] concatenates_S4x1_S4x1_S4x2_d1))) (broadcastInDim S4x1 ![] bcast_S_S4x1 (constant S_ .f32 0xFF800000#32)))) (res_main_while0b_v59 V0) (broadcastInDim S4x7 ![] bcast_S_S4x7 (id (constant S_ .f32 0x00000000#32))) :=
  (val4_keep V0 main_while0b_v60 (by decide)).trans (val3_main_while0b_v60 V0)
set_option maxRecDepth 8192 in
set_option maxHeartbeats 2000000 in
theorem val4_main_while0b_v79 (V0 : Valuation τ sig (Elt F)) : val4 V0 (no_index (Proc.devRef .tc main_while0b_v79)) = res_main_while0b_v79 V0 := by
  unfold val4
  simp only [trip_w3]
  after_results_entrywise [val3_main_v46_3, val3_main_while0b_v59, val3_main_v46_5, val3_main_v46_2, val3_main_v46_4, res_main_while0b_v61, res_main_while0b_v62, res_main_while0b_v63, res_main_while0b_v64, res_main_while0b_v79, cast_eq]
set_option maxRecDepth 8192 in
set_option maxHeartbeats 2000000 in
theorem val4_main_while0b_v82 (V0 : Valuation τ sig (Elt F)) : val4 V0 (no_index (Proc.devRef .tc main_while0b_v82)) = mulf (subf (res_main_while0b_v63 V0) (res_main_while0b_v61 V0)) (subf (res_main_while0b_v64 V0) (res_main_while0b_v62 V0)) := by
  unfold val4
  simp only [trip_w3]
  after_results_entrywise [val3_main_while0b_v59, res_main_while0b_v61, res_main_while0b_v62, res_main_while0b_v63, res_main_while0b_v64, cast_eq]

/-- The device's buffer contents after the body's first 5 windows. -/
def val5 (V0 : Valuation τ sig (Elt F)) : Valuation τ sig (Elt F) := after trip_w4 (val4 V0)
/-- The buffers that window `trip_w4`'s operations write. -/
abbrev trip_w4_W : List (Ref sig .tc) := [main_while0b_v83, main_while0b_v84, main_while0b_v85, main_while0b_v86, main_while0b_v87, main_while0b_v88, main_while0b_cst_22, main_while0b_v89, main_while0b_v90, main_while0b_v91, main_while0b_cst_23, main_while0b_v92, main_while0b_v93, main_while0b_v94, main_while0b_v95, main_while0b_v96, main_while0b_v97, main_while0b_v98, main_while0b_v99, main_while0b_v100, main_while0b_v101, main_while0b_v102, main_while0b_v103, main_while0b_v104]
set_option maxRecDepth 8192 in
theorem trip_w4_writes : (trip_w4 : List (HloOp τ sig (Elt F))).Forall fun op => op.writes ⊆ (trip_w4_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w4` does not write keeps its contents through it. -/
theorem val5_keep (V0 : Valuation τ sig (Elt F)) (r : Ref sig .tc) (h : r ∉ trip_w4_W) :
    val5 V0 (Proc.devRef .tc r) = val4 V0 (Proc.devRef .tc r) :=
  after_of_writes_sub trip_w4 _ trip_w4_writes h
theorem val5_main_v46_9 (V0 : Valuation τ sig (Elt F)) : val5 V0 (no_index (Proc.devRef .tc main_v46_9)) = V0 (Proc.devRef .tc main_v46_9) :=
  (val5_keep V0 main_v46_9 (by decide)).trans (val4_main_v46_9 V0)
theorem val5_main_v46_0 (V0 : Valuation τ sig (Elt F)) : val5 V0 (no_index (Proc.devRef .tc main_v46_0)) = V0 (Proc.devRef .tc main_v46_0) :=
  (val5_keep V0 main_v46_0 (by decide)).trans (val4_main_v46_0 V0)
theorem val5_main_v46_1 (V0 : Valuation τ sig (Elt F)) : val5 V0 (no_index (Proc.devRef .tc main_v46_1)) = V0 (Proc.devRef .tc main_v46_1) :=
  (val5_keep V0 main_v46_1 (by decide)).trans (val4_main_v46_1 V0)
theorem val5_main_v46_2 (V0 : Valuation τ sig (Elt F)) : val5 V0 (no_index (Proc.devRef .tc main_v46_2)) = V0 (Proc.devRef .tc main_v46_2) :=
  (val5_keep V0 main_v46_2 (by decide)).trans (val4_main_v46_2 V0)
theorem val5_main_v46_3 (V0 : Valuation τ sig (Elt F)) : val5 V0 (no_index (Proc.devRef .tc main_v46_3)) = V0 (Proc.devRef .tc main_v46_3) :=
  (val5_keep V0 main_v46_3 (by decide)).trans (val4_main_v46_3 V0)
theorem val5_main_v46_4 (V0 : Valuation τ sig (Elt F)) : val5 V0 (no_index (Proc.devRef .tc main_v46_4)) = V0 (Proc.devRef .tc main_v46_4) :=
  (val5_keep V0 main_v46_4 (by decide)).trans (val4_main_v46_4 V0)
theorem val5_main_v46_5 (V0 : Valuation τ sig (Elt F)) : val5 V0 (no_index (Proc.devRef .tc main_v46_5)) = V0 (Proc.devRef .tc main_v46_5) :=
  (val5_keep V0 main_v46_5 (by decide)).trans (val4_main_v46_5 V0)
theorem val5_main_v46_6 (V0 : Valuation τ sig (Elt F)) : val5 V0 (no_index (Proc.devRef .tc main_v46_6)) = V0 (Proc.devRef .tc main_v46_6) :=
  (val5_keep V0 main_v46_6 (by decide)).trans (val4_main_v46_6 V0)
theorem val5_main_v46_7 (V0 : Valuation τ sig (Elt F)) : val5 V0 (no_index (Proc.devRef .tc main_v46_7)) = V0 (Proc.devRef .tc main_v46_7) :=
  (val5_keep V0 main_v46_7 (by decide)).trans (val4_main_v46_7 V0)
theorem val5_main_v46_10 (V0 : Valuation τ sig (Elt F)) : val5 V0 (no_index (Proc.devRef .tc main_v46_10)) = V0 (Proc.devRef .tc main_v46_10) :=
  (val5_keep V0 main_v46_10 (by decide)).trans (val4_main_v46_10 V0)
theorem val5_main_v46_8 (V0 : Valuation τ sig (Elt F)) : val5 V0 (no_index (Proc.devRef .tc main_v46_8)) = V0 (Proc.devRef .tc main_v46_8) :=
  (val5_keep V0 main_v46_8 (by decide)).trans (val4_main_v46_8 V0)
theorem val5_main_while0b_v60 (V0 : Valuation τ sig (Elt F)) : val5 V0 (no_index (Proc.devRef .tc main_while0b_v60)) = select (broadcastInDim S4x7 ![0, 1] bcast_S4x1_S4x7_0_1 (cmpf .ogt (broadcastInDim S4x1 ![0] bcast_S4_S4x1_0 (Host.gather gather_S4x5000_S4x2_S4_n_01_n_n_01_1_11 (V0 (Proc.devRef .tc main_v46_9)) (concatenate S4x2 1 [⟨S4x1, (broadcastInDim S4x1 ![0] bcast_S4_S4x1_0 (V0 (Proc.devRef .tc main_v46_0)))⟩, ⟨S4x1, (broadcastInDim S4x1 ![0] bcast_S4_S4x1_0 (res_main_while0b_v48 V0))⟩] concatenates_S4x1_S4x1_S4x2_d1))) (broadcastInDim S4x1 ![] bcast_S_S4x1 (constant S_ .f32 0xFF800000#32)))) (res_main_while0b_v59 V0) (broadcastInDim S4x7 ![] bcast_S_S4x7 (id (constant S_ .f32 0x00000000#32))) :=
  (val5_keep V0 main_while0b_v60 (by decide)).trans (val4_main_while0b_v60 V0)
set_option maxRecDepth 8192 in
set_option maxHeartbeats 2000000 in
theorem val5_main_while0b_v101 (V0 : Valuation τ sig (Elt F)) : val5 V0 (no_index (Proc.devRef .tc main_while0b_v101)) = andi (cmpf .ogt (Host.divf (res_main_while0b_v79 V0) (addf (subf (addf (broadcastInDim S4x5000 ![0, 1] bcast_S4x1_S4x5000_0_1 (mulf (subf (res_main_while0b_v63 V0) (res_main_while0b_v61 V0)) (subf (res_main_while0b_v64 V0) (res_main_while0b_v62 V0)))) (mulf (subf (V0 (Proc.devRef .tc main_v46_4)) (V0 (Proc.devRef .tc main_v46_2))) (subf (V0 (Proc.devRef .tc main_v46_5)) (V0 (Proc.devRef .tc main_v46_3))))) (res_main_while0b_v79 V0)) (broadcastInDim S4x5000 ![] bcast_S_S4x5000 (constant S_ .f32 0x3089705F#32)))) (broadcastInDim S4x5000 ![] bcast_S_S4x5000 (constant S_ .f32 0x3EE66666#32))) (cmpi .eq (V0 (Proc.devRef .tc main_v46_6)) (broadcastInDim S4x5000 ![0, 1] bcast_S4x1_S4x5000_0_1 (broadcastInDim S4x1 ![0] bcast_S4_S4x1_0 (Host.gather gather_S4x5000_S4x2_S4_n_01_n_n_01_1_11 (V0 (Proc.devRef .tc main_v46_6)) (concatenate S4x2 1 [⟨S4x1, (broadcastInDim S4x1 ![0] bcast_S4_S4x1_0 (V0 (Proc.devRef .tc main_v46_0)))⟩, ⟨S4x1, (broadcastInDim S4x1 ![0] bcast_S4_S4x1_0 (res_main_while0b_v48 V0))⟩] concatenates_S4x1_S4x1_S4x2_d1))))) := by
  unfold val5
  simp only [trip_w4]
  after_results_entrywise [val4_main_while0b_v48, val4_main_v46_0, val4_main_v46_6, val4_main_v46_3, val4_main_v46_5, val4_main_v46_2, val4_main_v46_4, val4_main_while0b_v82, val4_main_while0b_v79, cast_eq]
set_option maxRecDepth 8192 in
set_option maxHeartbeats 2000000 in
theorem val5_main_while0b_v103 (V0 : Valuation τ sig (Elt F)) : val5 V0 (no_index (Proc.devRef .tc main_while0b_v103)) = broadcastInDim S4x5000 ![0, 1] bcast_S1x5000_S4x5000_0_1 (V0 (Proc.devRef .tc main_v46_7)) := by
  unfold val5
  simp only [trip_w4]
  after_results_entrywise [val4_main_v46_7, cast_eq]
set_option maxRecDepth 8192 in
set_option maxHeartbeats 2000000 in
theorem val5_main_while0b_v104 (V0 : Valuation τ sig (Elt F)) : val5 V0 (no_index (Proc.devRef .tc main_while0b_v104)) = broadcastInDim S4x5000 ![0, 1] bcast_S4x1_S4x5000_0_1 (broadcastInDim S4x1 ![0] bcast_S4_S4x1_0 (res_main_while0b_v48 V0)) := by
  unfold val5
  simp only [trip_w4]
  after_results_entrywise [val4_main_while0b_v48, cast_eq]

/-- The device's buffer contents after the body's first 6 windows. -/
def val6 (V0 : Valuation τ sig (Elt F)) : Valuation τ sig (Elt F) := after trip_w5 (val5 V0)
/-- The buffers that window `trip_w5`'s operations write. -/
abbrev trip_w5_W : List (Ref sig .tc) := [main_while0b_v105, main_while0b_v106, main_while0b_cst_24]
set_option maxRecDepth 8192 in
theorem trip_w5_writes : (trip_w5 : List (HloOp τ sig (Elt F))).Forall fun op => op.writes ⊆ (trip_w5_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w5` does not write keeps its contents through it. -/
theorem val6_keep (V0 : Valuation τ sig (Elt F)) (r : Ref sig .tc) (h : r ∉ trip_w5_W) :
    val6 V0 (Proc.devRef .tc r) = val5 V0 (Proc.devRef .tc r) :=
  after_of_writes_sub trip_w5 _ trip_w5_writes h
theorem val6_main_v46_9 (V0 : Valuation τ sig (Elt F)) : val6 V0 (no_index (Proc.devRef .tc main_v46_9)) = V0 (Proc.devRef .tc main_v46_9) :=
  (val6_keep V0 main_v46_9 (by decide)).trans (val5_main_v46_9 V0)
theorem val6_main_v46_0 (V0 : Valuation τ sig (Elt F)) : val6 V0 (no_index (Proc.devRef .tc main_v46_0)) = V0 (Proc.devRef .tc main_v46_0) :=
  (val6_keep V0 main_v46_0 (by decide)).trans (val5_main_v46_0 V0)
theorem val6_main_v46_1 (V0 : Valuation τ sig (Elt F)) : val6 V0 (no_index (Proc.devRef .tc main_v46_1)) = V0 (Proc.devRef .tc main_v46_1) :=
  (val6_keep V0 main_v46_1 (by decide)).trans (val5_main_v46_1 V0)
theorem val6_main_v46_2 (V0 : Valuation τ sig (Elt F)) : val6 V0 (no_index (Proc.devRef .tc main_v46_2)) = V0 (Proc.devRef .tc main_v46_2) :=
  (val6_keep V0 main_v46_2 (by decide)).trans (val5_main_v46_2 V0)
theorem val6_main_v46_3 (V0 : Valuation τ sig (Elt F)) : val6 V0 (no_index (Proc.devRef .tc main_v46_3)) = V0 (Proc.devRef .tc main_v46_3) :=
  (val6_keep V0 main_v46_3 (by decide)).trans (val5_main_v46_3 V0)
theorem val6_main_v46_4 (V0 : Valuation τ sig (Elt F)) : val6 V0 (no_index (Proc.devRef .tc main_v46_4)) = V0 (Proc.devRef .tc main_v46_4) :=
  (val6_keep V0 main_v46_4 (by decide)).trans (val5_main_v46_4 V0)
theorem val6_main_v46_5 (V0 : Valuation τ sig (Elt F)) : val6 V0 (no_index (Proc.devRef .tc main_v46_5)) = V0 (Proc.devRef .tc main_v46_5) :=
  (val6_keep V0 main_v46_5 (by decide)).trans (val5_main_v46_5 V0)
theorem val6_main_v46_6 (V0 : Valuation τ sig (Elt F)) : val6 V0 (no_index (Proc.devRef .tc main_v46_6)) = V0 (Proc.devRef .tc main_v46_6) :=
  (val6_keep V0 main_v46_6 (by decide)).trans (val5_main_v46_6 V0)
theorem val6_main_v46_7 (V0 : Valuation τ sig (Elt F)) : val6 V0 (no_index (Proc.devRef .tc main_v46_7)) = V0 (Proc.devRef .tc main_v46_7) :=
  (val6_keep V0 main_v46_7 (by decide)).trans (val5_main_v46_7 V0)
theorem val6_main_v46_10 (V0 : Valuation τ sig (Elt F)) : val6 V0 (no_index (Proc.devRef .tc main_v46_10)) = V0 (Proc.devRef .tc main_v46_10) :=
  (val6_keep V0 main_v46_10 (by decide)).trans (val5_main_v46_10 V0)
theorem val6_main_v46_8 (V0 : Valuation τ sig (Elt F)) : val6 V0 (no_index (Proc.devRef .tc main_v46_8)) = V0 (Proc.devRef .tc main_v46_8) :=
  (val6_keep V0 main_v46_8 (by decide)).trans (val5_main_v46_8 V0)
theorem val6_main_while0b_v60 (V0 : Valuation τ sig (Elt F)) : val6 V0 (no_index (Proc.devRef .tc main_while0b_v60)) = select (broadcastInDim S4x7 ![0, 1] bcast_S4x1_S4x7_0_1 (cmpf .ogt (broadcastInDim S4x1 ![0] bcast_S4_S4x1_0 (Host.gather gather_S4x5000_S4x2_S4_n_01_n_n_01_1_11 (V0 (Proc.devRef .tc main_v46_9)) (concatenate S4x2 1 [⟨S4x1, (broadcastInDim S4x1 ![0] bcast_S4_S4x1_0 (V0 (Proc.devRef .tc main_v46_0)))⟩, ⟨S4x1, (broadcastInDim S4x1 ![0] bcast_S4_S4x1_0 (res_main_while0b_v48 V0))⟩] concatenates_S4x1_S4x1_S4x2_d1))) (broadcastInDim S4x1 ![] bcast_S_S4x1 (constant S_ .f32 0xFF800000#32)))) (res_main_while0b_v59 V0) (broadcastInDim S4x7 ![] bcast_S_S4x7 (id (constant S_ .f32 0x00000000#32))) :=
  (val6_keep V0 main_while0b_v60 (by decide)).trans (val5_main_while0b_v60 V0)
set_option maxRecDepth 8192 in
theorem val6_main_while0b_v106 (V0 : Valuation τ sig (Elt F)) : val6 V0 (no_index (Proc.devRef .tc main_while0b_v106)) = ori (andi (cmpf .ogt (Host.divf (res_main_while0b_v79 V0) (addf (subf (addf (broadcastInDim S4x5000 ![0, 1] bcast_S4x1_S4x5000_0_1 (mulf (subf (res_main_while0b_v63 V0) (res_main_while0b_v61 V0)) (subf (res_main_while0b_v64 V0) (res_main_while0b_v62 V0)))) (mulf (subf (V0 (Proc.devRef .tc main_v46_4)) (V0 (Proc.devRef .tc main_v46_2))) (subf (V0 (Proc.devRef .tc main_v46_5)) (V0 (Proc.devRef .tc main_v46_3))))) (res_main_while0b_v79 V0)) (broadcastInDim S4x5000 ![] bcast_S_S4x5000 (constant S_ .f32 0x3089705F#32)))) (broadcastInDim S4x5000 ![] bcast_S_S4x5000 (constant S_ .f32 0x3EE66666#32))) (cmpi .eq (V0 (Proc.devRef .tc main_v46_6)) (broadcastInDim S4x5000 ![0, 1] bcast_S4x1_S4x5000_0_1 (broadcastInDim S4x1 ![0] bcast_S4_S4x1_0 (Host.gather gather_S4x5000_S4x2_S4_n_01_n_n_01_1_11 (V0 (Proc.devRef .tc main_v46_6)) (concatenate S4x2 1 [⟨S4x1, (broadcastInDim S4x1 ![0] bcast_S4_S4x1_0 (V0 (Proc.devRef .tc main_v46_0)))⟩, ⟨S4x1, (broadcastInDim S4x1 ![0] bcast_S4_S4x1_0 (res_main_while0b_v48 V0))⟩] concatenates_S4x1_S4x1_S4x2_d1)))))) (cmpi .eq (broadcastInDim S4x5000 ![0, 1] bcast_S1x5000_S4x5000_0_1 (V0 (Proc.devRef .tc main_v46_7))) (broadcastInDim S4x5000 ![0, 1] bcast_S4x1_S4x5000_0_1 (broadcastInDim S4x1 ![0] bcast_S4_S4x1_0 (res_main_while0b_v48 V0)))) := by
  unfold val6
  simp only [trip_w5]
  after_results_entrywise [val5_main_while0b_v104, val5_main_while0b_v103, val5_main_while0b_v101, cast_eq]
set_option maxRecDepth 8192 in
theorem val6_main_while0b_cst_24 (V0 : Valuation τ sig (Elt F)) : val6 V0 (no_index (Proc.devRef .tc main_while0b_cst_24)) = constant S_ .f32 0xFF800000#32 := by
  unfold val6
  simp only [trip_w5]
  after_results_entrywise [cast_eq]

/-- The device's buffer contents after the body's first 7 windows. -/
def val7 (V0 : Valuation τ sig (Elt F)) : Valuation τ sig (Elt F) := after trip_w6 (val6 V0)
/-- The buffers that window `trip_w6`'s operations write. -/
abbrev trip_w6_W : List (Ref sig .tc) := [main_while0b_call4_v0, main_while0b_call4_v1, main_while0b_v107]
set_option maxRecDepth 8192 in
theorem trip_w6_writes : (trip_w6 : List (HloOp τ sig (Elt F))).Forall fun op => op.writes ⊆ (trip_w6_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w6` does not write keeps its contents through it. -/
theorem val7_keep (V0 : Valuation τ sig (Elt F)) (r : Ref sig .tc) (h : r ∉ trip_w6_W) :
    val7 V0 (Proc.devRef .tc r) = val6 V0 (Proc.devRef .tc r) :=
  after_of_writes_sub trip_w6 _ trip_w6_writes h
theorem val7_main_v46_9 (V0 : Valuation τ sig (Elt F)) : val7 V0 (no_index (Proc.devRef .tc main_v46_9)) = V0 (Proc.devRef .tc main_v46_9) :=
  (val7_keep V0 main_v46_9 (by decide)).trans (val6_main_v46_9 V0)
theorem val7_main_v46_0 (V0 : Valuation τ sig (Elt F)) : val7 V0 (no_index (Proc.devRef .tc main_v46_0)) = V0 (Proc.devRef .tc main_v46_0) :=
  (val7_keep V0 main_v46_0 (by decide)).trans (val6_main_v46_0 V0)
theorem val7_main_v46_1 (V0 : Valuation τ sig (Elt F)) : val7 V0 (no_index (Proc.devRef .tc main_v46_1)) = V0 (Proc.devRef .tc main_v46_1) :=
  (val7_keep V0 main_v46_1 (by decide)).trans (val6_main_v46_1 V0)
theorem val7_main_v46_2 (V0 : Valuation τ sig (Elt F)) : val7 V0 (no_index (Proc.devRef .tc main_v46_2)) = V0 (Proc.devRef .tc main_v46_2) :=
  (val7_keep V0 main_v46_2 (by decide)).trans (val6_main_v46_2 V0)
theorem val7_main_v46_3 (V0 : Valuation τ sig (Elt F)) : val7 V0 (no_index (Proc.devRef .tc main_v46_3)) = V0 (Proc.devRef .tc main_v46_3) :=
  (val7_keep V0 main_v46_3 (by decide)).trans (val6_main_v46_3 V0)
theorem val7_main_v46_4 (V0 : Valuation τ sig (Elt F)) : val7 V0 (no_index (Proc.devRef .tc main_v46_4)) = V0 (Proc.devRef .tc main_v46_4) :=
  (val7_keep V0 main_v46_4 (by decide)).trans (val6_main_v46_4 V0)
theorem val7_main_v46_5 (V0 : Valuation τ sig (Elt F)) : val7 V0 (no_index (Proc.devRef .tc main_v46_5)) = V0 (Proc.devRef .tc main_v46_5) :=
  (val7_keep V0 main_v46_5 (by decide)).trans (val6_main_v46_5 V0)
theorem val7_main_v46_6 (V0 : Valuation τ sig (Elt F)) : val7 V0 (no_index (Proc.devRef .tc main_v46_6)) = V0 (Proc.devRef .tc main_v46_6) :=
  (val7_keep V0 main_v46_6 (by decide)).trans (val6_main_v46_6 V0)
theorem val7_main_v46_7 (V0 : Valuation τ sig (Elt F)) : val7 V0 (no_index (Proc.devRef .tc main_v46_7)) = V0 (Proc.devRef .tc main_v46_7) :=
  (val7_keep V0 main_v46_7 (by decide)).trans (val6_main_v46_7 V0)
theorem val7_main_v46_10 (V0 : Valuation τ sig (Elt F)) : val7 V0 (no_index (Proc.devRef .tc main_v46_10)) = V0 (Proc.devRef .tc main_v46_10) :=
  (val7_keep V0 main_v46_10 (by decide)).trans (val6_main_v46_10 V0)
theorem val7_main_v46_8 (V0 : Valuation τ sig (Elt F)) : val7 V0 (no_index (Proc.devRef .tc main_v46_8)) = V0 (Proc.devRef .tc main_v46_8) :=
  (val7_keep V0 main_v46_8 (by decide)).trans (val6_main_v46_8 V0)
theorem val7_main_while0b_v60 (V0 : Valuation τ sig (Elt F)) : val7 V0 (no_index (Proc.devRef .tc main_while0b_v60)) = select (broadcastInDim S4x7 ![0, 1] bcast_S4x1_S4x7_0_1 (cmpf .ogt (broadcastInDim S4x1 ![0] bcast_S4_S4x1_0 (Host.gather gather_S4x5000_S4x2_S4_n_01_n_n_01_1_11 (V0 (Proc.devRef .tc main_v46_9)) (concatenate S4x2 1 [⟨S4x1, (broadcastInDim S4x1 ![0] bcast_S4_S4x1_0 (V0 (Proc.devRef .tc main_v46_0)))⟩, ⟨S4x1, (broadcastInDim S4x1 ![0] bcast_S4_S4x1_0 (res_main_while0b_v48 V0))⟩] concatenates_S4x1_S4x1_S4x2_d1))) (broadcastInDim S4x1 ![] bcast_S_S4x1 (constant S_ .f32 0xFF800000#32)))) (res_main_while0b_v59 V0) (broadcastInDim S4x7 ![] bcast_S_S4x7 (id (constant S_ .f32 0x00000000#32))) :=
  (val7_keep V0 main_while0b_v60 (by decide)).trans (val6_main_while0b_v60 V0)
set_option maxRecDepth 8192 in
theorem val7_main_while0b_v107 (V0 : Valuation τ sig (Elt F)) : val7 V0 (no_index (Proc.devRef .tc main_while0b_v107)) = select (ori (andi (cmpf .ogt (Host.divf (res_main_while0b_v79 V0) (addf (subf (addf (broadcastInDim S4x5000 ![0, 1] bcast_S4x1_S4x5000_0_1 (mulf (subf (res_main_while0b_v63 V0) (res_main_while0b_v61 V0)) (subf (res_main_while0b_v64 V0) (res_main_while0b_v62 V0)))) (mulf (subf (V0 (Proc.devRef .tc main_v46_4)) (V0 (Proc.devRef .tc main_v46_2))) (subf (V0 (Proc.devRef .tc main_v46_5)) (V0 (Proc.devRef .tc main_v46_3))))) (res_main_while0b_v79 V0)) (broadcastInDim S4x5000 ![] bcast_S_S4x5000 (constant S_ .f32 0x3089705F#32)))) (broadcastInDim S4x5000 ![] bcast_S_S4x5000 (constant S_ .f32 0x3EE66666#32))) (cmpi .eq (V0 (Proc.devRef .tc main_v46_6)) (broadcastInDim S4x5000 ![0, 1] bcast_S4x1_S4x5000_0_1 (broadcastInDim S4x1 ![0] bcast_S4_S4x1_0 (Host.gather gather_S4x5000_S4x2_S4_n_01_n_n_01_1_11 (V0 (Proc.devRef .tc main_v46_6)) (concatenate S4x2 1 [⟨S4x1, (broadcastInDim S4x1 ![0] bcast_S4_S4x1_0 (V0 (Proc.devRef .tc main_v46_0)))⟩, ⟨S4x1, (broadcastInDim S4x1 ![0] bcast_S4_S4x1_0 (res_main_while0b_v48 V0))⟩] concatenates_S4x1_S4x1_S4x2_d1)))))) (cmpi .eq (broadcastInDim S4x5000 ![0, 1] bcast_S1x5000_S4x5000_0_1 (V0 (Proc.devRef .tc main_v46_7))) (broadcastInDim S4x5000 ![0, 1] bcast_S4x1_S4x5000_0_1 (broadcastInDim S4x1 ![0] bcast_S4_S4x1_0 (res_main_while0b_v48 V0))))) (broadcastInDim S4x5000 ![] bcast_S_S4x5000 (id (constant S_ .f32 0xFF800000#32))) (V0 (Proc.devRef .tc main_v46_9)) := by
  unfold val7
  simp only [trip_w6]
  after_results_entrywise [val6_main_v46_9, val6_main_while0b_cst_24, val6_main_while0b_v106, cast_eq]

/-- The device's buffer contents after the body's first 8 windows. -/
def val8 (V0 : Valuation τ sig (Elt F)) : Valuation τ sig (Elt F) := after trip_w7 (val7 V0)
/-- The buffers that window `trip_w7`'s operations write. -/
abbrev trip_w7_W : List (Ref sig .tc) := [main_while0b_call5_v0, main_while0b_call5_c, main_while0b_call5_c_0, main_while0b_v108]
set_option maxRecDepth 8192 in
theorem trip_w7_writes : (trip_w7 : List (HloOp τ sig (Elt F))).Forall fun op => op.writes ⊆ (trip_w7_W.map (Proc.devRef (τ := τ) .tc)).toFinset := by
  simp only [List.Forall]; exact ⟨by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide), by simp only [nullary_writes, unary_writes, binary_writes, ternary_writes, quaternary_writes, reshape_writes, binaryIndexed_writes, nary_writes, unaryIndexed_writes, Finset.singleton_subset_iff, List.mem_toFinset]; exact List.mem_map_of_mem (by decide)⟩
/-- A buffer that window `trip_w7` does not write keeps its contents through it. -/
theorem val8_keep (V0 : Valuation τ sig (Elt F)) (r : Ref sig .tc) (h : r ∉ trip_w7_W) :
    val8 V0 (Proc.devRef .tc r) = val7 V0 (Proc.devRef .tc r) :=
  after_of_writes_sub trip_w7 _ trip_w7_writes h
theorem val8_main_v46_9 (V0 : Valuation τ sig (Elt F)) : val8 V0 (no_index (Proc.devRef .tc main_v46_9)) = V0 (Proc.devRef .tc main_v46_9) :=
  (val8_keep V0 main_v46_9 (by decide)).trans (val7_main_v46_9 V0)
theorem val8_main_v46_0 (V0 : Valuation τ sig (Elt F)) : val8 V0 (no_index (Proc.devRef .tc main_v46_0)) = V0 (Proc.devRef .tc main_v46_0) :=
  (val8_keep V0 main_v46_0 (by decide)).trans (val7_main_v46_0 V0)
theorem val8_main_v46_1 (V0 : Valuation τ sig (Elt F)) : val8 V0 (no_index (Proc.devRef .tc main_v46_1)) = V0 (Proc.devRef .tc main_v46_1) :=
  (val8_keep V0 main_v46_1 (by decide)).trans (val7_main_v46_1 V0)
theorem val8_main_v46_2 (V0 : Valuation τ sig (Elt F)) : val8 V0 (no_index (Proc.devRef .tc main_v46_2)) = V0 (Proc.devRef .tc main_v46_2) :=
  (val8_keep V0 main_v46_2 (by decide)).trans (val7_main_v46_2 V0)
theorem val8_main_v46_3 (V0 : Valuation τ sig (Elt F)) : val8 V0 (no_index (Proc.devRef .tc main_v46_3)) = V0 (Proc.devRef .tc main_v46_3) :=
  (val8_keep V0 main_v46_3 (by decide)).trans (val7_main_v46_3 V0)
theorem val8_main_v46_4 (V0 : Valuation τ sig (Elt F)) : val8 V0 (no_index (Proc.devRef .tc main_v46_4)) = V0 (Proc.devRef .tc main_v46_4) :=
  (val8_keep V0 main_v46_4 (by decide)).trans (val7_main_v46_4 V0)
theorem val8_main_v46_5 (V0 : Valuation τ sig (Elt F)) : val8 V0 (no_index (Proc.devRef .tc main_v46_5)) = V0 (Proc.devRef .tc main_v46_5) :=
  (val8_keep V0 main_v46_5 (by decide)).trans (val7_main_v46_5 V0)
theorem val8_main_v46_6 (V0 : Valuation τ sig (Elt F)) : val8 V0 (no_index (Proc.devRef .tc main_v46_6)) = V0 (Proc.devRef .tc main_v46_6) :=
  (val8_keep V0 main_v46_6 (by decide)).trans (val7_main_v46_6 V0)
theorem val8_main_v46_7 (V0 : Valuation τ sig (Elt F)) : val8 V0 (no_index (Proc.devRef .tc main_v46_7)) = V0 (Proc.devRef .tc main_v46_7) :=
  (val8_keep V0 main_v46_7 (by decide)).trans (val7_main_v46_7 V0)
theorem val8_main_v46_10 (V0 : Valuation τ sig (Elt F)) : val8 V0 (no_index (Proc.devRef .tc main_v46_10)) = V0 (Proc.devRef .tc main_v46_10) :=
  (val8_keep V0 main_v46_10 (by decide)).trans (val7_main_v46_10 V0)
theorem val8_main_v46_8 (V0 : Valuation τ sig (Elt F)) : val8 V0 (no_index (Proc.devRef .tc main_v46_8)) = V0 (Proc.devRef .tc main_v46_8) :=
  (val8_keep V0 main_v46_8 (by decide)).trans (val7_main_v46_8 V0)
theorem val8_main_while0b_v107 (V0 : Valuation τ sig (Elt F)) : val8 V0 (no_index (Proc.devRef .tc main_while0b_v107)) = select (ori (andi (cmpf .ogt (Host.divf (res_main_while0b_v79 V0) (addf (subf (addf (broadcastInDim S4x5000 ![0, 1] bcast_S4x1_S4x5000_0_1 (mulf (subf (res_main_while0b_v63 V0) (res_main_while0b_v61 V0)) (subf (res_main_while0b_v64 V0) (res_main_while0b_v62 V0)))) (mulf (subf (V0 (Proc.devRef .tc main_v46_4)) (V0 (Proc.devRef .tc main_v46_2))) (subf (V0 (Proc.devRef .tc main_v46_5)) (V0 (Proc.devRef .tc main_v46_3))))) (res_main_while0b_v79 V0)) (broadcastInDim S4x5000 ![] bcast_S_S4x5000 (constant S_ .f32 0x3089705F#32)))) (broadcastInDim S4x5000 ![] bcast_S_S4x5000 (constant S_ .f32 0x3EE66666#32))) (cmpi .eq (V0 (Proc.devRef .tc main_v46_6)) (broadcastInDim S4x5000 ![0, 1] bcast_S4x1_S4x5000_0_1 (broadcastInDim S4x1 ![0] bcast_S4_S4x1_0 (Host.gather gather_S4x5000_S4x2_S4_n_01_n_n_01_1_11 (V0 (Proc.devRef .tc main_v46_6)) (concatenate S4x2 1 [⟨S4x1, (broadcastInDim S4x1 ![0] bcast_S4_S4x1_0 (V0 (Proc.devRef .tc main_v46_0)))⟩, ⟨S4x1, (broadcastInDim S4x1 ![0] bcast_S4_S4x1_0 (res_main_while0b_v48 V0))⟩] concatenates_S4x1_S4x1_S4x2_d1)))))) (cmpi .eq (broadcastInDim S4x5000 ![0, 1] bcast_S1x5000_S4x5000_0_1 (V0 (Proc.devRef .tc main_v46_7))) (broadcastInDim S4x5000 ![0, 1] bcast_S4x1_S4x5000_0_1 (broadcastInDim S4x1 ![0] bcast_S4_S4x1_0 (res_main_while0b_v48 V0))))) (broadcastInDim S4x5000 ![] bcast_S_S4x5000 (id (constant S_ .f32 0xFF800000#32))) (V0 (Proc.devRef .tc main_v46_9)) :=
  (val8_keep V0 main_while0b_v107 (by decide)).trans (val7_main_while0b_v107 V0)
set_option maxRecDepth 8192 in
theorem val8_main_while0b_v108 (V0 : Valuation τ sig (Elt F)) : val8 V0 (no_index (Proc.devRef .tc main_while0b_v108)) = Host.dynamicUpdateSlice (V0 (Proc.devRef .tc main_v46_10)) (broadcastInDim S1x4x7 ![1, 2] bcast_S4x7_S1x4x7_1_2 (select (broadcastInDim S4x7 ![0, 1] bcast_S4x1_S4x7_0_1 (cmpf .ogt (broadcastInDim S4x1 ![0] bcast_S4_S4x1_0 (Host.gather gather_S4x5000_S4x2_S4_n_01_n_n_01_1_11 (V0 (Proc.devRef .tc main_v46_9)) (concatenate S4x2 1 [⟨S4x1, (broadcastInDim S4x1 ![0] bcast_S4_S4x1_0 (V0 (Proc.devRef .tc main_v46_0)))⟩, ⟨S4x1, (broadcastInDim S4x1 ![0] bcast_S4_S4x1_0 (res_main_while0b_v48 V0))⟩] concatenates_S4x1_S4x1_S4x2_d1))) (broadcastInDim S4x1 ![] bcast_S_S4x1 (constant S_ .f32 0xFF800000#32)))) (res_main_while0b_v59 V0) (broadcastInDim S4x7 ![] bcast_S_S4x7 (id (constant S_ .f32 0x00000000#32))))) (fun k => (((![V0 (Proc.devRef .tc main_v46_8), constantI S_ 32 0#32, constantI S_ 32 0#32] : Fin 3 → (⟨S_, .i32⟩ : BufTy).Contents (Elt F))) k (Shape.Idx.first h_S_)).toInt) updateFits_S100x4x7_S1x4x7 := by
  unfold val8
  simp only [trip_w7]
  after_results_entrywise [val7_main_v46_8, val7_main_while0b_v60, val7_main_v46_10, cast_eq]

set_option maxRecDepth 8192 in
/-- The body's stretches before `while0Ops0_6`, from any contents: their windows in order. -/
theorem trip_windows (V0 : Valuation τ sig (Elt F)) : after while0Ops0_5 (after while0Ops0_4 (after while0Ops0_3 (after while0Ops0_2 (after while0Ops0_1 (after while0Ops0 (V0)))))) = val8 V0 := by
  simp only [while0Ops0_cut, while0Ops0_1_cut, while0Ops0_2_cut, while0Ops0_3_cut, while0Ops0_4_cut, while0Ops0_5_cut, after_append]
  rfl

set_option maxRecDepth 8192 in
set_option maxHeartbeats 2000000 in
/-- `main_v46_0` after one trip's body, from any contents. -/
theorem trip_main_v46_0 (V0 : Valuation τ sig (Elt F)) : afterL bodyI V0 (no_index (Proc.devRef .tc main_v46_0)) = V0 (Proc.devRef .tc main_v46_0) := by
  simp only [bodyI, afterL_cons, afterL_nil, trip_windows]
  after_results
  all_goals (try simp only [val8_main_while0b_v107, val8_main_while0b_v108, val8_main_v46_0, val8_main_v46_1, val8_main_v46_2, val8_main_v46_3, val8_main_v46_4, val8_main_v46_5, val8_main_v46_6, val8_main_v46_7, val8_main_v46_8, val8_main_v46_9, val8_main_v46_10]) <;> rfl
set_option maxRecDepth 8192 in
set_option maxHeartbeats 2000000 in
/-- `main_v46_1` after one trip's body, from any contents. -/
theorem trip_main_v46_1 (V0 : Valuation τ sig (Elt F)) : afterL bodyI V0 (no_index (Proc.devRef .tc main_v46_1)) = V0 (Proc.devRef .tc main_v46_1) := by
  simp only [bodyI, afterL_cons, afterL_nil, trip_windows]
  after_results
  all_goals (try simp only [val8_main_while0b_v107, val8_main_while0b_v108, val8_main_v46_0, val8_main_v46_1, val8_main_v46_2, val8_main_v46_3, val8_main_v46_4, val8_main_v46_5, val8_main_v46_6, val8_main_v46_7, val8_main_v46_8, val8_main_v46_9, val8_main_v46_10]) <;> rfl
set_option maxRecDepth 8192 in
set_option maxHeartbeats 2000000 in
/-- `main_v46_2` after one trip's body, from any contents. -/
theorem trip_main_v46_2 (V0 : Valuation τ sig (Elt F)) : afterL bodyI V0 (no_index (Proc.devRef .tc main_v46_2)) = V0 (Proc.devRef .tc main_v46_2) := by
  simp only [bodyI, afterL_cons, afterL_nil, trip_windows]
  after_results
  all_goals (try simp only [val8_main_while0b_v107, val8_main_while0b_v108, val8_main_v46_0, val8_main_v46_1, val8_main_v46_2, val8_main_v46_3, val8_main_v46_4, val8_main_v46_5, val8_main_v46_6, val8_main_v46_7, val8_main_v46_8, val8_main_v46_9, val8_main_v46_10]) <;> rfl
set_option maxRecDepth 8192 in
set_option maxHeartbeats 2000000 in
/-- `main_v46_3` after one trip's body, from any contents. -/
theorem trip_main_v46_3 (V0 : Valuation τ sig (Elt F)) : afterL bodyI V0 (no_index (Proc.devRef .tc main_v46_3)) = V0 (Proc.devRef .tc main_v46_3) := by
  simp only [bodyI, afterL_cons, afterL_nil, trip_windows]
  after_results
  all_goals (try simp only [val8_main_while0b_v107, val8_main_while0b_v108, val8_main_v46_0, val8_main_v46_1, val8_main_v46_2, val8_main_v46_3, val8_main_v46_4, val8_main_v46_5, val8_main_v46_6, val8_main_v46_7, val8_main_v46_8, val8_main_v46_9, val8_main_v46_10]) <;> rfl
set_option maxRecDepth 8192 in
set_option maxHeartbeats 2000000 in
/-- `main_v46_4` after one trip's body, from any contents. -/
theorem trip_main_v46_4 (V0 : Valuation τ sig (Elt F)) : afterL bodyI V0 (no_index (Proc.devRef .tc main_v46_4)) = V0 (Proc.devRef .tc main_v46_4) := by
  simp only [bodyI, afterL_cons, afterL_nil, trip_windows]
  after_results
  all_goals (try simp only [val8_main_while0b_v107, val8_main_while0b_v108, val8_main_v46_0, val8_main_v46_1, val8_main_v46_2, val8_main_v46_3, val8_main_v46_4, val8_main_v46_5, val8_main_v46_6, val8_main_v46_7, val8_main_v46_8, val8_main_v46_9, val8_main_v46_10]) <;> rfl
set_option maxRecDepth 8192 in
set_option maxHeartbeats 2000000 in
/-- `main_v46_5` after one trip's body, from any contents. -/
theorem trip_main_v46_5 (V0 : Valuation τ sig (Elt F)) : afterL bodyI V0 (no_index (Proc.devRef .tc main_v46_5)) = V0 (Proc.devRef .tc main_v46_5) := by
  simp only [bodyI, afterL_cons, afterL_nil, trip_windows]
  after_results
  all_goals (try simp only [val8_main_while0b_v107, val8_main_while0b_v108, val8_main_v46_0, val8_main_v46_1, val8_main_v46_2, val8_main_v46_3, val8_main_v46_4, val8_main_v46_5, val8_main_v46_6, val8_main_v46_7, val8_main_v46_8, val8_main_v46_9, val8_main_v46_10]) <;> rfl
set_option maxRecDepth 8192 in
set_option maxHeartbeats 2000000 in
/-- `main_v46_6` after one trip's body, from any contents. -/
theorem trip_main_v46_6 (V0 : Valuation τ sig (Elt F)) : afterL bodyI V0 (no_index (Proc.devRef .tc main_v46_6)) = V0 (Proc.devRef .tc main_v46_6) := by
  simp only [bodyI, afterL_cons, afterL_nil, trip_windows]
  after_results
  all_goals (try simp only [val8_main_while0b_v107, val8_main_while0b_v108, val8_main_v46_0, val8_main_v46_1, val8_main_v46_2, val8_main_v46_3, val8_main_v46_4, val8_main_v46_5, val8_main_v46_6, val8_main_v46_7, val8_main_v46_8, val8_main_v46_9, val8_main_v46_10]) <;> rfl
set_option maxRecDepth 8192 in
set_option maxHeartbeats 2000000 in
/-- `main_v46_7` after one trip's body, from any contents. -/
theorem trip_main_v46_7 (V0 : Valuation τ sig (Elt F)) : afterL bodyI V0 (no_index (Proc.devRef .tc main_v46_7)) = V0 (Proc.devRef .tc main_v46_7) := by
  simp only [bodyI, afterL_cons, afterL_nil, trip_windows]
  after_results
  all_goals (try simp only [val8_main_while0b_v107, val8_main_while0b_v108, val8_main_v46_0, val8_main_v46_1, val8_main_v46_2, val8_main_v46_3, val8_main_v46_4, val8_main_v46_5, val8_main_v46_6, val8_main_v46_7, val8_main_v46_8, val8_main_v46_9, val8_main_v46_10]) <;> rfl
set_option maxRecDepth 8192 in
set_option maxHeartbeats 2000000 in
/-- `main_v46_8` after one trip's body, from any contents. -/
theorem trip_main_v46_8 (V0 : Valuation τ sig (Elt F)) : afterL bodyI V0 (no_index (Proc.devRef .tc main_v46_8)) = id (addi (V0 (Proc.devRef .tc main_v46_8)) (constantI S_ 32 1#32)) := by
  simp only [bodyI, afterL_cons, afterL_nil, trip_windows]
  after_results
  all_goals (try simp only [val8_main_while0b_v107, val8_main_while0b_v108, val8_main_v46_0, val8_main_v46_1, val8_main_v46_2, val8_main_v46_3, val8_main_v46_4, val8_main_v46_5, val8_main_v46_6, val8_main_v46_7, val8_main_v46_8, val8_main_v46_9, val8_main_v46_10]) <;> rfl
set_option maxRecDepth 8192 in
set_option maxHeartbeats 2000000 in
/-- `main_v46_9` after one trip's body, from any contents. -/
theorem trip_main_v46_9 (V0 : Valuation τ sig (Elt F)) : afterL bodyI V0 (no_index (Proc.devRef .tc main_v46_9)) = id (select (ori (andi (cmpf .ogt (Host.divf (res_main_while0b_v79 V0) (addf (subf (addf (broadcastInDim S4x5000 ![0, 1] bcast_S4x1_S4x5000_0_1 (mulf (subf (res_main_while0b_v63 V0) (res_main_while0b_v61 V0)) (subf (res_main_while0b_v64 V0) (res_main_while0b_v62 V0)))) (mulf (subf (V0 (Proc.devRef .tc main_v46_4)) (V0 (Proc.devRef .tc main_v46_2))) (subf (V0 (Proc.devRef .tc main_v46_5)) (V0 (Proc.devRef .tc main_v46_3))))) (res_main_while0b_v79 V0)) (broadcastInDim S4x5000 ![] bcast_S_S4x5000 (constant S_ .f32 0x3089705F#32)))) (broadcastInDim S4x5000 ![] bcast_S_S4x5000 (constant S_ .f32 0x3EE66666#32))) (cmpi .eq (V0 (Proc.devRef .tc main_v46_6)) (broadcastInDim S4x5000 ![0, 1] bcast_S4x1_S4x5000_0_1 (broadcastInDim S4x1 ![0] bcast_S4_S4x1_0 (Host.gather gather_S4x5000_S4x2_S4_n_01_n_n_01_1_11 (V0 (Proc.devRef .tc main_v46_6)) (concatenate S4x2 1 [⟨S4x1, (broadcastInDim S4x1 ![0] bcast_S4_S4x1_0 (V0 (Proc.devRef .tc main_v46_0)))⟩, ⟨S4x1, (broadcastInDim S4x1 ![0] bcast_S4_S4x1_0 (res_main_while0b_v48 V0))⟩] concatenates_S4x1_S4x1_S4x2_d1)))))) (cmpi .eq (broadcastInDim S4x5000 ![0, 1] bcast_S1x5000_S4x5000_0_1 (V0 (Proc.devRef .tc main_v46_7))) (broadcastInDim S4x5000 ![0, 1] bcast_S4x1_S4x5000_0_1 (broadcastInDim S4x1 ![0] bcast_S4_S4x1_0 (res_main_while0b_v48 V0))))) (broadcastInDim S4x5000 ![] bcast_S_S4x5000 (id (constant S_ .f32 0xFF800000#32))) (V0 (Proc.devRef .tc main_v46_9))) := by
  simp only [bodyI, afterL_cons, afterL_nil, trip_windows]
  after_results
  all_goals (try simp only [val8_main_while0b_v107, val8_main_while0b_v108, val8_main_v46_0, val8_main_v46_1, val8_main_v46_2, val8_main_v46_3, val8_main_v46_4, val8_main_v46_5, val8_main_v46_6, val8_main_v46_7, val8_main_v46_8, val8_main_v46_9, val8_main_v46_10]) <;> rfl
set_option maxRecDepth 8192 in
set_option maxHeartbeats 2000000 in
/-- `main_v46_10` after one trip's body, from any contents. -/
theorem trip_main_v46_10 (V0 : Valuation τ sig (Elt F)) : afterL bodyI V0 (no_index (Proc.devRef .tc main_v46_10)) = id (Host.dynamicUpdateSlice (V0 (Proc.devRef .tc main_v46_10)) (broadcastInDim S1x4x7 ![1, 2] bcast_S4x7_S1x4x7_1_2 (select (broadcastInDim S4x7 ![0, 1] bcast_S4x1_S4x7_0_1 (cmpf .ogt (broadcastInDim S4x1 ![0] bcast_S4_S4x1_0 (Host.gather gather_S4x5000_S4x2_S4_n_01_n_n_01_1_11 (V0 (Proc.devRef .tc main_v46_9)) (concatenate S4x2 1 [⟨S4x1, (broadcastInDim S4x1 ![0] bcast_S4_S4x1_0 (V0 (Proc.devRef .tc main_v46_0)))⟩, ⟨S4x1, (broadcastInDim S4x1 ![0] bcast_S4_S4x1_0 (res_main_while0b_v48 V0))⟩] concatenates_S4x1_S4x1_S4x2_d1))) (broadcastInDim S4x1 ![] bcast_S_S4x1 (constant S_ .f32 0xFF800000#32)))) (res_main_while0b_v59 V0) (broadcastInDim S4x7 ![] bcast_S_S4x7 (id (constant S_ .f32 0x00000000#32))))) (fun k => (((![V0 (Proc.devRef .tc main_v46_8), constantI S_ 32 0#32, constantI S_ 32 0#32] : Fin 3 → (⟨S_, .i32⟩ : BufTy).Contents (Elt F))) k (Shape.Idx.first h_S_)).toInt) updateFits_S100x4x7_S1x4x7) := by
  simp only [bodyI, afterL_cons, afterL_nil, trip_windows]
  after_results
  all_goals (try simp only [val8_main_while0b_v107, val8_main_while0b_v108, val8_main_v46_0, val8_main_v46_1, val8_main_v46_2, val8_main_v46_3, val8_main_v46_4, val8_main_v46_5, val8_main_v46_6, val8_main_v46_7, val8_main_v46_8, val8_main_v46_9, val8_main_v46_10]) <;> rfl

/-- The loop's carried buffers. -/
abbrev carriedRefs : List (Ref sig .tc) := [main_v46_0, main_v46_1, main_v46_2, main_v46_3, main_v46_4, main_v46_5, main_v46_6, main_v46_7, main_v46_8, main_v46_9, main_v46_10]
/-- Two contents agree on the carried buffers: all that one trip reads. -/
def Agree (V V' : Valuation τ sig (Elt F)) : Prop := ∀ j ∈ carriedRefs, V (Proc.devRef .tc j) = V' (Proc.devRef .tc j)

set_option maxRecDepth 8192 in
theorem res_main_while0b_call2_v0_congr {V0 V0' : Valuation τ sig (Elt F)} (h : Agree V0 V0') : res_main_while0b_call2_v0 V0 = res_main_while0b_call2_v0 V0' := by
  unfold res_main_while0b_call2_v0
  rfl
set_option maxRecDepth 8192 in
theorem res_main_while0b_call2_cst_congr {V0 V0' : Valuation τ sig (Elt F)} (h : Agree V0 V0') : res_main_while0b_call2_cst V0 = res_main_while0b_call2_cst V0' := by
  unfold res_main_while0b_call2_cst
  rfl
set_option maxRecDepth 8192 in
theorem res_main_while0b_call2_c_congr {V0 V0' : Valuation τ sig (Elt F)} (h : Agree V0 V0') : res_main_while0b_call2_c V0 = res_main_while0b_call2_c V0' := by
  unfold res_main_while0b_call2_c
  rfl
set_option maxRecDepth 8192 in
theorem res_main_while0b_v48_congr {V0 V0' : Valuation τ sig (Elt F)} (h : Agree V0 V0') : res_main_while0b_v48 V0 = res_main_while0b_v48 V0' := by
  unfold res_main_while0b_v48
  rw [res_main_while0b_call2_v0_congr h, res_main_while0b_call2_cst_congr h, res_main_while0b_call2_c_congr h, h main_v46_9 (by decide)]
set_option maxRecDepth 8192 in
theorem res_main_while0b_v59_congr {V0 V0' : Valuation τ sig (Elt F)} (h : Agree V0 V0') : res_main_while0b_v59 V0 = res_main_while0b_v59 V0' := by
  unfold res_main_while0b_v59
  rw [res_main_while0b_v48_congr h, h main_v46_1 (by decide), h main_v46_0 (by decide)]
set_option maxRecDepth 8192 in
theorem res_main_while0b_v61_congr {V0 V0' : Valuation τ sig (Elt F)} (h : Agree V0 V0') : res_main_while0b_v61 V0 = res_main_while0b_v61 V0' := by
  unfold res_main_while0b_v61
  rw [res_main_while0b_v59_congr h]
set_option maxRecDepth 8192 in
theorem res_main_while0b_v62_congr {V0 V0' : Valuation τ sig (Elt F)} (h : Agree V0 V0') : res_main_while0b_v62 V0 = res_main_while0b_v62 V0' := by
  unfold res_main_while0b_v62
  rw [res_main_while0b_v59_congr h]
set_option maxRecDepth 8192 in
theorem res_main_while0b_v63_congr {V0 V0' : Valuation τ sig (Elt F)} (h : Agree V0 V0') : res_main_while0b_v63 V0 = res_main_while0b_v63 V0' := by
  unfold res_main_while0b_v63
  rw [res_main_while0b_v59_congr h]
set_option maxRecDepth 8192 in
theorem res_main_while0b_v64_congr {V0 V0' : Valuation τ sig (Elt F)} (h : Agree V0 V0') : res_main_while0b_v64 V0 = res_main_while0b_v64 V0' := by
  unfold res_main_while0b_v64
  rw [res_main_while0b_v59_congr h]
set_option maxRecDepth 8192 in
theorem res_main_while0b_v79_congr {V0 V0' : Valuation τ sig (Elt F)} (h : Agree V0 V0') : res_main_while0b_v79 V0 = res_main_while0b_v79 V0' := by
  unfold res_main_while0b_v79
  rw [res_main_while0b_v63_congr h, res_main_while0b_v61_congr h, res_main_while0b_v64_congr h, res_main_while0b_v62_congr h, h main_v46_4 (by decide), h main_v46_2 (by decide), h main_v46_5 (by decide), h main_v46_3 (by decide)]

set_option maxRecDepth 8192 in
/-- `main_v46_8` after one trip, of the contents before it. -/
def step_main_v46_8 (V0 : Valuation τ sig (Elt F)) : (Proc.devRef .tc main_v46_8 : DevRef τ sig).ty.Contents (Elt F) :=
  id (addi (V0 (Proc.devRef .tc main_v46_8)) (constantI S_ 32 1#32))
set_option maxRecDepth 8192 in
theorem step_main_v46_8_congr {V0 V0' : Valuation τ sig (Elt F)} (h : Agree V0 V0') : step_main_v46_8 V0 = step_main_v46_8 V0' := by
  unfold step_main_v46_8
  rw [h main_v46_8 (by decide)]
set_option maxRecDepth 8192 in
/-- `main_v46_9` after one trip, of the contents before it. -/
def step_main_v46_9 (V0 : Valuation τ sig (Elt F)) : (Proc.devRef .tc main_v46_9 : DevRef τ sig).ty.Contents (Elt F) :=
  id (select (ori (andi (cmpf .ogt (Host.divf (res_main_while0b_v79 V0) (addf (subf (addf (broadcastInDim S4x5000 ![0, 1] bcast_S4x1_S4x5000_0_1 (mulf (subf (res_main_while0b_v63 V0) (res_main_while0b_v61 V0)) (subf (res_main_while0b_v64 V0) (res_main_while0b_v62 V0)))) (mulf (subf (V0 (Proc.devRef .tc main_v46_4)) (V0 (Proc.devRef .tc main_v46_2))) (subf (V0 (Proc.devRef .tc main_v46_5)) (V0 (Proc.devRef .tc main_v46_3))))) (res_main_while0b_v79 V0)) (broadcastInDim S4x5000 ![] bcast_S_S4x5000 (constant S_ .f32 0x3089705F#32)))) (broadcastInDim S4x5000 ![] bcast_S_S4x5000 (constant S_ .f32 0x3EE66666#32))) (cmpi .eq (V0 (Proc.devRef .tc main_v46_6)) (broadcastInDim S4x5000 ![0, 1] bcast_S4x1_S4x5000_0_1 (broadcastInDim S4x1 ![0] bcast_S4_S4x1_0 (Host.gather gather_S4x5000_S4x2_S4_n_01_n_n_01_1_11 (V0 (Proc.devRef .tc main_v46_6)) (concatenate S4x2 1 [⟨S4x1, (broadcastInDim S4x1 ![0] bcast_S4_S4x1_0 (V0 (Proc.devRef .tc main_v46_0)))⟩, ⟨S4x1, (broadcastInDim S4x1 ![0] bcast_S4_S4x1_0 (res_main_while0b_v48 V0))⟩] concatenates_S4x1_S4x1_S4x2_d1)))))) (cmpi .eq (broadcastInDim S4x5000 ![0, 1] bcast_S1x5000_S4x5000_0_1 (V0 (Proc.devRef .tc main_v46_7))) (broadcastInDim S4x5000 ![0, 1] bcast_S4x1_S4x5000_0_1 (broadcastInDim S4x1 ![0] bcast_S4_S4x1_0 (res_main_while0b_v48 V0))))) (broadcastInDim S4x5000 ![] bcast_S_S4x5000 (id (constant S_ .f32 0xFF800000#32))) (V0 (Proc.devRef .tc main_v46_9)))
set_option maxRecDepth 8192 in
theorem step_main_v46_9_congr {V0 V0' : Valuation τ sig (Elt F)} (h : Agree V0 V0') : step_main_v46_9 V0 = step_main_v46_9 V0' := by
  unfold step_main_v46_9
  rw [res_main_while0b_v79_congr h, res_main_while0b_v63_congr h, res_main_while0b_v61_congr h, res_main_while0b_v64_congr h, res_main_while0b_v62_congr h, res_main_while0b_v48_congr h, h main_v46_4 (by decide), h main_v46_2 (by decide), h main_v46_5 (by decide), h main_v46_3 (by decide), h main_v46_6 (by decide), h main_v46_0 (by decide), h main_v46_7 (by decide), h main_v46_9 (by decide)]
set_option maxRecDepth 8192 in
/-- `main_v46_10` after one trip, of the contents before it. -/
def step_main_v46_10 (V0 : Valuation τ sig (Elt F)) : (Proc.devRef .tc main_v46_10 : DevRef τ sig).ty.Contents (Elt F) :=
  id (Host.dynamicUpdateSlice (V0 (Proc.devRef .tc main_v46_10)) (broadcastInDim S1x4x7 ![1, 2] bcast_S4x7_S1x4x7_1_2 (select (broadcastInDim S4x7 ![0, 1] bcast_S4x1_S4x7_0_1 (cmpf .ogt (broadcastInDim S4x1 ![0] bcast_S4_S4x1_0 (Host.gather gather_S4x5000_S4x2_S4_n_01_n_n_01_1_11 (V0 (Proc.devRef .tc main_v46_9)) (concatenate S4x2 1 [⟨S4x1, (broadcastInDim S4x1 ![0] bcast_S4_S4x1_0 (V0 (Proc.devRef .tc main_v46_0)))⟩, ⟨S4x1, (broadcastInDim S4x1 ![0] bcast_S4_S4x1_0 (res_main_while0b_v48 V0))⟩] concatenates_S4x1_S4x1_S4x2_d1))) (broadcastInDim S4x1 ![] bcast_S_S4x1 (constant S_ .f32 0xFF800000#32)))) (res_main_while0b_v59 V0) (broadcastInDim S4x7 ![] bcast_S_S4x7 (id (constant S_ .f32 0x00000000#32))))) (fun k => (((![V0 (Proc.devRef .tc main_v46_8), constantI S_ 32 0#32, constantI S_ 32 0#32] : Fin 3 → (⟨S_, .i32⟩ : BufTy).Contents (Elt F))) k (Shape.Idx.first h_S_)).toInt) updateFits_S100x4x7_S1x4x7)
set_option maxRecDepth 8192 in
theorem step_main_v46_10_congr {V0 V0' : Valuation τ sig (Elt F)} (h : Agree V0 V0') : step_main_v46_10 V0 = step_main_v46_10 V0' := by
  unfold step_main_v46_10
  rw [res_main_while0b_v48_congr h, res_main_while0b_v59_congr h, h main_v46_10 (by decide), h main_v46_9 (by decide), h main_v46_0 (by decide), h main_v46_8 (by decide)]

/-- ONE TRIP on the carried buffers: the buffers the body writes step, everything else is as it was. -/
def STEP (V0 : Valuation τ sig (Elt F)) : Valuation τ sig (Elt F) :=
  Function.update (Function.update (Function.update (V0) (Proc.devRef .tc main_v46_8) (step_main_v46_8 V0)) (Proc.devRef .tc main_v46_9) (step_main_v46_9 V0)) (Proc.devRef .tc main_v46_10) (step_main_v46_10 V0)

theorem STEP_main_v46_0 (V0 : Valuation τ sig (Elt F)) : STEP V0 (Proc.devRef .tc main_v46_0) = V0 (Proc.devRef .tc main_v46_0) := by
  unfold STEP; rw [Function.update_of_ne (devRef_ne_of_ne (by decide))]; rw [Function.update_of_ne (devRef_ne_of_ne (by decide))]; rw [Function.update_of_ne (devRef_ne_of_ne (by decide))]
theorem STEP_main_v46_1 (V0 : Valuation τ sig (Elt F)) : STEP V0 (Proc.devRef .tc main_v46_1) = V0 (Proc.devRef .tc main_v46_1) := by
  unfold STEP; rw [Function.update_of_ne (devRef_ne_of_ne (by decide))]; rw [Function.update_of_ne (devRef_ne_of_ne (by decide))]; rw [Function.update_of_ne (devRef_ne_of_ne (by decide))]
theorem STEP_main_v46_2 (V0 : Valuation τ sig (Elt F)) : STEP V0 (Proc.devRef .tc main_v46_2) = V0 (Proc.devRef .tc main_v46_2) := by
  unfold STEP; rw [Function.update_of_ne (devRef_ne_of_ne (by decide))]; rw [Function.update_of_ne (devRef_ne_of_ne (by decide))]; rw [Function.update_of_ne (devRef_ne_of_ne (by decide))]
theorem STEP_main_v46_3 (V0 : Valuation τ sig (Elt F)) : STEP V0 (Proc.devRef .tc main_v46_3) = V0 (Proc.devRef .tc main_v46_3) := by
  unfold STEP; rw [Function.update_of_ne (devRef_ne_of_ne (by decide))]; rw [Function.update_of_ne (devRef_ne_of_ne (by decide))]; rw [Function.update_of_ne (devRef_ne_of_ne (by decide))]
theorem STEP_main_v46_4 (V0 : Valuation τ sig (Elt F)) : STEP V0 (Proc.devRef .tc main_v46_4) = V0 (Proc.devRef .tc main_v46_4) := by
  unfold STEP; rw [Function.update_of_ne (devRef_ne_of_ne (by decide))]; rw [Function.update_of_ne (devRef_ne_of_ne (by decide))]; rw [Function.update_of_ne (devRef_ne_of_ne (by decide))]
theorem STEP_main_v46_5 (V0 : Valuation τ sig (Elt F)) : STEP V0 (Proc.devRef .tc main_v46_5) = V0 (Proc.devRef .tc main_v46_5) := by
  unfold STEP; rw [Function.update_of_ne (devRef_ne_of_ne (by decide))]; rw [Function.update_of_ne (devRef_ne_of_ne (by decide))]; rw [Function.update_of_ne (devRef_ne_of_ne (by decide))]
theorem STEP_main_v46_6 (V0 : Valuation τ sig (Elt F)) : STEP V0 (Proc.devRef .tc main_v46_6) = V0 (Proc.devRef .tc main_v46_6) := by
  unfold STEP; rw [Function.update_of_ne (devRef_ne_of_ne (by decide))]; rw [Function.update_of_ne (devRef_ne_of_ne (by decide))]; rw [Function.update_of_ne (devRef_ne_of_ne (by decide))]
theorem STEP_main_v46_7 (V0 : Valuation τ sig (Elt F)) : STEP V0 (Proc.devRef .tc main_v46_7) = V0 (Proc.devRef .tc main_v46_7) := by
  unfold STEP; rw [Function.update_of_ne (devRef_ne_of_ne (by decide))]; rw [Function.update_of_ne (devRef_ne_of_ne (by decide))]; rw [Function.update_of_ne (devRef_ne_of_ne (by decide))]
theorem STEP_main_v46_8 (V0 : Valuation τ sig (Elt F)) : STEP V0 (Proc.devRef .tc main_v46_8) = step_main_v46_8 V0 := by
  unfold STEP; rw [Function.update_of_ne (devRef_ne_of_ne (by decide))]; rw [Function.update_of_ne (devRef_ne_of_ne (by decide))]; rw [Function.update_self]
theorem STEP_main_v46_9 (V0 : Valuation τ sig (Elt F)) : STEP V0 (Proc.devRef .tc main_v46_9) = step_main_v46_9 V0 := by
  unfold STEP; rw [Function.update_of_ne (devRef_ne_of_ne (by decide))]; rw [Function.update_self]
theorem STEP_main_v46_10 (V0 : Valuation τ sig (Elt F)) : STEP V0 (Proc.devRef .tc main_v46_10) = step_main_v46_10 V0 := by
  unfold STEP; rw [Function.update_self]

/-- The condition's operations write none of the carried buffers. -/
theorem cond_keeps (X : Valuation τ sig (Elt F)) : Agree (after condOps X) X := by
  intro j hj
  refine after_of_forall_not_mem condOps X fun op hop => ?_
  fin_cases hop <;> fin_cases hj <;> exact fun h => devRef_ne_of_ne (by decide) (Finset.mem_singleton.mp h)

set_option maxRecDepth 8192 in
/-- One trip (the condition's operations, then the body's stretches) is `STEP` on the carried buffers. -/
theorem trip_agree (X : Valuation τ sig (Elt F)) : Agree (afterL bodyI (after condOps X)) (STEP X) := by
  have hc := cond_keeps X
  intro j hj
  fin_cases hj
  · exact (trip_main_v46_0 (after condOps X)).trans ((hc main_v46_0 (by decide)).trans (STEP_main_v46_0 X).symm)
  · exact (trip_main_v46_1 (after condOps X)).trans ((hc main_v46_1 (by decide)).trans (STEP_main_v46_1 X).symm)
  · exact (trip_main_v46_2 (after condOps X)).trans ((hc main_v46_2 (by decide)).trans (STEP_main_v46_2 X).symm)
  · exact (trip_main_v46_3 (after condOps X)).trans ((hc main_v46_3 (by decide)).trans (STEP_main_v46_3 X).symm)
  · exact (trip_main_v46_4 (after condOps X)).trans ((hc main_v46_4 (by decide)).trans (STEP_main_v46_4 X).symm)
  · exact (trip_main_v46_5 (after condOps X)).trans ((hc main_v46_5 (by decide)).trans (STEP_main_v46_5 X).symm)
  · exact (trip_main_v46_6 (after condOps X)).trans ((hc main_v46_6 (by decide)).trans (STEP_main_v46_6 X).symm)
  · exact (trip_main_v46_7 (after condOps X)).trans ((hc main_v46_7 (by decide)).trans (STEP_main_v46_7 X).symm)
  · exact (trip_main_v46_8 (after condOps X)).trans ((step_main_v46_8_congr hc).trans (STEP_main_v46_8 X).symm)
  · exact (trip_main_v46_9 (after condOps X)).trans ((step_main_v46_9_congr hc).trans (STEP_main_v46_9 X).symm)
  · exact (trip_main_v46_10 (after condOps X)).trans ((step_main_v46_10_congr hc).trans (STEP_main_v46_10 X).symm)

set_option maxRecDepth 8192 in
/-- `STEP` reads the carried buffers only. -/
theorem STEP_congr {V V' : Valuation τ sig (Elt F)} (h : Agree V V') : Agree (STEP V) (STEP V') := by
  intro j hj
  fin_cases hj
  · rw [STEP_main_v46_0, STEP_main_v46_0]; exact h main_v46_0 (by decide)
  · rw [STEP_main_v46_1, STEP_main_v46_1]; exact h main_v46_1 (by decide)
  · rw [STEP_main_v46_2, STEP_main_v46_2]; exact h main_v46_2 (by decide)
  · rw [STEP_main_v46_3, STEP_main_v46_3]; exact h main_v46_3 (by decide)
  · rw [STEP_main_v46_4, STEP_main_v46_4]; exact h main_v46_4 (by decide)
  · rw [STEP_main_v46_5, STEP_main_v46_5]; exact h main_v46_5 (by decide)
  · rw [STEP_main_v46_6, STEP_main_v46_6]; exact h main_v46_6 (by decide)
  · rw [STEP_main_v46_7, STEP_main_v46_7]; exact h main_v46_7 (by decide)
  · rw [STEP_main_v46_8, STEP_main_v46_8]; exact step_main_v46_8_congr h
  · rw [STEP_main_v46_9, STEP_main_v46_9]; exact step_main_v46_9_congr h
  · rw [STEP_main_v46_10, STEP_main_v46_10]; exact step_main_v46_10_congr h

/-- Before the `k`-th condition the carried buffers are `STEP` iterated `k` times on the loop's entry. -/
theorem atK_agree (c : Dev nD) : ∀ k, Agree (atK m k c) (STEP^[k] (entryContents preI m c))
  | 0 => fun _ _ => rfl
  | k + 1 => fun j hj => by
    rw [Function.iterate_succ_apply']
    exact (trip_agree (atK m k c) j hj).trans (STEP_congr (atK_agree c k) j hj)

theorem keep_main_arg0_hostOps0 (V : Valuation τ sig (Elt F)) : after hostOps0 V (Proc.devRef .tc main_arg0) = V (Proc.devRef .tc main_arg0) :=
  after_of_writes_sub hostOps0 V hostOps0_writes (by decide +kernel)
theorem keep_main_arg0_hostOps0_1 (V : Valuation τ sig (Elt F)) : after hostOps0_1 V (Proc.devRef .tc main_arg0) = V (Proc.devRef .tc main_arg0) :=
  after_of_writes_sub hostOps0_1 V hostOps0_1_writes (by decide +kernel)
theorem keep_main_arg0_hostOps0_2 (V : Valuation τ sig (Elt F)) : after hostOps0_2 V (Proc.devRef .tc main_arg0) = V (Proc.devRef .tc main_arg0) :=
  after_of_writes_sub hostOps0_2 V hostOps0_2_writes (by decide +kernel)
theorem keep_main_arg0_hostOps0_3 (V : Valuation τ sig (Elt F)) : after hostOps0_3 V (Proc.devRef .tc main_arg0) = V (Proc.devRef .tc main_arg0) :=
  after_of_writes_sub hostOps0_3 V hostOps0_3_writes (by decide +kernel)
theorem keep_main_arg0_hostOps0_4 (V : Valuation τ sig (Elt F)) : after hostOps0_4 V (Proc.devRef .tc main_arg0) = V (Proc.devRef .tc main_arg0) :=
  after_of_writes_sub hostOps0_4 V hostOps0_4_writes (by decide +kernel)
theorem keep_main_arg0_condOps (V : Valuation τ sig (Elt F)) : after condOps V (Proc.devRef .tc main_arg0) = V (Proc.devRef .tc main_arg0) :=
  after_of_writes_sub condOps V condOps_writes (by decide +kernel)
theorem keep_main_arg0_while0Ops0 (V : Valuation τ sig (Elt F)) : after while0Ops0 V (Proc.devRef .tc main_arg0) = V (Proc.devRef .tc main_arg0) :=
  after_of_writes_sub while0Ops0 V while0Ops0_writes (by decide +kernel)
theorem keep_main_arg0_while0Ops0_1 (V : Valuation τ sig (Elt F)) : after while0Ops0_1 V (Proc.devRef .tc main_arg0) = V (Proc.devRef .tc main_arg0) :=
  after_of_writes_sub while0Ops0_1 V while0Ops0_1_writes (by decide +kernel)
theorem keep_main_arg0_while0Ops0_2 (V : Valuation τ sig (Elt F)) : after while0Ops0_2 V (Proc.devRef .tc main_arg0) = V (Proc.devRef .tc main_arg0) :=
  after_of_writes_sub while0Ops0_2 V while0Ops0_2_writes (by decide +kernel)
theorem keep_main_arg0_while0Ops0_3 (V : Valuation τ sig (Elt F)) : after while0Ops0_3 V (Proc.devRef .tc main_arg0) = V (Proc.devRef .tc main_arg0) :=
  after_of_writes_sub while0Ops0_3 V while0Ops0_3_writes (by decide +kernel)
theorem keep_main_arg0_while0Ops0_4 (V : Valuation τ sig (Elt F)) : after while0Ops0_4 V (Proc.devRef .tc main_arg0) = V (Proc.devRef .tc main_arg0) :=
  after_of_writes_sub while0Ops0_4 V while0Ops0_4_writes (by decide +kernel)
theorem keep_main_arg0_while0Ops0_5 (V : Valuation τ sig (Elt F)) : after while0Ops0_5 V (Proc.devRef .tc main_arg0) = V (Proc.devRef .tc main_arg0) :=
  after_of_writes_sub while0Ops0_5 V while0Ops0_5_writes (by decide +kernel)
theorem keep_main_arg0_while0Ops0_6 (V : Valuation τ sig (Elt F)) : after while0Ops0_6 V (Proc.devRef .tc main_arg0) = V (Proc.devRef .tc main_arg0) :=
  after_of_writes_sub while0Ops0_6 V while0Ops0_6_writes (by decide +kernel)
theorem keep_main_arg0_hostOps0_5 (V : Valuation τ sig (Elt F)) : after hostOps0_5 V (Proc.devRef .tc main_arg0) = V (Proc.devRef .tc main_arg0) :=
  after_of_writes_sub hostOps0_5 V hostOps0_5_writes (by decide +kernel)
/-- The argument `main_arg0` is written by nothing: it holds its launch contents before every condition. -/
theorem atK_main_arg0 (c : Dev nD) : ∀ k, atK m k c (Proc.devRef .tc main_arg0) = m ((c.tc : Thread nD τ).loc main_arg0)
  | 0 => by
    rw [show atK m 0 c = entryContents preI m c from rfl]
    simp only [entryContents, afterL_cons, afterL_nil]
    rw [keep_main_arg0_hostOps0_4, keep_main_arg0_hostOps0_3, keep_main_arg0_hostOps0_2, keep_main_arg0_hostOps0_1, keep_main_arg0_hostOps0]
  | k + 1 => by
    rw [show atK m (k + 1) c = afterL bodyI (after condOps (atK m k c)) from rfl]
    simp only [afterL_cons, afterL_nil]
    rw [keep_main_arg0_while0Ops0_6, keep_main_arg0_while0Ops0_5, keep_main_arg0_while0Ops0_4, keep_main_arg0_while0Ops0_3, keep_main_arg0_while0Ops0_2, keep_main_arg0_while0Ops0_1, keep_main_arg0_while0Ops0, keep_main_arg0_condOps, atK_main_arg0 c k]

/-! ## After the loop -/

/-- The operations after the loop do not write `main_arg0`. -/
theorem post_keeps_main_arg0 (V0 : Valuation τ sig (Elt F)) : afterL postI V0 (Proc.devRef .tc main_arg0) = V0 (Proc.devRef .tc main_arg0) := by
  simp only [postI, afterL_cons, afterL_nil]
  rw [keep_main_arg0_hostOps0_5]
/-- `STEP` iterated on the loop's entry leaves the argument `main_arg0` as the launch has it. -/
theorem iter_main_arg0 (c : Dev nD) : ∀ k, (STEP^[k] (entryContents preI m c)) (Proc.devRef .tc main_arg0) = m ((c.tc : Thread nD τ).loc main_arg0)
  | 0 => by rw [Function.iterate_zero, id_eq, ← atTrip_zero condOps bodyI (entryContents preI m)]; exact atK_main_arg0 m c 0
  | k + 1 => by
    rw [Function.iterate_succ_apply']
    unfold STEP; rw [Function.update_of_ne (devRef_ne_of_ne (by decide))]; rw [Function.update_of_ne (devRef_ne_of_ne (by decide))]; rw [Function.update_of_ne (devRef_ne_of_ne (by decide))]; exact iter_main_arg0 c k
set_option maxRecDepth 8192 in
/-- `main_v47`, which the operations after the loop make, of the contents they start from. -/
def out_main_v47 (V0 : Valuation τ sig (Elt F)) : (Proc.devRef .tc main_v47 : DevRef τ sig).ty.Contents (Elt F) :=
  transpose S4x100x7 [1, 0, 2] (V0 (Proc.devRef .tc main_v46_10)) transposes_S100x4x7_S4x100x7_1_0_2
set_option maxRecDepth 8192 in
set_option maxHeartbeats 2000000 in
theorem post_main_v47 (V0 : Valuation τ sig (Elt F)) : afterL postI V0 (no_index (Proc.devRef .tc main_v47)) = out_main_v47 V0 := by
  unfold out_main_v47
  simp only [postI, afterL_cons, afterL_nil, hostOps0_5]
  after_results_entrywise []
set_option maxRecDepth 8192 in
theorem out_main_v47_congr {V0 V0' : Valuation τ sig (Elt F)} (h : Agree V0 V0') : out_main_v47 V0 = out_main_v47 V0' := by
  unfold out_main_v47
  rw [h main_v46_10 (by decide)]
/-- THE RUN: on every device, for any float values, from any memory with zero counters, every weakly fair execution
    of @main terminates with each result at its component of `STEP` iterated 100 times on the loop's entry (`step_‹buffer›`
    says what one trip makes of each carried buffer), or, for a result the operations after the loop make, at `out_‹result›` of that, and every argument unchanged. -/
theorem run : θ_run (defs (F := F)) (onTc (τ := τ) (main (F := F))) ⟨m, fun _ => 0, ρ⟩ fun r => ∀ c : Dev nD,
      r.2.mem ((c.tc : Thread nD τ).loc main_v47) = out_main_v47 (STEP^[100] (entryContents preI m c))
      ∧ r.2.mem ((c.tc : Thread nD τ).loc main_arg0) = m ((c.tc : Thread nD τ).loc main_arg0) :=
  (θ_run defs _ _).mono (fun _ h c => ⟨(h c main_v47 rfl).trans ((post_main_v47 _).trans (out_main_v47_congr (fun j hj => (cond_keeps _ j hj).trans (atK_agree m c 100 j hj)))),
      (h c main_arg0 rfl).trans ((post_keeps_main_arg0 _).trans ((keep_main_arg0_condOps _).trans (atK_main_arg0 m c 100)))⟩) (run_fold m ρ)

end Cert.ReferenceIdeal.Value

end
-- ==== Proof.Frames.lean ====
/- The three frame claims: each program runs, leaves its argument as it was, and ends with every counter at zero. -/
module

public import proofs.«01_k».proof.Defs
public import proofs.«01_k».proof.Proof.Gen.Kernel.Frame
public import proofs.«01_k».proof.Proof.Gen.KernelIdeal.Frame
public import proofs.«01_k».proof.Proof.RefTrip
public import Idealize.ShloMosaic.Lib.Quiescent

@[expose] public section

noncomputable section

namespace Cert.Proof

open Idealize.ShloMosaic Idealize.SL.Sem

/-- The kernel's program, in machine floats. -/
theorem frame_p : Cert.quiescent_Kernel (hKernel := Cert.Kernel.Gen.facts) := fun m ρ _ =>
  Cert.Kernel.Gen.frame m ρ

/-- The kernel's program over the extended reals. -/
theorem frame_pi : Cert.quiescent_KernelIdeal (hKernelIdeal := Cert.KernelIdeal.Gen.facts) := fun m ρ _ =>
  Cert.KernelIdeal.Gen.frame m ρ

/-- The reference: its run, read at its argument; it declares no counter. -/
theorem frame_ri : Cert.quiescent_ReferenceIdeal (hReferenceIdeal := Cert.ReferenceIdeal.Gen.facts) := fun m ρ _ =>
  (θ_run Cert.ReferenceIdeal.defs _ _).mono
    (fun r h => ⟨fun c => (h c).2, Idealize.ShloMosaic.sem_eq_zero_of_no_sems (by decide) r.2⟩)
    (Cert.ReferenceIdeal.Value.run m ρ)

end Cert.Proof

end
-- ==== Proof.KStep.lean ====
/-
What one trip of the kernel's loop does to one image, as one function used for all four.

`next s P` is the score plane a trip leaves of the score plane `s`, and `row s P` the eight numbers it
stores, where `P` are the eight planes of the image's table it loads. The last section says that the
generated trip is this function at each of the four images.
-/
module

public import proofs.«01_k».proof.Proof.Gen.KernelIdeal.Frame

@[expose] public section

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-! ## One trip at one image -/

/-- The position of a candidate in the plane, as a float. -/
def flatf : FVec F S40x128 .f32 :=
  sitofp .f32 (addi (muli (iota .tc S40x128 32 [0] iota_S40x128_d0_w32) (broadcast S40x128 128#32))
    (iota .tc S40x128 32 [1] iota_S40x128_d1_w32))

/-- The greatest element of a plane. -/
def top (s : FVec F S40x128 .f32) : F .f32 :=
  extractAt ![0, 0, 0] (shapeCast S1x1x1 (multiReduction .maximumf [1, 2] S1
    (shapeCast S1x40x128 s shapeCasts_S40x128_S1x40x128) 0xFF800000#32 reduces_S1x40x128_S1 (.inl rfl) rfl)
    shapeCasts_S1_S1x1x1) inpos_S1x1x1_p0_0_0

/-- The least element of a plane. -/
def bot (s : FVec F S40x128 .f32) : F .f32 :=
  extractAt ![0, 0, 0] (shapeCast S1x1x1 (multiReduction .minimumf [1, 2] S1
    (shapeCast S1x40x128 s shapeCasts_S40x128_S1x40x128) 0x7F800000#32 reduces_S1x40x128_S1 (.inl rfl) rfl)
    shapeCasts_S1_S1x1x1) inpos_S1x1x1_p0_0_0

/-- One number all over the plane. -/
def all (x : F .f32) : FVec F S40x128 .f32 := broadcastTo S40x128 (broadcast S1x1 x) broadcasts_S1x1_S40x128

/-- The first position where the score is greatest, as a float. -/
def firstAt (s : FVec F S40x128 .f32) : F .f32 :=
  bot (select (cmpf .oeq s (all (top s))) (flatf (F := F)) (broadcast S40x128 (Scalar.ofBits .f32 0x4BE4E1C0#32)))

/-- The plane that is set at that position only. -/
def pick (s : FVec F S40x128 .f32) : IVec S40x128 1 := cmpf .oeq (flatf (F := F)) (all (firstAt s))

/-- A loaded plane of the table. -/
def plane (P : Fin 8 → Vec F S1x1x1x40x128 .f32) (j : Fin 8) : FVec F S40x128 .f32 :=
  shapeCast S40x128 (P j) shapeCasts_S1x1x1x40x128_S40x128

/-- The sums of the columns of the picked part of a plane, in the row `w` of an otherwise zero block. -/
def colsum (s p : FVec F S40x128 .f32) (w : BitVec 32) : FVec F S8x128 .f32 :=
  select (cmpi .eq (iota .tc S8x128 32 [0] iota_S8x128_d0_w32) (broadcast S8x128 w))
    (broadcastTo S8x128 (shapeCast S1x128 (shapeCast S1x128
      (multiReduction .add [0] S128 (mulf (sitofp .f32 (extui 32 (pick s) natLt_1_32)) p) 0x00000000#32
        reduces_S40x128_S128 (.inl rfl) rfl) shapeCasts_S128_S1x128) shapeCasts_S1x128_S1x128) broadcasts_S1x128_S8x128)
    (broadcast S8x128 (Scalar.ofBits .f32 0x00000000#32))

/-- The eight rows of column sums. -/
def sel (s : FVec F S40x128 .f32) (P : Fin 8 → Vec F S1x1x1x40x128 .f32) : FVec F S8x128 .f32 :=
  addf (addf (addf (addf (addf (addf (addf (addf (broadcast S8x128 (Scalar.ofBits .f32 0x00000000#32))
    (colsum s (plane P 0) 0#32)) (colsum s (plane P 1) 1#32)) (colsum s (plane P 2) 2#32))
    (colsum s (plane P 3) 3#32)) (colsum s (plane P 4) 4#32)) (colsum s (plane P 5) 5#32))
    (colsum s (plane P 6) 6#32)) (colsum s (plane P 7) 7#32)

/-- Row `j` holds the picked element of plane `j`, in every lane. -/
def bvals (s : FVec F S40x128 .f32) (P : Fin 8 → Vec F S1x1x1x40x128 .f32) : FVec F S8x128 .f32 :=
  matmul dot_S8x128_S128x128_S8x128_1_0_0_1_n_n none (sel s P)
    (broadcast S128x128 (Scalar.ofBits .f32 0x3F800000#32)) (constant S8x128 .f32 0x00000000#32)

/-- The eight numbers a trip stores. -/
def row (s : FVec F S40x128 .f32) (P : Fin 8 → Vec F S1x1x1x40x128 .f32) : FVec F S1x8 .f32 :=
  mulf (shapeCast S1x8 (multiReduction .add [0] S8
      (select (cmpi .eq (iota .tc S8x8 32 [0] iota_S8x8_d0_w32) (iota .tc S8x8 32 [1] iota_S8x8_d1_w32))
        (extractStridedSlice S8x8 ![0, 0] (bvals s P) slices_S8x128_o0_0_S8x8)
        (broadcast S8x8 (Scalar.ofBits .f32 0x00000000#32))) 0x00000000#32 reduces_S8x8_S8 (.inl rfl) rfl)
      shapeCasts_S8_S1x8)
    (broadcastTo S1x8 (select (cmpf .ogt (broadcast S1x1 (top s)) (broadcast S1x1 (Scalar.ofBits .f32 0xFF800000#32)))
      (broadcast S1x1 (Scalar.ofBits .f32 0x3F800000#32)) (broadcast S1x1 (Scalar.ofBits .f32 0x00000000#32)))
      broadcasts_S1x1_S1x8)

/-- The picked element of plane 0, 1, 2, 3 and 6, in every lane. -/
def lane0 (b : FVec F S8x128 .f32) : FVec F S1x128 .f32 := extractStridedSlice S1x128 ![0, 0] b slices_S8x128_o0_0_S1x128
@[inherit_doc lane0]
def lane1 (b : FVec F S8x128 .f32) : FVec F S1x128 .f32 := extractStridedSlice S1x128 ![1, 0] b slices_S8x128_o1_0_S1x128
@[inherit_doc lane0]
def lane2 (b : FVec F S8x128 .f32) : FVec F S1x128 .f32 := extractStridedSlice S1x128 ![2, 0] b slices_S8x128_o2_0_S1x128
@[inherit_doc lane0]
def lane3 (b : FVec F S8x128 .f32) : FVec F S1x128 .f32 := extractStridedSlice S1x128 ![3, 0] b slices_S8x128_o3_0_S1x128
@[inherit_doc lane0]
def lane6 (b : FVec F S8x128 .f32) : FVec F S1x128 .f32 := extractStridedSlice S1x128 ![6, 0] b slices_S8x128_o6_0_S1x128

/-- A lane row all over the plane. -/
def rows (x : FVec F S1x128 .f32) : FVec F S40x128 .f32 := broadcastTo S40x128 x broadcasts_S1x128_S40x128

/-- The intersection of the picked box with every box. -/
def inter (b : FVec F S8x128 .f32) (P : Fin 8 → Vec F S1x1x1x40x128 .f32) : FVec F S40x128 .f32 :=
  mulf (maximumf (subf (minimumf (rows (lane2 b)) (plane P 2)) (maximumf (rows (lane0 b)) (plane P 0)))
      (broadcast S40x128 (Scalar.ofBits .f32 0x00000000#32)))
    (maximumf (subf (minimumf (rows (lane3 b)) (plane P 3)) (maximumf (rows (lane1 b)) (plane P 1)))
      (broadcast S40x128 (Scalar.ofBits .f32 0x00000000#32)))

/-- The overlap of the picked box with every box. -/
def iou (b : FVec F S8x128 .f32) (P : Fin 8 → Vec F S1x1x1x40x128 .f32) : FVec F S40x128 .f32 :=
  divf (inter b P) (addf (subf (addf
      (rows (mulf (subf (lane2 b) (lane0 b)) (subf (lane3 b) (lane1 b)))) (plane P 7)) (inter b P))
    (broadcast S40x128 (Scalar.ofBits .f32 0x3089705F#32)))

/-- The scores after a trip. -/
def next (s : FVec F S40x128 .f32) (P : Fin 8 → Vec F S1x1x1x40x128 .f32) : FVec F S40x128 .f32 :=
  select (ori (andi (cmpf .ogt (iou (bvals s P) P) (broadcast S40x128 (Scalar.ofBits .f32 0x3EE66666#32)))
      (cmpf .oeq (plane P 6) (rows (lane6 (bvals s P))))) (pick s))
    (broadcast S40x128 (Scalar.ofBits .f32 0xFF800000#32)) s

/-! ## The trip of the program -/

/-- Plane `j` of copy `p` of image `n`'s table lies in the scratch array. -/
theorem planeIn {n p j : ℕ} (hn : n < 4) (hp : p < 2) (hj : j < 8) :
    ∀ a, (![n, p, j, 0, 0] : Fin 5 → ℕ) a + S1x1x1x40x128.size a ≤ S4x2x8x40x128.size a := by
  intro a
  fin_cases a
  · show n + 1 ≤ 4; omega
  · show p + 1 ≤ 2; omega
  · show j + 1 ≤ 8; omega
  · show 0 + 40 ≤ 40; omega
  · show 0 + 128 ≤ 128; omega

/-- Which of the two copies trip `k` reads. -/
def copy (k : ℕ) : ℕ := (Scalar.indexCast (Scalar.remsi (Scf.iv 0#32 1#32 k) 2#32)).toNat

theorem trips_eq : k0_t1_loop.trips = 100 := by decide

theorem copy_lt (k : Fin k0_t1_loop.trips) : copy k < 2 := by
  have := k0_off1_inb k 1
  exact this

/-- The planes trip `k` loads of image `n`. -/
def loads (v : Memref sig .tc .vmem S4x2x8x40x128 .f32) (X : BufTy.Contents (Elt F) v.view.ty) (k : Fin k0_t1_loop.trips)
    (n : Fin 4) (j : Fin 8) : Vec F S1x1x1x40x128 .f32 :=
  View.readAt (Elt F) v.view (Rect.unit (s := S4x2x8x40x128) ![n, copy k, j, 0, 0] S1x1x1x40x128.size
    (planeIn n.2 (copy_lt k) j.2)).toLoadRect X

/-- What a trip yields is `next` at each image. -/
theorem tripR_eq (c : Dev nD) (i : grid0.Coords) (arg1 : Memref sig .tc .vmem S4x85x40x128 .f32) (harg1 : arg1.IsWhole)
    (arg2 : Memref sig .tc .vmem S4x100x8 .f32) (harg2 : arg2.IsWhole) (arg3 : Memref sig .tc .vmem S4x2x8x40x128 .f32)
    (harg3 : arg3.IsWhole) (X : BufTy.Contents (Elt F) arg3.view.ty) (k : Fin k0_t1_loop.trips)
    (s0 s1 s2 s3 : FVec F S40x128 .f32) :
    tripR_k0_t1 (F := F) Variants.none c none i arg1 harg1 arg2 harg2 arg3 harg3 0#32 X k (s0, s1, s2, s3)
      = (next s0 (loads arg3 X k 0), next s1 (loads arg3 X k 1), next s2 (loads arg3 X k 2), next s3 (loads arg3 X k 3)) := by
  unfold tripR_k0_t1 trip_k0_t1
  dsimp only
  sl_unfold_words
  rfl

/-- What a trip stores is `row` at each image, the last image's first. -/
theorem tripL_eq (c : Dev nD) (i : grid0.Coords) (arg1 : Memref sig .tc .vmem S4x85x40x128 .f32) (harg1 : arg1.IsWhole)
    (arg2 : Memref sig .tc .vmem S4x100x8 .f32) (harg2 : arg2.IsWhole) (arg3 : Memref sig .tc .vmem S4x2x8x40x128 .f32)
    (harg3 : arg3.IsWhole) (X : BufTy.Contents (Elt F) arg3.view.ty) (k : Fin k0_t1_loop.trips)
    (s0 s1 s2 s3 : FVec F S40x128 .f32) :
    tripL_k0_t1 (F := F) Variants.none c none i arg1 harg1 arg2 harg2 arg3 harg3 0#32 X k (s0, s1, s2, s3)
      = [⟨Rect.unit (s := S4x100x8) (k0_off36 k) S1x1x8.size (k0_off36_inb k),
            shapeCast S1x1x8 (row s3 (loads arg3 X k 3)) shapeCasts_S1x8_S1x1x8⟩,
          ⟨Rect.unit (s := S4x100x8) (k0_off35 k) S1x1x8.size (k0_off35_inb k),
            shapeCast S1x1x8 (row s2 (loads arg3 X k 2)) shapeCasts_S1x8_S1x1x8⟩,
          ⟨Rect.unit (s := S4x100x8) (k0_off34 k) S1x1x8.size (k0_off34_inb k),
            shapeCast S1x1x8 (row s1 (loads arg3 X k 1)) shapeCasts_S1x8_S1x1x8⟩,
          ⟨Rect.unit (s := S4x100x8) (k0_off33 k) S1x1x8.size (k0_off33_inb k),
            shapeCast S1x1x8 (row s0 (loads arg3 X k 0)) shapeCasts_S1x8_S1x1x8⟩] := by
  unfold tripL_k0_t1 trip_k0_t1
  dsimp only
  sl_unfold_words
  rfl

end Cert.KernelIdeal.KValue

end
-- ==== Proof.Spec.lean ====
/-
What both programs compute of one image, on the extended reals: greedy non-maximum suppression.

`T j r` is entry `j` of candidate `r`: the corners of its box (0 to 3), its objectness, its class
confidence, its class number, its area. `after T t` are the scores after `t` trips, `det T t j` is
entry `j` of the candidate trip `t` picks, or zero where no candidate is left.
-/
module

public import Idealize.ShloMosaic.PureOps.Ideal
public import Idealize.ShloMosaic.Lib.Pointwise
public import Mathlib.Order.WellFounded

@[expose] public section

noncomputable section

namespace Cert.Nms

open Idealize.ShloMosaic

/-! ## The first greatest entry of a list -/

/-- Entry `i` is the greatest, and the first one that is as great. -/
def IsFirst {n : ℕ} (s : Fin n → EReal) (i : Fin n) : Prop := (∀ j, s j ≤ s i) ∧ ∀ j, j < i → s j < s i

theorem exists_first {n : ℕ} [NeZero n] (s : Fin n → EReal) : ∃ i, IsFirst s i := by
  obtain ⟨k, hk⟩ := Finite.exists_max s
  obtain ⟨i, hi, hmin⟩ := WellFounded.has_min (wellFounded_lt (α := Fin n)) {i | ∀ j, s j ≤ s i} ⟨k, hk⟩
  refine ⟨i, hi, fun j hj => ?_⟩
  by_contra hlt
  refine hmin j (fun l => ?_) hj
  exact (hi l).trans (not_lt.mp hlt)

theorem IsFirst.unique {n : ℕ} {s : Fin n → EReal} {i i' : Fin n} (h : IsFirst s i) (h' : IsFirst s i') : i = i' := by
  rcases lt_trichotomy i i' with hl | he | hl
  · exact absurd (h.1 i') (not_le.mpr (h'.2 i hl))
  · exact he
  · exact absurd (h'.1 i) (not_le.mpr (h.2 i' hl))

/-- The first greatest entry. -/
def first {n : ℕ} [NeZero n] (s : Fin n → EReal) : Fin n := Classical.choose (exists_first s)

theorem isFirst_first {n : ℕ} [NeZero n] (s : Fin n → EReal) : IsFirst s (first s) := Classical.choose_spec (exists_first s)

theorem first_eq {n : ℕ} [NeZero n] {s : Fin n → EReal} {i : Fin n} (h : IsFirst s i) : first s = i :=
  (isFirst_first s).unique h

/-! ## One image -/

/-- A candidate's row of entries. -/
abbrev Table := Fin 8 → Fin 5000 → EReal

/-- The intersection of boxes `i` and `r`. -/
def inter (T : Table) (i r : Fin 5000) : EReal :=
  max (min (T 2 i) (T 2 r) - max (T 0 i) (T 0 r)) 0 * max (min (T 3 i) (T 3 r) - max (T 1 i) (T 1 r)) 0

/-- The area of box `r`. -/
def area (T : Table) (r : Fin 5000) : EReal := (T 2 r - T 0 r) * (T 3 r - T 1 r)

/-- The overlap of boxes `i` and `r`. -/
def iou (T : Table) (i r : Fin 5000) : EReal :=
  Ideal.div (inter T i r) (area T i + area T r - inter T i r + Ideal.ofBits .f32 0x3089705F#32)

/-- Whether picking candidate `i` removes candidate `r`. -/
def Drops (T : Table) (i r : Fin 5000) : Prop :=
  (Ideal.ofBits .f32 0x3EE66666#32 < iou T i r ∧ T 6 r = T 6 i) ∨ r = i

open Classical in
/-- The scores after a pick. -/
def next (T : Table) (s : Fin 5000 → EReal) : Fin 5000 → EReal :=
  fun r => if Drops T (first s) r then ⊥ else s r

open Classical in
/-- The scores before the first pick: a low score is out unless every score is low. -/
def init (T : Table) : Fin 5000 → EReal :=
  fun r => if min (Ideal.ofBits .f32 0x3E800000#32) (Finset.univ.sup fun q => T 4 q * T 5 q) ≤ T 4 r * T 5 r
    then T 4 r * T 5 r else ⊥

/-- The scores after `t` picks. -/
def after (T : Table) : ℕ → Fin 5000 → EReal
  | 0 => init T
  | t + 1 => next T (after T t)

open Classical in
/-- What pick `t` reports. -/
def det (T : Table) (t : ℕ) (j : Fin 8) : EReal :=
  if ⊥ < after T t (first (after T t)) then T j (first (after T t)) else 0

/-- The number two, as the programs write it. -/
def two : EReal := Ideal.ofBits .f32 0x40000000#32

/-- The class scores of a candidate. -/
def classes (x : Fin 85 → EReal) : Fin 80 → EReal := fun c => x ⟨5 + c, by omega⟩

/-- The entries of a candidate from its 85 numbers. -/
def entry (x : Fin 85 → EReal) : Fin 8 → EReal
  | 0 => x 0 - Ideal.div (x 2) two
  | 1 => x 1 - Ideal.div (x 3) two
  | 2 => x 0 + Ideal.div (x 2) two
  | 3 => x 1 + Ideal.div (x 3) two
  | 4 => x 4
  | 5 => Finset.univ.sup (classes x)
  | 6 => (((first (classes x) : ℕ) : ℝ) : EReal)
  | 7 => ((x 0 + Ideal.div (x 2) two) - (x 0 - Ideal.div (x 2) two))
      * ((x 1 + Ideal.div (x 3) two) - (x 1 - Ideal.div (x 3) two))

/-- The table of an image. -/
def table (x : Fin 5000 → Fin 85 → EReal) : Table := fun j r => entry (x r) j

/-- What is asked for: image `n`, pick `t`, entry `j` of the seven. -/
def answer (x : (⟨3, ![4, 5000, 85]⟩ : Shape).Idx → EReal) : (⟨3, ![4, 100, 7]⟩ : Shape).Idx → EReal :=
  fun z => det (table fun r c => x (ix3 (z 0) r c)) (z 1).val ⟨(z 2).val, (z 2).isLt.trans (by decide)⟩

/-- The greatest entry is at the first greatest place. -/
theorem sup_eq_first {n : ℕ} [NeZero n] (s : Fin n → EReal) : Finset.univ.sup s = s (first s) :=
  le_antisymm (Finset.sup_le fun j _ => (isFirst_first s).1 j) (Finset.le_sup (Finset.mem_univ _))

theorem area_table (x : Fin 5000 → Fin 85 → EReal) (r : Fin 5000) : area (table x) r = table x 7 r := rfl

end Cert.Nms

end
-- ==== Proof.Numbers.lean ====
/-
The numbers and the selects that both programs write, on the extended reals.
-/
module

public import Idealize.ShloMosaic.PureOps.Ideal
public import Idealize.ShloMosaic.Lib.Pointwise

@[expose] public section

noncomputable section

namespace Cert.Numbers

open Idealize.ShloMosaic

theorem ofBits_bot : Ideal.ofBits .f32 0xFF800000#32 = ⊥ := by
  simp [Ideal.ofBits, Ideal.ieee]

theorem ofBits_top : Ideal.ofBits .f32 0x7F800000#32 = ⊤ := by
  simp [Ideal.ofBits, Ideal.ieee]

theorem ofBits_far : Ideal.ofBits .f32 0x4BE4E1C0#32 = (((30000000 : ℕ) : ℝ) : EReal) := by
  simp [Ideal.ofBits, Ideal.ieee, -EReal.coe_mul]; norm_num

theorem coe_nat_inj {a b : ℕ} : (((a : ℕ) : ℝ) : EReal) = ((b : ℕ) : ℝ) ↔ a = b := by
  rw [EReal.coe_eq_coe_iff, Nat.cast_inj]

theorem coe_nat_le {a b : ℕ} : (((a : ℕ) : ℝ) : EReal) ≤ ((b : ℕ) : ℝ) ↔ a ≤ b := by
  rw [EReal.coe_le_coe_iff, Nat.cast_le]

theorem select_ofBool {α : Type} (p : Prop) [Decidable p] (a b : α) :
    Scalar.select (BitVec.ofBool (decide p)) a b = if p then a else b := by
  by_cases h : p <;> simp [Scalar.select, h]

end Cert.Numbers

end
-- ==== Proof.KPoint.lean ====
/-
One trip of the kernel at one image, read on the extended reals: if a score plane and eight table planes
hold the scores and the table of an image, then the stored row is what the image's pick reports and the
plane left holds the scores after the pick.
-/
module

public import proofs.«01_k».proof.Proof.KStep
public import proofs.«01_k».proof.Proof.Spec
public import proofs.«01_k».proof.Proof.Numbers
public import Idealize.ShloMosaic.Lib.Pointwise

@[expose] public section

set_option maxRecDepth 16384

noncomputable section

namespace Cert.KernelIdeal.KValue

open Idealize.ShloMosaic Idealize.ShloMosaic.TcCoe
open Cert.KernelIdeal.Gen Cert.Numbers

/-! ## Positions -/

/-- The number of the candidate at a place of the plane. -/
def pos (y : S40x128.Idx) : ℕ := 128 * (y 0).val + (y 1).val

theorem pos_lt (y : S40x128.Idx) : pos y < 5120 := by
  have h0 : (y 0).val < 40 := (y 0).isLt
  have h1 : (y 1).val < 128 := (y 1).isLt
  unfold pos; omega

/-- The place of a candidate. -/
def place (r : Fin 5000) : S40x128.Idx :=
  ix2 ⟨r.val / 128, by have := r.2; omega⟩ ⟨r.val % 128, Nat.mod_lt _ (by decide)⟩

theorem pos_ix2 (a : Fin 40) (b : Fin 128) : pos (ix2 a b) = 128 * a.val + b.val := rfl

theorem pos_place (r : Fin 5000) : pos (place r) = r.val := by
  show 128 * (r.val / 128) + r.val % 128 = r.val
  omega

theorem eq_of_pos {y z : S40x128.Idx} (h : pos y = pos z) : y = z := by
  have h1 : (y 1).val < 128 := (y 1).isLt
  have h2 : (z 1).val < 128 := (z 1).isLt
  unfold pos at h
  rw [eq_ix2 y, eq_ix2 z]
  exact (ix2_inj _ _ _ _).2 ⟨Fin.ext (by omega), Fin.ext (by omega)⟩

theorem flatf_apply (y : S40x128.Idx) : (flatf (F := Ideal)) y = (((pos y : ℕ) : ℝ) : EReal) := by
  have hp := pos_lt y
  idx_vars y
  pointwise [flatf]
  rw [pos_ix2] at hp ⊢
  have e : IntOp.addi (IntOp.muli (BitVec.ofNat 32 y0.val) 128#32) (BitVec.ofNat 32 y1.val)
      = BitVec.ofNat 32 (128 * y0.val + y1.val) := by
    apply BitVec.eq_of_toNat_eq
    simp only [IntOp.addi, IntOp.muli, BitVec.toNat_add, BitVec.toNat_mul, BitVec.toNat_ofNat]
    omega
  rw [e]
  show (((BitVec.ofNat 32 (128 * y0.val + y1.val)).toInt : ℝ) : EReal) = _
  rw [BitVec.toInt_ofNat', Int.bmod_eq_of_le (by omega) (by omega)]
  norm_cast

/-! ## The extremes of a plane -/

theorem top_le (s : FVec Ideal S40x128 .f32) (b : EReal) : top s ≤ b ↔ ∀ y, s y ≤ b := by
  have e : top s = Finset.fold max ⊥ (fun x : Fin 40 × Fin 128 => s (ix2 x.1 x.2)) Finset.univ := by
    pointwise [top, ofBits_bot]
  rw [e, Finset.fold_max_le]
  refine ⟨fun h y => ?_, fun h => ⟨bot_le, fun x _ => h _⟩⟩
  rw [eq_ix2 y]
  exact h.2 (y 0, y 1) (Finset.mem_univ _)

theorem le_bot (s : FVec Ideal S40x128 .f32) (b : EReal) : b ≤ bot s ↔ ∀ y, b ≤ s y := by
  have e : bot s = Finset.fold min ⊤ (fun x : Fin 40 × Fin 128 => s (ix2 x.1 x.2)) Finset.univ := by
    pointwise [bot, ofBits_top]
  rw [e, Finset.le_fold_min]
  refine ⟨fun h y => ?_, fun h => ⟨le_top, fun x _ => h _⟩⟩
  rw [eq_ix2 y]
  exact h.2 (y 0, y 1) (Finset.mem_univ _)

/-! ## The pick -/

/-- The plane holds the scores, and nothing outside them. -/
def Scores (s : FVec Ideal S40x128 .f32) (S : Fin 5000 → EReal) : Prop :=
  ∀ y, s y = if h : pos y < 5000 then S ⟨pos y, h⟩ else ⊥

/-- The planes hold the table. -/
def Planes (P : Fin 8 → FVec Ideal S40x128 .f32) (T : Nms.Table) : Prop :=
  ∀ j y (h : pos y < 5000), P j y = T j ⟨pos y, h⟩

variable {s : FVec Ideal S40x128 .f32} {S : Fin 5000 → EReal}

theorem Scores.at_place (hs : Scores s S) (r : Fin 5000) : s (place r) = S r := by
  rw [hs, dif_pos (by rw [pos_place]; exact r.2)]
  exact congrArg S (Fin.ext (pos_place r))

theorem Scores.top_eq (hs : Scores s S) : top s = S (Nms.first S) := by
  refine le_antisymm ((top_le _ _).2 fun y => ?_) ?_
  · rw [hs y]
    split
    · exact (Nms.isFirst_first S).1 _
    · exact bot_le
  · rw [← hs.at_place]
    exact (top_le s (top s)).1 le_rfl _

theorem firstAt_at (y : S40x128.Idx) :
    select (cmpf .oeq s (all (top s))) (flatf (F := Ideal)) (broadcast S40x128 (Scalar.ofBits .f32 0x4BE4E1C0#32)) y
      = if s y = top s then (((pos y : ℕ) : ℝ) : EReal) else (((30000000 : ℕ) : ℝ) : EReal) := by
  rw [← flatf_apply, ← ofBits_far, ← select_ofBool]
  pointwise [all]

theorem Scores.firstAt_eq (hs : Scores s S) : firstAt s = (((Nms.first S).val : ℝ) : EReal) := by
  have hf := Nms.isFirst_first S
  unfold firstAt
  refine le_antisymm ?_ ((le_bot _ _).2 fun y => ?_)
  · refine ((le_bot _ _).1 le_rfl (place (Nms.first S))).trans ?_
    rw [firstAt_at, hs.top_eq, hs.at_place, if_pos rfl, pos_place]
  · rw [firstAt_at, hs.top_eq]
    split
    next h =>
      rw [coe_nat_le]
      by_contra hlt
      have hp : pos y < 5000 := by have := (Nms.first S).2; omega
      rw [hs y, dif_pos hp] at h
      exact absurd h (ne_of_lt (hf.2 ⟨pos y, hp⟩ (Fin.lt_def.2 (by show pos y < _; omega))))
    next h =>
      rw [coe_nat_le]
      have := (Nms.first S).2; omega

theorem Scores.pick_eq (hs : Scores s S) (y : S40x128.Idx) :
    pick s y = BitVec.ofBool (decide (pos y = (Nms.first S).val)) := by
  have e : pick s y = BitVec.ofBool (decide ((flatf (F := Ideal)) y = firstAt s)) := by pointwise [pick, all]
  rw [e, hs.firstAt_eq, flatf_apply]
  simp only [coe_nat_inj]

/-! ## The picked entries -/

theorem colsum_apply (p : FVec Ideal S40x128 .f32) (w : BitVec 32) (a : Fin 8) (l : Fin 128) :
    colsum s p w (ix2 a l) = if BitVec.ofNat 32 a.val = w then
      ∑ k : Fin 40, FloatOps.sitofp (F := Ideal) .f32 (BitVec.setWidth 32 (pick s (ix2 k l))) * p (ix2 k l) else 0 := by
  have e : colsum s p w (ix2 a l) = Scalar.select (IntOp.cmpi .eq (BitVec.ofNat 32 a.val) w)
      (∑ k : Fin 40, FloatOps.sitofp (F := Ideal) .f32 (BitVec.setWidth 32 (pick s (ix2 k l))) * p (ix2 k l)) 0 := by
    pointwise [colsum]
  rw [e, ← select_ofBool]
  rfl

theorem sel_apply (P : Fin 8 → Vec Ideal S1x1x1x40x128 .f32) (a : Fin 8) (l : Fin 128) :
    sel s P (ix2 a l)
      = ∑ k : Fin 40, FloatOps.sitofp (F := Ideal) .f32 (BitVec.setWidth 32 (pick s (ix2 k l))) * plane P a (ix2 k l) := by
  pointwise [sel]
  simp only [colsum_apply]
  fin_cases a <;> simp

theorem Scores.bvals_eq (hs : Scores s S) {P : Fin 8 → Vec Ideal S1x1x1x40x128 .f32} {T : Nms.Table}
    (hP : Planes (plane P) T) (a : Fin 8) (l : Fin 128) : bvals s P (ix2 a l) = T a (Nms.first S) := by
  have e : bvals s P (ix2 a l) = ∑ x : Fin 128, sel s P (ix2 a x) := by pointwise [bvals]
  have hpick : ∀ y, FloatOps.sitofp (F := Ideal) .f32 (BitVec.setWidth 32 (pick s y))
      = if y = place (Nms.first S) then (1 : EReal) else 0 := by
    intro y
    rw [hs.pick_eq]
    by_cases h : y = place (Nms.first S)
    · have h' : pos y = (Nms.first S).val := by rw [h, pos_place]
      rw [if_pos h, decide_eq_true h']
      show (((1#32 : BitVec 32).toInt : ℝ) : EReal) = 1
      norm_num
    · have h' : ¬ pos y = (Nms.first S).val := fun hh => h (eq_of_pos (by rw [hh, pos_place]))
      rw [if_neg h, decide_eq_false h']
      show (((0#32 : BitVec 32).toInt : ℝ) : EReal) = 0
      norm_num
  rw [e]
  simp only [sel_apply, hpick, ite_mul, one_mul, zero_mul]
  have hval : plane P a (place (Nms.first S)) = T a (Nms.first S) := by
    rw [hP a _ (by rw [pos_place]; exact (Nms.first S).2)]
    exact congrArg (T a) (Fin.ext (pos_place _))
  rw [Finset.sum_eq_single (ι := Fin 128) (place (Nms.first S) 1), Finset.sum_eq_single (ι := Fin 40) (place (Nms.first S) 0)]
  · rw [if_pos (eq_ix2 (place (Nms.first S))).symm, ← eq_ix2 (place (Nms.first S)), hval]
  · intro k _ hk
    exact if_neg fun h => hk (congrFun h 0)
  · intro h; exact absurd (Finset.mem_univ _) h
  · intro x _ hx
    exact Finset.sum_eq_zero fun k _ => if_neg fun h => hx (congrFun h 1)
  · intro h; exact absurd (Finset.mem_univ _) h

theorem Scores.bvals_at (hs : Scores s S) {P : Fin 8 → Vec Ideal S1x1x1x40x128 .f32} {T : Nms.Table}
    (hP : Planes (plane P) T) (z : S8x128.Idx) : bvals s P z = T (z 0) (Nms.first S) := by
  rw [eq_ix2 z]
  exact hs.bvals_eq hP _ _

/-- Two numbers below eight are equal as words if they are equal. -/
theorem word_eq (x l : Fin 8) : IntOp.cmpi .eq (BitVec.ofNat 32 x.val) (BitVec.ofNat 32 l.val) = BitVec.ofBool (decide (x = l)) := by
  revert x l
  decide

open Classical in
/-- The stored row is what the pick reports. -/
theorem Scores.row_eq (hs : Scores s S) {P : Fin 8 → Vec Ideal S1x1x1x40x128 .f32} {T : Nms.Table}
    (hP : Planes (plane P) T) (l : Fin 8) :
    row s P (ix2 0 l) = if ⊥ < S (Nms.first S) then T l (Nms.first S) else 0 := by
  have e : row s P (ix2 0 l) = (∑ x : Fin 8, Scalar.select (IntOp.cmpi .eq (BitVec.ofNat 32 x.val) (BitVec.ofNat 32 l.val))
      (bvals s P (ix2 x ⟨l.val, by have := l.2; omega⟩)) 0) * if Ideal.ofBits .f32 0xFF800000#32 < top s then 1 else 0 := by
    pointwise [row]
  have hsel : ∀ (x : Fin 8) (v : EReal), Scalar.select (IntOp.cmpi .eq (BitVec.ofNat 32 x.val) (BitVec.ofNat 32 l.val)) v 0
      = if x = l then v else 0 := by
    intro x v
    rw [word_eq, select_ofBool]
  rw [e, hs.top_eq, ofBits_bot]
  simp only [hsel, hs.bvals_eq hP, Finset.sum_ite_eq', Finset.mem_univ, if_true]
  split <;> simp

/-! ## The scores after the pick -/

theorem Scores.inter_eq (hs : Scores s S) {P : Fin 8 → Vec Ideal S1x1x1x40x128 .f32} {T : Nms.Table}
    (hP : Planes (plane P) T) (y : S40x128.Idx) (h : pos y < 5000) :
    inter (bvals s P) P y = Nms.inter T (Nms.first S) ⟨pos y, h⟩ := by
  pointwise [inter, rows, lane0, lane1, lane2, lane3]
  simp only [hs.bvals_at hP, hP _ y h]
  rfl

theorem Scores.iou_eq (hs : Scores s S) {P : Fin 8 → Vec Ideal S1x1x1x40x128 .f32} {T : Nms.Table}
    (hT : ∀ r, T 7 r = Nms.area T r)
    (hP : Planes (plane P) T) (y : S40x128.Idx) (h : pos y < 5000) :
    iou (bvals s P) P y = Nms.iou T (Nms.first S) ⟨pos y, h⟩ := by
  pointwise [iou, rows, lane0, lane1, lane2, lane3]
  simp only [hs.bvals_at hP, hP _ y h, hs.inter_eq hP y h, hT]
  rfl

/-- The plane after the trip holds the scores after the pick. -/
theorem Scores.next (hs : Scores s S) {P : Fin 8 → Vec Ideal S1x1x1x40x128 .f32} {T : Nms.Table}
    (hT : ∀ r, T 7 r = Nms.area T r) (hP : Planes (plane P) T) : Scores (next s P) (Nms.next T S) := by
  classical
  intro y
  have e : KValue.next s P y = Scalar.select
      (IntOp.ori (IntOp.andi (BitVec.ofBool (decide (Ideal.ofBits .f32 0x3EE66666#32 < iou (bvals s P) P y)))
          (BitVec.ofBool (decide (plane P 6 y = bvals s P (ix2 6 (y 1)))))) (pick s y))
      (Ideal.ofBits .f32 0xFF800000#32) (s y) := by
    pointwise [KValue.next, rows, lane6]
  rw [e, hs.pick_eq, ofBits_bot, hs y]
  split
  next h =>
    have hc : ∀ p q r : Prop, ∀ [Decidable p] [Decidable q] [Decidable r],
        IntOp.ori (IntOp.andi (BitVec.ofBool (decide p)) (BitVec.ofBool (decide q))) (BitVec.ofBool (decide r))
          = BitVec.ofBool (decide ((p ∧ q) ∨ r)) := by
      intro p q r _ _ _
      by_cases hp : p <;> by_cases hq : q <;> by_cases hr : r <;> simp [IntOp.ori, IntOp.andi, hp, hq, hr]
    rw [hc, select_ofBool, hs.iou_eq hT hP y h, hs.bvals_at hP, hP 6 y h]
    unfold Nms.next Nms.Drops
    simp only [Fin.ext_iff]
    rfl
  next h =>
    unfold Scalar.select
    split <;> rfl

end Cert.KernelIdeal.KValue

end
-- ==== Proof.KSetup.lean ====
/-
What the kernel does before its loop, as functions used for all four images.

`planes L C` are the eight planes of an image's table and `start L C` its first score plane, of the
five loaded channels `L` and the block of class scores `C`. The last section says that the generated
run stores these planes (each image's in two copies) and goes through the loop from these scores.
-/
module

public import proofs.«01_k».proof.Proof.KStep

@[expose] public section

set_option maxRecDepth 16384

noncomputable section

namespace Cert.KernelIdeal.KValue

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-! ## One image -/

/-- A loaded channel as a plane. -/
def chan (v : Vec F S1x1x40x128 .f32) : FVec F S40x128 .f32 := shapeCast S40x128 v shapeCasts_S1x1x40x128_S40x128

/-- Half of a channel. -/
def half (v : Vec F S1x1x40x128 .f32) : FVec F S40x128 .f32 :=
  divf (chan v) (broadcast S40x128 (Scalar.ofBits .f32 0x40000000#32))

/-- The loaded class scores as a block. -/
def block (C : Vec F S1x80x40x128 .f32) : FVec F S80x40x128 .f32 := shapeCast S80x40x128 C shapeCasts_S1x80x40x128_S80x40x128

/-- The greatest class score. -/
def best (C : Vec F S1x80x40x128 .f32) : FVec F S40x128 .f32 :=
  multiReduction .maximumf [0] S40x128 (block C) 0xFF800000#32 reduces_S80x40x128_S40x128 (.inl rfl) rfl

/-- The number of the first class with the greatest score. -/
def bestAt (C : Vec F S1x80x40x128 .f32) : IVec S40x128 32 :=
  multiReductionI .minsi [0] S40x128
    (select (cmpf .oeq (block C) (broadcastTo S80x40x128 (shapeCast S1x40x128 (best C) shapeCasts_S40x128_S1x40x128)
        broadcasts_S1x40x128_S80x40x128))
      (iota .tc S80x40x128 32 [0] iota_S80x40x128_d0_w32) (broadcast S80x40x128 1073741824#32))
    2147483647#32 reduces_S80x40x128_S40x128 rfl

/-- The eight planes of the table. -/
def planes (L : Fin 5 → Vec F S1x1x40x128 .f32) (C : Vec F S1x80x40x128 .f32) : Fin 8 → FVec F S40x128 .f32
  | 0 => subf (chan (L 0)) (half (L 2))
  | 1 => subf (chan (L 1)) (half (L 3))
  | 2 => addf (chan (L 0)) (half (L 2))
  | 3 => addf (chan (L 1)) (half (L 3))
  | 4 => chan (L 4)
  | 5 => best C
  | 6 => sitofp .f32 (bestAt C)
  | 7 => mulf (subf (addf (chan (L 0)) (half (L 2))) (subf (chan (L 0)) (half (L 2))))
      (subf (addf (chan (L 1)) (half (L 3))) (subf (chan (L 1)) (half (L 3))))

/-- The places that hold a candidate. -/
def valid : IVec S40x128 1 :=
  cmpi .slt (addi (muli (iota .tc S40x128 32 [0] iota_S40x128_d0_w32) (broadcast S40x128 128#32))
    (iota .tc S40x128 32 [1] iota_S40x128_d1_w32)) (broadcast S40x128 5000#32)

/-- Objectness times class confidence. -/
def score (L : Fin 5 → Vec F S1x1x40x128 .f32) (C : Vec F S1x80x40x128 .f32) : FVec F S40x128 .f32 :=
  mulf (chan (L 4)) (best C)

/-- The scores before the first trip. -/
def start (L : Fin 5 → Vec F S1x1x40x128 .f32) (C : Vec F S1x80x40x128 .f32) : FVec F S40x128 .f32 :=
  select (andi valid (cmpf .oge (score L C)
      (broadcastTo S40x128 (minimumf (broadcast S1x1 (Scalar.ofBits .f32 0x3E800000#32))
        (broadcast S1x1 (top (select valid (score L C) (broadcast S40x128 (Scalar.ofBits .f32 0xFF800000#32))))))
        broadcasts_S1x1_S40x128)))
    (score L C) (broadcast S40x128 (Scalar.ofBits .f32 0xFF800000#32))

/-! ## The run of the program -/

/-- Channel `c` of image `n` lies in the block. -/
theorem chanIn {n c : ℕ} (hn : n < 4) (hc : c < 5) :
    ∀ a, (![n, c, 0, 0] : Fin 4 → ℕ) a + S1x1x40x128.size a ≤ S4x85x40x128.size a := by
  intro a
  fin_cases a
  · show n + 1 ≤ 4; omega
  · show c + 1 ≤ 85; omega
  · show 0 + 40 ≤ 40; omega
  · show 0 + 128 ≤ 128; omega

/-- The class scores of image `n` lie in the block. -/
theorem classIn {n : ℕ} (hn : n < 4) :
    ∀ a, (![n, 5, 0, 0] : Fin 4 → ℕ) a + S1x80x40x128.size a ≤ S4x85x40x128.size a := by
  intro a
  fin_cases a
  · show n + 1 ≤ 4; omega
  · show 5 + 80 ≤ 85; omega
  · show 0 + 40 ≤ 40; omega
  · show 0 + 128 ≤ 128; omega

section Run
variable (arg1 : Memref sig .tc .vmem S4x85x40x128 .f32) (harg1 : arg1.IsWhole) (x0 : Vec F S4x85x40x128 .f32)

/-- The channels loaded of image `n`. -/
def chans (n : Fin 4) (c : Fin 5) : Vec F S1x1x40x128 .f32 :=
  View.readAt (Elt F) arg1.view (Rect.unit (s := S4x85x40x128) ![n, c, 0, 0] S1x1x40x128.size
    (chanIn n.2 c.2)).toLoadRect (harg1.unread x0)

/-- The class scores loaded of image `n`. -/
def classes (n : Fin 4) : Vec F S1x80x40x128 .f32 :=
  View.readAt (Elt F) arg1.view (Rect.unit (s := S4x85x40x128) ![n, 5, 0, 0] S1x80x40x128.size
    (classIn n.2)).toLoadRect (harg1.unread x0)

/-- The table of image `n`. -/
def tableOf (n : Fin 4) : Fin 8 → FVec F S40x128 .f32 := planes (chans arg1 harg1 x0 n) (classes arg1 harg1 x0 n)

/-- The first scores of image `n`. -/
def startOf (n : Fin 4) : FVec F S40x128 .f32 := start (chans arg1 harg1 x0 n) (classes arg1 harg1 x0 n)

/-- The store of plane `j` in copy `p` of image `n`. -/
def piece (n : Fin 4) (p : Fin 2) (j : Fin 8) : View.Piece (Elt F) S4x2x8x40x128 .f32 :=
  ⟨Rect.unit (s := S4x2x8x40x128) ![n, p, j, 0, 0] S1x1x1x40x128.size (planeIn n.2 p.2 j.2),
    shapeCast S1x1x1x40x128 (tableOf arg1 harg1 x0 n j) shapeCasts_S40x128_S1x1x1x40x128⟩

/-- All the stores before the loop, the last one first. -/
def pieces : List (View.Piece (Elt F) S4x2x8x40x128 .f32) :=
  [3, 2, 1, 0].flatMap fun n => [1, 0].flatMap fun p => [7, 6, 5, 4, 3, 2, 1, 0].map fun j => piece arg1 harg1 x0 n p j

/-- The generated run goes through the loop from these planes and these scores. -/
theorem run_eq (c : Dev nD) (i : grid0.Coords) (arg2 : Memref sig .tc .vmem S4x100x8 .f32) (harg2 : arg2.IsWhole)
    (arg3 : Memref sig .tc .vmem S4x2x8x40x128 .f32) (harg3 : arg3.IsWhole) :
    (kernelRun0_A c i arg1 harg1 arg2 harg2 arg3 harg3 x0).1
      = (st_k0_t1 Variants.none c none i arg1 harg1 arg2 harg2 arg3 harg3 0#32
          (arg3.view.writes (Elt F) arg3.view.junk (pieces arg1 harg1 x0))
          (startOf arg1 harg1 x0 0, startOf arg1 harg1 x0 1, startOf arg1 harg1 x0 2, startOf arg1 harg1 x0 3)
          (Scf.trips 0#32 (Scalar.addi 0#32 100#32) 1#32)).2 := by
  unfold kernelRun0_A
  dsimp only
  sl_unfold_words
  rfl

end Run

end Cert.KernelIdeal.KValue

end
-- ==== Proof.KTable.lean ====
/-
What the kernel prepares before its loop, read on the extended reals: the planes of an image hold the
table of its candidates, and the first score plane holds the scores before the first pick.
-/
module

public import proofs.«01_k».proof.Proof.KPoint
public import proofs.«01_k».proof.Proof.KSetup

@[expose] public section

set_option maxRecDepth 16384

noncomputable section

namespace Cert.KernelIdeal.KValue

open Idealize.ShloMosaic Idealize.ShloMosaic.TcCoe
open Cert.KernelIdeal.Gen Cert.Numbers

/-- The candidates of image `n` in a block of channel planes. -/
def image (X : S4x85x40x128.Idx → EReal) (n : Fin 4) : Fin 5000 → Fin 85 → EReal :=
  fun r c => X (ix4 n c ⟨r.val / 128, by have := r.2; omega⟩ ⟨r.val % 128, Nat.mod_lt _ (by decide)⟩)

theorem image_pos (X : S4x85x40x128.Idx → EReal) (n : Fin 4) (c : Fin 85) (a : Fin 40) (b : Fin 128) (h : pos (ix2 a b) < 5000) :
    image X n ⟨pos (ix2 a b), h⟩ c = X (ix4 n c a b) := by
  have ha : (⟨pos (ix2 a b) / 128, by have := h; omega⟩ : Fin 40) = a := Fin.ext (by
    show pos (ix2 a b) / 128 = a.val
    rw [pos_ix2]; have := b.2; omega)
  have hb : (⟨pos (ix2 a b) % 128, Nat.mod_lt _ (by decide)⟩ : Fin 128) = b := Fin.ext (by
    show pos (ix2 a b) % 128 = b.val
    rw [pos_ix2]; have := b.2; omega)
  unfold image
  rw [ha, hb]

variable (arg1 : Memref sig .tc .vmem S4x85x40x128 .f32) (harg1 : arg1.IsWhole) (X : Vec Ideal S4x85x40x128 .f32)

/-! ## The loads -/

theorem chans_apply (n : Fin 4) (c : Fin 5) (a : Fin 40) (b : Fin 128) :
    chan (chans arg1 harg1 X n c) (ix2 a b) = X (ix4 n ⟨c.val, by have := c.2; omega⟩ a b) := by
  have e : chan (chans arg1 harg1 X n c) (ix2 a b) = chans arg1 harg1 X n c (ix4 0 0 a b) := by pointwise [chan]
  rw [e]
  unfold chans
  rw [View.readAt_apply, harg1.read_unread]
  refine congrArg X (funext fun i => Fin.ext ?_)
  fin_cases i
  · show n.val + 1 * 0 = n.val; omega
  · show c.val + 1 * 0 = c.val; omega
  · show 0 + 1 * a.val = a.val; omega
  · show 0 + 1 * b.val = b.val; omega

theorem classes_apply (n : Fin 4) (k : Fin 80) (a : Fin 40) (b : Fin 128) :
    block (classes arg1 harg1 X n) (ix3 k a b) = X (ix4 n ⟨5 + k.val, by have := k.2; omega⟩ a b) := by
  have e : block (classes arg1 harg1 X n) (ix3 k a b) = classes arg1 harg1 X n (ix4 0 k a b) := by pointwise [block]
  rw [e]
  unfold classes
  rw [View.readAt_apply, harg1.read_unread]
  refine congrArg X (funext fun i => Fin.ext ?_)
  fin_cases i
  · show n.val + 1 * 0 = n.val; omega
  · show 5 + 1 * k.val = 5 + k.val; omega
  · show 0 + 1 * a.val = a.val; omega
  · show 0 + 1 * b.val = b.val; omega

/-! ## The class -/

theorem best_apply (C : Vec Ideal S1x80x40x128 .f32) (a : Fin 40) (b : Fin 128) :
    best C (ix2 a b) = Finset.univ.sup fun k : Fin 80 => block C (ix3 k a b) := by
  have e : best C (ix2 a b) = Finset.fold max ⊥ (fun k : Fin 80 => block C (ix3 k a b)) Finset.univ := by
    pointwise [best, ofBits_bot]
  rw [e]
  rfl

/-- The least of finitely many words, when one of them is known to be least. -/
theorem fold_minsi {n : ℕ} (f : Fin n → BitVec 32) (z : BitVec 32) (i : Fin n) (hi : ∀ k, (f i).toInt ≤ (f k).toInt)
    (hz : (f i).toInt ≤ z.toInt) : Finset.fold IntOp.minsi z f Finset.univ = f i := by
  have hr : ∀ {x y w : BitVec 32}, x.toInt ≤ (IntOp.minsi y w).toInt ↔ x.toInt ≤ y.toInt ∧ x.toInt ≤ w.toInt := by
    intro x y w
    show x.toInt ≤ (IntOp.minsi y w).toInt ↔ _
    unfold IntOp.minsi
    split
    next h => rw [BitVec.slt_iff_toInt_lt] at h; omega
    next h => rw [BitVec.slt_iff_toInt_lt] at h; omega
  have key := fun c : BitVec 32 => Finset.fold_op_rel_iff_and (op := IntOp.minsi) (r := fun x y : BitVec 32 => x.toInt ≤ y.toInt)
    (f := f) (b := z) (s := Finset.univ) hr (c := c)
  refine BitVec.eq_of_toInt_eq (le_antisymm ?_ ?_)
  · exact ((key _).1 le_rfl).2 i (Finset.mem_univ _)
  · exact (key _).2 ⟨hz, fun k _ => hi k⟩

theorem toInt_small {k : ℕ} (h : k < 2147483648) : (BitVec.ofNat 32 k).toInt = k := by
  rw [BitVec.toInt_ofNat', Int.bmod_eq_of_le (by omega) (by omega)]

/-- The least number among the places of the greatest entry is the first such place. -/
theorem fold_first (s : Fin 80 → EReal) [∀ k, Decidable (s k = s (Nms.first s))] :
    Finset.fold IntOp.minsi 2147483647#32
      (fun k : Fin 80 => if s k = s (Nms.first s) then BitVec.ofNat 32 k.val else 1073741824#32) Finset.univ
      = BitVec.ofNat 32 (Nms.first s).val := by
  have hf := Nms.isFirst_first s
  have hi : (Nms.first s).val < 80 := (Nms.first s).2
  refine (fold_minsi _ _ (Nms.first s) (fun k => ?_) ?_).trans ?_
  · rw [if_pos rfl, toInt_small (by omega)]
    split
    next h =>
      rw [toInt_small (by have := k.2; omega)]
      by_contra hlt
      exact absurd h (ne_of_lt (hf.2 k (Fin.lt_def.2 (by omega))))
    next h =>
      show _ ≤ (1073741824 : ℤ)
      omega
  · rw [if_pos rfl, toInt_small (by omega)]
    show _ ≤ (2147483647 : ℤ)
    omega
  · rw [if_pos rfl]

theorem bestAt_apply (C : Vec Ideal S1x80x40x128 .f32) (a : Fin 40) (b : Fin 128) :
    bestAt C (ix2 a b) = BitVec.ofNat 32 (Nms.first fun k : Fin 80 => block C (ix3 k a b)).val := by
  have e : bestAt C (ix2 a b) = Finset.fold IntOp.minsi 2147483647#32
      (fun k : Fin 80 => if block C (ix3 k a b) = best C (ix2 a b) then BitVec.ofNat 32 k.val else 1073741824#32) Finset.univ := by
    pointwise [bestAt]
  rw [e, best_apply, Nms.sup_eq_first]
  exact fold_first fun k : Fin 80 => block C (ix3 k a b)

/-! ## The table -/

theorem planes_table (n : Fin 4) : Planes (tableOf arg1 harg1 X n) (Nms.table (image X n)) := by
  intro j y h
  idx_vars y
  have hc := fun c : Fin 5 => (chans_apply arg1 harg1 X n c y0 y1).trans (image_pos X n _ y0 y1 h).symm
  have hk := fun k : Fin 80 => (classes_apply arg1 harg1 X n k y0 y1).trans (image_pos X n _ y0 y1 h).symm
  have hh : ∀ c : Fin 5, half (chans arg1 harg1 X n c) (ix2 y0 y1)
      = Ideal.div (image X n ⟨pos (ix2 y0 y1), h⟩ ⟨c.val, by have := c.2; omega⟩) Nms.two := by
    intro c
    rw [← hc]
    rfl
  have hcls : (fun k : Fin 80 => block (classes arg1 harg1 X n) (ix3 k y0 y1)) = Nms.classes (image X n ⟨pos (ix2 y0 y1), h⟩) :=
    funext hk
  have h0 : tableOf arg1 harg1 X n 0 (ix2 y0 y1) = Nms.table (image X n) 0 ⟨pos (ix2 y0 y1), h⟩ :=
    congrArg₂ (· - ·) (hc 0) (hh 2)
  have h1 : tableOf arg1 harg1 X n 1 (ix2 y0 y1) = Nms.table (image X n) 1 ⟨pos (ix2 y0 y1), h⟩ :=
    congrArg₂ (· - ·) (hc 1) (hh 3)
  have h2 : tableOf arg1 harg1 X n 2 (ix2 y0 y1) = Nms.table (image X n) 2 ⟨pos (ix2 y0 y1), h⟩ :=
    congrArg₂ (· + ·) (hc 0) (hh 2)
  have h3 : tableOf arg1 harg1 X n 3 (ix2 y0 y1) = Nms.table (image X n) 3 ⟨pos (ix2 y0 y1), h⟩ :=
    congrArg₂ (· + ·) (hc 1) (hh 3)
  fin_cases j
  · exact h0
  · exact h1
  · exact h2
  · exact h3
  · exact hc 4
  · show best (classes arg1 harg1 X n) (ix2 y0 y1) = Finset.univ.sup (Nms.classes (image X n ⟨pos (ix2 y0 y1), h⟩))
    rw [best_apply, hcls]
  · show (((bestAt (classes arg1 harg1 X n) (ix2 y0 y1)).toInt : ℝ) : EReal) = (((Nms.first _ : ℕ) : ℝ) : EReal)
    rw [bestAt_apply, hcls, toInt_small (by have := (Nms.first (Nms.classes (image X n ⟨pos (ix2 y0 y1), h⟩))).2; omega)]
    norm_cast
  · exact congrArg₂ (· * ·) (congrArg₂ (· - ·) h2 h0) (congrArg₂ (· - ·) h3 h1)

/-! ## The first scores -/

theorem valid_apply (y : S40x128.Idx) : valid y = BitVec.ofBool (decide (pos y < 5000)) := by
  have hp := pos_lt y
  idx_vars y
  pointwise [valid]
  rw [pos_ix2] at hp ⊢
  have e : IntOp.addi (IntOp.muli (BitVec.ofNat 32 y0.val) 128#32) (BitVec.ofNat 32 y1.val)
      = BitVec.ofNat 32 (128 * y0.val + y1.val) := by
    apply BitVec.eq_of_toNat_eq
    simp only [IntOp.addi, IntOp.muli, BitVec.toNat_add, BitVec.toNat_mul, BitVec.toNat_ofNat]
    omega
  rw [e]
  show BitVec.ofBool ((BitVec.ofNat 32 (128 * y0.val + y1.val)).slt 5000#32) = _
  congr 1
  rw [Bool.eq_iff_iff, BitVec.slt_iff_toInt_lt, toInt_small (by omega), decide_eq_true_iff]
  show _ < (5000 : ℤ) ↔ _
  omega

theorem scores_start (n : Fin 4) : Scores (startOf arg1 harg1 X n) (Nms.init (Nms.table (image X n))) := by
  classical
  have hP := planes_table arg1 harg1 X n
  generalize Nms.table (image X n) = T at hP
  have hsc : ∀ y (h : pos y < 5000), score (chans arg1 harg1 X n) (classes arg1 harg1 X n) y = T 4 ⟨pos y, h⟩ * T 5 ⟨pos y, h⟩ := by
    intro y h
    rw [← hP 4 y h, ← hP 5 y h]
    rfl
  unfold startOf
  generalize chans arg1 harg1 X n = L at hsc
  generalize classes arg1 harg1 X n = C at hsc
  have htop : top (select valid (score L C) (broadcast S40x128 (Ideal.ofBits .f32 0xFF800000#32)))
      = Finset.univ.sup fun q => T 4 q * T 5 q := by
    have hat : ∀ y, select valid (score L C) (broadcast S40x128 (Ideal.ofBits .f32 0xFF800000#32)) y
        = if h : pos y < 5000 then T 4 ⟨pos y, h⟩ * T 5 ⟨pos y, h⟩ else ⊥ := by
      intro y
      show Scalar.select (valid y) (score L C y) (Ideal.ofBits .f32 0xFF800000#32) = _
      rw [valid_apply, select_ofBool, ofBits_bot]
      split
      next h => exact hsc y h
      next h => rfl
    refine (Scores.top_eq (S := fun q => T 4 q * T 5 q) hat).trans (Nms.sup_eq_first (fun q => T 4 q * T 5 q)).symm
  intro y
  have e : start L C y = Scalar.select
      (IntOp.andi (valid y) (BitVec.ofBool (decide (min (Ideal.ofBits .f32 0x3E800000#32)
        (top (select valid (score L C) (broadcast S40x128 (Ideal.ofBits .f32 0xFF800000#32)))) ≤ score L C y))))
      (score L C y) (Ideal.ofBits .f32 0xFF800000#32) := by
    pointwise [start]
  rw [e, htop, valid_apply, ofBits_bot]
  have hc : ∀ p q : Prop, ∀ [Decidable p] [Decidable q],
      IntOp.andi (BitVec.ofBool (decide p)) (BitVec.ofBool (decide q)) = BitVec.ofBool (decide (p ∧ q)) := by
    intro p q _ _
    by_cases hp : p <;> by_cases hq : q <;> simp [IntOp.andi, hp, hq]
  rw [hc, select_ofBool]
  by_cases h : pos y < 5000
  · rw [dif_pos h, hsc y h]
    unfold Nms.init
    simp only [h, true_and]
  · rw [dif_neg h, if_neg fun hh => h hh.1]

end Cert.KernelIdeal.KValue

end
-- ==== Proof.KRun.lean ====
/-
The kernel's whole run on one block of four images, on the extended reals: element `(n, t, j)` of the
output block is entry `j` of what pick `t` of image `n` reports.
-/
module

public import proofs.«01_k».proof.Proof.KTable
public import Idealize.ShloMosaic.Lib.Pipeline.Value

@[expose] public section

set_option maxRecDepth 16384

noncomputable section

namespace Cert.KernelIdeal.KValue

open Idealize.ShloMosaic Idealize.ShloMosaic.TcCoe
open Cert.KernelIdeal.Gen

variable (arg1 : Memref sig .tc .vmem S4x85x40x128 .f32) (harg1 : arg1.IsWhole) (X : Vec Ideal S4x85x40x128 .f32)

/-! ## What a trip loads -/

theorem mem_pieces (n : Fin 4) (p : Fin 2) (j : Fin 8) : piece arg1 harg1 X n p j ∈ pieces arg1 harg1 X := by
  have hn : n ∈ ([3, 2, 1, 0] : List (Fin 4)) := by revert n; decide
  have hp : p ∈ ([1, 0] : List (Fin 2)) := by revert p; decide
  have hj : j ∈ ([7, 6, 5, 4, 3, 2, 1, 0] : List (Fin 8)) := by revert j; decide
  exact List.mem_flatMap.2 ⟨n, hn, List.mem_flatMap.2 ⟨p, hp, List.mem_map.2 ⟨j, hj, rfl⟩⟩⟩

theorem exists_of_mem_pieces {q : View.Piece (Elt Ideal) S4x2x8x40x128 .f32} (h : q ∈ pieces arg1 harg1 X) :
    ∃ n p j, q = piece arg1 harg1 X n p j := by
  obtain ⟨n, _, h⟩ := List.mem_flatMap.1 h
  obtain ⟨p, _, h⟩ := List.mem_flatMap.1 h
  obtain ⟨j, _, h⟩ := List.mem_map.1 h
  exact ⟨n, p, j, h.symm⟩

/-- What the scratch array holds at a place. -/
def held (z : S4x2x8x40x128.Idx) : EReal := tableOf arg1 harg1 X (z 0) (z 2) (ix2 (z 3) (z 4))

theorem piece_held (n : Fin 4) (p : Fin 2) (j : Fin 8) (x : (piece arg1 harg1 X n p j).1.shape.Idx) :
    (piece arg1 harg1 X n p j).2 x = held arg1 harg1 X ((piece arg1 harg1 X n p j).1.emb x) := by
  have hx : ∀ x : S1x1x1x40x128.Idx, shapeCast S1x1x1x40x128 (tableOf arg1 harg1 X n j) shapeCasts_S40x128_S1x1x1x40x128 x
      = tableOf arg1 harg1 X n j (ix2 (x 3) (x 4)) := by
    intro x
    pointwise
  have h0 : (x 0).val < 1 := (x 0).isLt
  have h1 : (x 1).val < 1 := (x 1).isLt
  have h2 : (x 2).val < 1 := (x 2).isLt
  have he : (piece arg1 harg1 X n p j).1.emb x = ix5 n p j (x 3 : Fin 40) (x 4 : Fin 128) := by
    refine Rect.emb_eq_of_coords _ _ _ fun a => ?_
    fin_cases a
    · show n.val = n.val + 1 * (x 0).val; omega
    · show p.val = p.val + 1 * (x 1).val; omega
    · show j.val = j.val + 1 * (x 2).val; omega
    · show (x 3).val = 0 + 1 * (x 3).val; omega
    · show (x 4).val = 0 + 1 * (x 4).val; omega
  rw [he]
  exact hx x

variable (arg3 : Memref sig .tc .vmem S4x2x8x40x128 .f32)

theorem planes_loads (k : Fin k0_t1_loop.trips) (n : Fin 4) :
    Planes (plane (loads arg3 (arg3.view.writes (Elt Ideal) arg3.view.junk (pieces arg1 harg1 X)) k n))
      (Nms.table (image X n)) := by
  intro j y h
  refine Eq.trans ?_ (planes_table arg1 harg1 X n j y h)
  idx_vars y
  generalize hw : loads arg3 (arg3.view.writes (Elt Ideal) arg3.view.junk (pieces arg1 harg1 X)) k n = W
  have e : plane W j (ix2 y0 y1) = W j (ix5 0 0 0 y0 y1) := by pointwise [plane]
  rw [e, ← hw]
  unfold loads
  rw [View.readAt_apply]
  have hz : (Rect.unit (s := S4x2x8x40x128) ![n, copy k, j, 0, 0] S1x1x1x40x128.size
      (planeIn n.2 (copy_lt k) j.2)).toLoadRect.idx (ix5 0 0 0 y0 y1) = ix5 n (⟨copy k, copy_lt k⟩ : Fin 2) j y0 y1 := by
    refine funext fun a => Fin.ext ?_
    fin_cases a
    · show n.val + 1 * 0 = n.val; omega
    · show copy k + 1 * 0 = copy k; omega
    · show j.val + 1 * 0 = j.val; omega
    · show 0 + 1 * y0.val = y0.val; omega
    · show 0 + 1 * y1.val = y1.val; omega
  rw [hz]
  refine View.read_writes_apply_of_pieces _ _ (held arg1 harg1 X) _ (fun q hq => ?_) _
    ⟨_, mem_pieces arg1 harg1 X n ⟨copy k, copy_lt k⟩ j, ?_⟩
  · obtain ⟨n, p, j, rfl⟩ := exists_of_mem_pieces arg1 harg1 X hq
    exact piece_held arg1 harg1 X n p j
  · refine (Rect.mem_set_unit (inb := planeIn n.2 (copy_lt k) j.2)).2 fun a => ?_
    have := y0.2
    have := y1.2
    fin_cases a
    · show n.val ≤ n.val ∧ n.val < n.val + 1; omega
    · show copy k ≤ copy k ∧ copy k < copy k + 1; omega
    · show j.val ≤ j.val ∧ j.val < j.val + 1; omega
    · show 0 ≤ y0.val ∧ y0.val < 0 + 40; omega
    · show 0 ≤ y1.val ∧ y1.val < 0 + 128; omega

/-! ## The loop -/

/-- What the output block holds at a place. -/
def reported (z : S4x100x8.Idx) : EReal := Nms.det (Nms.table (image X (z 0))) (z 1).val (z 2)

/-- A stored row is the reported one. -/
theorem row_reported (n : Fin 4) (k : ℕ) (hk : k < 100) (off : Fin 3 → ℕ) (hoff : off = ![n.val, k, 0])
    (inb : ∀ a, off a + S1x1x8.size a ≤ S4x100x8.size a) (v : FVec Ideal S1x8 .f32)
    (hv : ∀ l, v (ix2 0 l) = Nms.det (Nms.table (image X n)) k l)
    (x : S1x1x8.Idx) :
    shapeCast S1x1x8 v shapeCasts_S1x8_S1x1x8 x
      = reported X ((Rect.unit (s := S4x100x8) off S1x1x8.size inb).emb x) := by
  subst hoff
  have e : shapeCast S1x1x8 v shapeCasts_S1x8_S1x1x8 x = v (ix2 0 (x 2)) := by pointwise
  have h0 : (x 0).val < 1 := (x 0).isLt
  have h1 : (x 1).val < 1 := (x 1).isLt
  have he : (Rect.unit (s := S4x100x8) ![n.val, k, 0] S1x1x8.size inb).emb x = ix3 n (⟨k, hk⟩ : Fin 100) (x 2 : Fin 8) := by
    refine Rect.emb_eq_of_coords _ _ _ fun a => ?_
    fin_cases a
    · show n.val = n.val + 1 * (x 0).val; omega
    · show k = k + 1 * (x 1).val; omega
    · show (x 2).val = 0 + 1 * (x 2).val; omega
  rw [he, e]
  exact hv (x 2)

/-- The four score planes before trip `t`. -/
def Carried (t : ℕ) (q : FVec Ideal S40x128 .f32 × FVec Ideal S40x128 .f32 × FVec Ideal S40x128 .f32 × FVec Ideal S40x128 .f32) : Prop :=
  Scores q.1 (Nms.after (Nms.table (image X 0)) t) ∧ Scores q.2.1 (Nms.after (Nms.table (image X 1)) t)
    ∧ Scores q.2.2.1 (Nms.after (Nms.table (image X 2)) t) ∧ Scores q.2.2.2 (Nms.after (Nms.table (image X 3)) t)

variable (arg2 : Memref sig .tc .vmem S4x100x8 .f32) (harg2 : arg2.IsWhole) (harg3 : arg3.IsWhole)

theorem row_det {n : Fin 4} {s : FVec Ideal S40x128 .f32} {k : ℕ} (hs : Scores s (Nms.after (Nms.table (image X n)) k))
    {P : Fin 8 → Vec Ideal S1x1x1x40x128 .f32} (hP : Planes (plane P) (Nms.table (image X n))) (l : Fin 8) :
    row s P (ix2 0 l) = Nms.det (Nms.table (image X n)) k l := hs.row_eq hP l

/-- Before every trip the carried planes hold the scores, and all that is stored so far is what is to be reported. -/
theorem loop (c : Dev nD) (i : grid0.Coords) : ∀ t, t ≤ k0_t1_loop.trips →
    Carried X t (st_k0_t1 Variants.none c none i arg1 harg1 arg2 harg2 arg3 harg3 0#32
          (arg3.view.writes (Elt Ideal) arg3.view.junk (pieces arg1 harg1 X))
          (startOf arg1 harg1 X 0, startOf arg1 harg1 X 1, startOf arg1 harg1 X 2, startOf arg1 harg1 X 3) t).1
      ∧ ∀ q ∈ (st_k0_t1 Variants.none c none i arg1 harg1 arg2 harg2 arg3 harg3 0#32
          (arg3.view.writes (Elt Ideal) arg3.view.junk (pieces arg1 harg1 X))
          (startOf arg1 harg1 X 0, startOf arg1 harg1 X 1, startOf arg1 harg1 X 2, startOf arg1 harg1 X 3) t).2,
        ∀ x, q.2 x = reported X (q.1.emb x)
  | 0, _ => ⟨⟨scores_start arg1 harg1 X 0, scores_start arg1 harg1 X 1, scores_start arg1 harg1 X 2, scores_start arg1 harg1 X 3⟩,
      fun q hq => absurd hq List.not_mem_nil⟩
  | t + 1, ht => by
    obtain ⟨hC, hL⟩ := loop c i t (by omega)
    have hP := planes_loads arg1 harg1 X arg3 ⟨t, by omega⟩
    have hT : ∀ n r, Nms.table (image X n) 7 r = Nms.area (Nms.table (image X n)) r := fun n r => (Nms.area_table _ r).symm
    have e := st_k0_t1_succ (F := Ideal) Variants.none c none i arg1 harg1 arg2 harg2 arg3 harg3 0#32
      (arg3.view.writes (Elt Ideal) arg3.view.junk (pieces arg1 harg1 X))
      (startOf arg1 harg1 X 0, startOf arg1 harg1 X 1, startOf arg1 harg1 X 2, startOf arg1 harg1 X 3) ⟨t, by omega⟩
    dsimp only at e
    rw [e]
    clear e
    generalize st_k0_t1 Variants.none c none i arg1 harg1 arg2 harg2 arg3 harg3 0#32
      (arg3.view.writes (Elt Ideal) arg3.view.junk (pieces arg1 harg1 X))
      (startOf arg1 harg1 X 0, startOf arg1 harg1 X 1, startOf arg1 harg1 X 2, startOf arg1 harg1 X 3) t = st at hC hL ⊢
    obtain ⟨⟨s0, s1, s2, s3⟩, L⟩ := st
    obtain ⟨h0, h1, h2, h3⟩ := hC
    dsimp only at h0 h1 h2 h3 hL ⊢
    rw [tripR_eq, tripL_eq]
    have hk : t < 100 := by have := trips_eq; omega
    refine ⟨⟨h0.next (hT 0) (hP 0), h1.next (hT 1) (hP 1), h2.next (hT 2) (hP 2), h3.next (hT 3) (hP 3)⟩, fun q hq => ?_⟩
    simp only [List.cons_append, List.nil_append, List.mem_cons] at hq
    rcases hq with rfl | rfl | rfl | rfl | hq
    · exact row_reported X 3 t hk _ (k0_off36_eq _) (k0_off36_inb _) _ (row_det X h3 (hP 3))
    · exact row_reported X 2 t hk _ (k0_off35_eq _) (k0_off35_inb _) _ (row_det X h2 (hP 2))
    · exact row_reported X 1 t hk _ (k0_off34_eq _) (k0_off34_inb _) _ (row_det X h1 (hP 1))
    · exact row_reported X 0 t hk _ (k0_off33_eq _) (k0_off33_inb _) _ (row_det X h0 (hP 0))
    · exact hL q hq

/-- The output block after the run. -/
theorem out_eq (c : Dev nD) (i : grid0.Coords) :
    out0_A_1 c i arg1 harg1 arg2 harg2 arg3 harg3 X = reported X := by
  funext y
  unfold out0_A_1
  refine View.read_writes_apply_of_pieces _ _ (reported X) _ ?_ y (cover0_A_1 c i arg1 harg1 arg2 harg2 arg3 harg3 X y)
  rw [run_eq]
  exact (loop arg1 harg1 X arg3 arg2 harg2 harg3 c i k0_t1_loop.trips le_rfl).2

end Cert.KernelIdeal.KValue

end
-- ==== Proof.KValue.lean ====
/-
What the kernel's program leaves in its result: the host pads the candidates to 5120, moves the channels
in front and folds each channel to 40 rows of 128, the kernel fills the 8 entries of each report, and the
host keeps the first 7.
-/
module

public import proofs.«01_k».proof.Proof.KRun
public import Idealize.ShloMosaic.Lib.StableHlo.RunRead

@[expose] public section

set_option maxRecDepth 16384

noncomputable section

namespace Cert.KernelIdeal.KValue

open Idealize.ShloMosaic Idealize.ShloMosaic.TcCoe
open Idealize.SL Idealize.SL.Sem
open Cert.KernelIdeal.Gen

variable (m : (ℓ : Loc nD τ sig) → Buf (Elt Ideal) ℓ) (ρ : Dev nD → PrngReg) (c : Dev nD)

/-- The candidates as the caller passes them. -/
abbrev argOf : S4x5000x85.Idx → EReal := m ((c.tc : Thread nD τ).loc main_arg0)

/-- The candidates as the host lays them out. -/
abbrev laid (x : S4x5000x85.Idx → EReal) : FVec Ideal S4x85x40x128 .f32 :=
  shapeCast S4x85x40x128
    (transpose S4x85x5120 [0, 2, 1]
      (pad S4x5120x85 ![0, 0, 0] ![0, 120, 0] ![0, 0, 0] (x : FVec Ideal S4x5000x85 .f32)
        (sitofp (F := Ideal) .f32 (constantI S_ 32 0#32)) pads_S4x5000x85_S4x5120x85_000_01200_000 h_S_)
      transposes_S4x5120x85_S4x85x5120_0_2_1)
    shapeCasts_S4x85x5120_S4x85x40x128

theorem V_laid : V m c main_v2 = laid (argOf m c) := by
  simp only [V, V0, List.flatten_cons, List.flatten_nil, List.append_nil, List.cons_append, List.nil_append]
  after_reads_simp
  rfl

/-- The window of the one grid point is the whole array. -/
theorem iblk_eq (t : Fin cfg0.N) : iblk m c 0 t = laid (argOf m c) := by
  funext z
  rw [← V_laid]
  rcases fin_N0 t with rfl
  unfold iblk
  rw [View.read_apply]
  have e : ((cfg0.win 0).blk t0_0).view.emb z = z := funext fun a => Fin.ext (by
    show win0_0.index t0_0 a * win0_0.size a + 1 * (z a).val = (z a).val
    rw [show win0_0.index t0_0 a = 0 from (by decide +kernel : ∀ a, win0_0.index t0_0 a = 0) a]
    omega)
  rw [e]
  rfl

/-- The laid out candidates read back. -/
theorem image_laid (x : S4x5000x85.Idx → EReal) (n : Fin 4) : image (laid x) n = fun r k => x (ix3 n r k) := by
  funext r k
  show laid x (ix4 n k _ _) = _
  pointwise [laid]
  have e : r.val / 128 * 128 + r.val % 128 = r.val := by omega
  rw [dif_pos (by omega)]
  congr 2
  exact Fin.ext e

/-- What the region leaves in the array of reports. -/
theorem flushed_eq (t : Fin cfg0.N) :
    (dats m 0 c).flushed 1 t = ((cfg0.win 1).blk t).view.read (Elt Ideal) (reported (laid (argOf m c)) : Buf (Elt Ideal) ((c.tc : Thread nD τ).loc main_v3)) := by
  show (cfg0.win 1).cut (grid0.coords t) ((dats m 0 c).after 1 t) = _
  rw [after0_1]
  unfold outsAt0
  rw [iblk_eq, out_eq]
  rcases fin_N0 t with rfl
  funext z
  have e : ((cfg0.win 1).blk t0_0).view.emb z = z := funext fun a => Fin.ext (by
    show win0_1.index t0_0 a * win0_1.size a + 1 * (z a).val = (z a).val
    rw [show win0_1.index t0_0 a = 0 from (by decide +kernel : ∀ a, win0_1.index t0_0 a = 0) a]
    omega)
  rw [View.read_apply, e]
  rfl

theorem cover (i : S4x100x8.Idx) : ∃ t : Fin cfg0.N, (cfg0.win 1).flush t = true ∧ i ∈ ((cfg0.win 1).blk t).view.set := by
  refine ⟨t0_0, flush0_1 _, ?_⟩
  show i ∈ ((View.whole main_v3).slice (win0_1.rect t0_0)).set
  rw [View.set_slice_whole, Rect.mem_set_unit]
  intro a
  show win0_1.index t0_0 a * win0_1.size a ≤ (i a).val ∧ (i a).val < win0_1.index t0_0 a * win0_1.size a + win0_1.xsize (grid0.coords t0_0) a
  rw [show win0_1.index t0_0 a = 0 from (by decide +kernel : ∀ a, win0_1.index t0_0 a = 0) a,
    show win0_1.xsize (grid0.coords t0_0) a = S4x100x8.size a from (by decide +kernel : ∀ a, win0_1.xsize (grid0.coords t0_0) a = S4x100x8.size a) a]
  have := (i a).isLt
  omega

theorem reports_eq : (dats m 0 c).arrAt 1 cfg0.N = (reported (laid (argOf m c)) : Buf (Elt Ideal) ((c.tc : Thread nD τ).loc main_v3)) :=
  (dats m 0 c).arrAt_eq_of_cover 1 _ (fun t _ => flushed_eq m c t) cover

/-- The first seven entries of the reports are the answer. -/
theorem cut_reported (x : S4x5000x85.Idx → EReal) :
    extractStridedSlice S4x100x7 ![0, 0, 0] (reported (laid x) : FVec Ideal S4x100x8 .f32) slices_S4x100x8_S4x100x7_0_0_0 = Nms.answer x := by
  funext z
  idx_vars z
  pointwise [reported, Nms.answer]
  rw [image_laid]

/-- The result array after the host's last line. -/
theorem tail_eq : Pipeline.afterTail₀ cfgs (dats m) 0 (V0 m) [hostOps1] c main_v4 = Nms.answer (argOf m c) := by
  rw [← cut_reported]
  simp only [Pipeline.afterTail₀, List.flatten_cons, List.flatten_nil, List.append_nil]
  after_reads_simp
  exact congrArg (fun R => extractStridedSlice S4x100x7 ![0, 0, 0] (R : FVec Ideal S4x100x8 .f32) slices_S4x100x8_S4x100x7_0_0_0)
    ((Pipeline.withArrays_arr spec0 winFacts0.arr_inj c (V0 m c) (fun w => (dats m 0 c).arrAt w cfg0.N) 1).trans (reports_eq m c))

/-- The kernel's run: the answer in the result, the candidates unchanged. -/
theorem run : θ_run defs (onTc (τ := τ) (main (F := Ideal))) ⟨m, fun _ => 0, ρ⟩ fun r => ∀ c : Dev nD,
      r.2.mem ((c.tc : Thread nD τ).loc main_v4) = Nms.answer (argOf m c)
      ∧ r.2.mem ((c.tc : Thread nD τ).loc main_arg0) = m ((c.tc : Thread nD τ).loc main_arg0) :=
  (θ_run defs _ _).mono (fun _ h c => ⟨((h.1 c).2 main_v4 (Pipeline.mem_restRefs_of main_v4 (by decide) (by decide))).trans (tail_eq m c), h.2 c⟩)
    (θ_run_and (run_main m ρ) (unchanged m ρ))

end Cert.KernelIdeal.KValue

end
-- ==== Proof.RefRead.lean ====
/-
What the reference's two kinds of reads give on the extended reals: an arg-max is the first greatest
place, and a row picked by an image number and a place is that row.
-/
module

public import proofs.«01_k».proof.Proof.Spec
public import proofs.«01_k».proof.Proof.Numbers
public import proofs.«01_k».proof.Proof.RefTrip
public import Idealize.ShloMosaic.PureOps.Ideal.Laws

@[expose] public section

set_option maxRecDepth 16384

noncomputable section

namespace Cert.ReferenceIdeal.RefRead

open Idealize.ShloMosaic
open Cert.ReferenceIdeal Cert.Numbers

/-! ## The arg-max -/

/-- A number below 2^31 as a word reads back signed. -/
theorem toInt_word {k : ℕ} (hk : k < 2 ^ 31) : (BitVec.ofNat 32 k).toInt = (k : ℤ) := by
  have e : (BitVec.ofNat 32 k).toNat = k := by rw [BitVec.toNat_ofNat]; exact Nat.mod_eq_of_lt (by omega)
  rw [BitVec.toInt_eq_toNat_of_lt (by rw [e]; omega), e]

theorem reducer_eq (a b : Ideal .f32) (i j : BitVec 32) :
    reducer_argmax_f32_i32 (F := Ideal) (a, i) (b, j)
      = (if (b : EReal) < a then a else b, if (b : EReal) < a ∨ ((a : EReal) = b ∧ i.toInt < j.toInt) then i else j) := by
  simp only [reducer_argmax_f32_i32, Ideal.cmpf_def, Ideal.cmp, Scalar.select, IntOp.ori, IntOp.andi, IntOp.cmpi]
  by_cases h1 : (b : EReal) < a <;> by_cases h2 : (a : EReal) = b <;> by_cases h3 : i.toInt < j.toInt <;>
    simp [h1, h2, h3, BitVec.slt, BitVec.slt_iff_toInt_lt]

/-- Folding the arg-max over a list of scores and their numbers. -/
theorem fold_first : ∀ (n : ℕ) (s : Fin (n + 1) → EReal), n + 1 < 2 ^ 31 →
    ∃ i, Nms.IsFirst s i ∧ ((List.finRange (n + 1)).map fun k => ((s k : Ideal .f32), BitVec.ofNat 32 k.val)).foldl
      (reducer_argmax_f32_i32 (F := Ideal)) ((⊥ : EReal), 0#32) = (s i, BitVec.ofNat 32 i.val)
  | 0, s, _ => by
    refine ⟨0, ⟨fun j => ?_, fun j hj => absurd hj (by omega)⟩, ?_⟩
    · rw [show j = 0 from Fin.ext (by omega)]
    · show reducer_argmax_f32_i32 (F := Ideal) ((⊥ : EReal), 0#32) (s 0, 0#32) = (s 0, 0#32)
      rw [reducer_eq, if_neg not_lt_bot]
      simp
  | n + 1, s, hn => by
    obtain ⟨i, hi, he⟩ := fold_first n (fun k => s k.castSucc) (by omega)
    have e : ((List.finRange (n + 1 + 1)).map fun k => ((s k : Ideal .f32), BitVec.ofNat 32 k.val)).foldl
        (reducer_argmax_f32_i32 (F := Ideal)) ((⊥ : EReal), 0#32)
          = reducer_argmax_f32_i32 (F := Ideal) (s i.castSucc, BitVec.ofNat 32 i.val) (s (Fin.last (n + 1)), BitVec.ofNat 32 (n + 1)) := by
      rw [List.finRange_succ_last, List.map_append, List.foldl_append, List.map_map]
      show reducer_argmax_f32_i32 (F := Ideal) (List.foldl _ _ ((List.finRange (n + 1)).map fun k => ((s k.castSucc : Ideal .f32), BitVec.ofNat 32 k.val))) _ = _
      rw [he]
      rfl
    have hlt : (BitVec.ofNat 32 i.val).toInt < (BitVec.ofNat 32 (n + 1)).toInt := by
      rw [toInt_word (by have := i.2; omega), toInt_word (by omega)]
      exact_mod_cast i.2
    rw [e, reducer_eq]
    by_cases h : s (Fin.last (n + 1)) ≤ s i.castSucc
    · refine ⟨i.castSucc, ⟨fun j => ?_, fun j hj => ?_⟩, ?_⟩
      · induction j using Fin.lastCases with
        | last => exact h
        | cast j => exact hi.1 j
      · induction j using Fin.lastCases with
        | last => exact absurd hj (not_lt.mpr (Fin.le_last _))
        | cast j => exact hi.2 j (by simpa using hj)
      · rw [if_pos (h.lt_or_eq.imp id fun q => ⟨q.symm, hlt⟩)]
        split
        · rfl
        · next q => rw [le_antisymm h (not_lt.mp q)]; rfl
    · have h' := not_le.mp h
      refine ⟨Fin.last (n + 1), ⟨fun j => ?_, fun j hj => ?_⟩, ?_⟩
      · induction j using Fin.lastCases with
        | last => exact le_rfl
        | cast j => exact (hi.1 j).trans h'.le
      · induction j using Fin.lastCases with
        | last => exact absurd hj (lt_irrefl _)
        | cast j => exact (hi.1 j).trans_lt h'
      · rw [if_neg (not_lt.mpr h'.le), if_neg (by rintro (q | q); exacts [absurd q (not_lt.mpr h'.le), absurd q.1 h'.ne])]
        rfl

/-- The places folded into a result place, in order, are those of a list `e`. -/
theorem fiber_eq {s t : Shape} {axes : List (Fin s.rank)} (h : s.ReducesTo axes t) (j : t.Idx) {n : ℕ} (e : Fin n → s.Idx)
    (hmono : ∀ a b, a < b → s.rowMajor (e a) < s.rowMajor (e b)) (hmem : ∀ z, h.drop z = j ↔ ∃ r, e r = z) :
    (List.finRange s.numel).filter (fun k => h.drop (s.rowMajor.symm k) = j) = (List.finRange n).map fun r => s.rowMajor (e r) := by
  refine List.Pairwise.eq_of_mem_iff (r := (· < ·)) ?_ ?_ fun k => ?_
  · exact (List.pairwise_lt_finRange _).filter _
  · rw [List.pairwise_map]
    exact (List.pairwise_lt_finRange _).imp fun {a b} hab => hmono a b hab
  · simp only [List.mem_filter, List.mem_finRange, true_and, decide_eq_true_eq, List.mem_map, hmem]
    constructor
    · rintro ⟨r, hr⟩; exact ⟨r, by rw [hr, Equiv.apply_symm_apply]⟩
    · rintro ⟨r, hr⟩; exact ⟨r, by rw [← hr, Equiv.symm_apply_apply]⟩

/-- The arg-max of a row of an array is the first greatest place of the row. -/
theorem argmax_eq {s t u : Shape} {axes : List (Fin s.rank)} (h : s.ReducesTo axes t) (hu : 0 < u.numel) (j : t.Idx) {n : ℕ} (hn : n + 1 < 2 ^ 31)
    (e : Fin (n + 1) → s.Idx) (hmono : ∀ a b, a < b → s.rowMajor (e a) < s.rowMajor (e b)) (hmem : ∀ z, h.drop z = j ↔ ∃ r, e r = z)
    (x : FVec Ideal s .f32) (y : IVec s 32) (ix : FVec Ideal u .f32) (iy : IVec u 32)
    (hy : ∀ r, y (e r) = BitVec.ofNat 32 r.val) (hix : ∀ z, ix z = (⊥ : EReal)) (hiy : ∀ z, iy z = 0#32) :
    (Host.argReduce (reducer_argmax_f32_i32 (F := Ideal)) x y ix iy h hu j).2
      = BitVec.ofNat 32 (Nms.first fun r => (x (e r) : EReal)).val := by
  obtain ⟨i, hi, he⟩ := fold_first n (fun r => x (e r)) hn
  rw [Ideal.argReduce_eq_reduce2, Host.reduce2_eq_foldl_fiber, Host.argReduceFiber, fiber_eq h j e hmono hmem, List.map_map, hix, hiy,
    Nms.first_eq hi]
  have e2 : ((fun k => (x (s.rowMajor.symm k), y (s.rowMajor.symm k))) ∘ fun r => s.rowMajor (e r)) = fun r => (x (e r), BitVec.ofNat 32 r.val) := by
    funext r
    simp only [Function.comp, Equiv.symm_apply_apply, hy]
  rw [e2]
  exact congrArg Prod.snd he

theorem drop_row (h : S4x5000.ReducesTo [1] S4) (z : S4x5000.Idx) : h.drop z = ix1 (z 0) := by
  funext b
  match b with
  | ⟨0, _⟩ => exact Fin.ext (h.drop_apply_val_of_eq z 0 0)

/-- The arg-max over the candidates. -/
theorem argmax_row (x : FVec Ideal S4x5000 .f32) (h : S4x5000.ReducesTo [1] S4) (hu : 0 < S_.numel) (n : Fin 4) :
    (Host.argReduce (reducer_argmax_f32_i32 (F := Ideal)) x (iotaInDim S4x5000 32 1) (constant S_ .f32 0xFF800000#32) (constantI S_ 32 0#32) h hu (ix1 n)).2
      = BitVec.ofNat 32 (Nms.first fun r : Fin 5000 => (x (ix2 n r) : EReal)).val := by
  refine argmax_eq h hu (ix1 n) (n := 4999) (by decide) (fun r => ix2 n r) (fun a b hab => ?_) (fun z => ?_) x _ _ _
    (fun r => rfl) (fun z => ofBits_bot) (fun z => rfl)
  · rw [Fin.lt_def, rowMajor_val2 _ 5000 rfl, rowMajor_val2 _ 5000 rfl]
    have := Fin.lt_def.mp hab
    simp only [ix2_0, ix2_1]
    omega
  · rw [drop_row]
    constructor
    · intro e
      obtain rfl : z 0 = n := congrFun e 0
      exact ⟨z 1, ix2_eta z⟩
    · rintro ⟨r, rfl⟩
      rfl

theorem drop_class (h : S4x5000x80.ReducesTo [2] S4x5000) (z : S4x5000x80.Idx) : h.drop z = ix2 (z 0) (z 1) := by
  funext b
  match b with
  | ⟨0, _⟩ => exact Fin.ext (h.drop_apply_val_of_eq z 0 0)
  | ⟨1, _⟩ => exact Fin.ext (h.drop_apply_val_of_eq z 1 1)

/-- The arg-max over the classes. -/
theorem argmax_class (x : FVec Ideal S4x5000x80 .f32) (h : S4x5000x80.ReducesTo [2] S4x5000) (hu : 0 < S_.numel) (n : Fin 4) (r : Fin 5000) :
    (Host.argReduce (reducer_argmax_f32_i32 (F := Ideal)) x (iotaInDim S4x5000x80 32 2) (constant S_ .f32 0xFF800000#32) (constantI S_ 32 0#32) h hu (ix2 n r)).2
      = BitVec.ofNat 32 (Nms.first fun c : Fin 80 => (x (ix3 n r c) : EReal)).val := by
  refine argmax_eq h hu (ix2 n r) (n := 79) (by decide) (fun c => ix3 n r c) (fun a b hab => ?_) (fun z => ?_) x _ _ _
    (fun c => rfl) (fun z => ofBits_bot) (fun z => rfl)
  · rw [Fin.lt_def, rowMajor_val3 _ 400000 80 rfl rfl, rowMajor_val3 _ 400000 80 rfl rfl]
    have := Fin.lt_def.mp hab
    simp only [ix3_0, ix3_1, ix3_2]
    omega
  · rw [drop_class]
    constructor
    · intro e
      obtain rfl : z 0 = n := congrFun e 0
      obtain rfl : z 1 = r := congrFun e 1
      exact ⟨z 2, ix3_eta z⟩
    · rintro ⟨c, rfl⟩
      rfl

/-! ## The rows picked -/

theorem clamp_word {k n : ℕ} (hk : k < n) (hn : n < 2 ^ 31) : min (BitVec.ofNat 32 k).toInt.toNat (n - 1) = k := by
  rw [toInt_word (by omega), Int.toNat_natCast]
  omega

/-- Picking rows of a table. -/
theorem gather_rows {α : Type} (T : S4x5000x7.Idx → α) (I : IVec S4x2 32) (n : Fin 4) (j : Fin 7) (i : Fin 5000)
    (h0 : I (ix2 n 0) = BitVec.ofNat 32 n.val) (h1 : I (ix2 n 1) = BitVec.ofNat 32 i.val) :
    Host.gather gather_S4x5000x7_S4x2_S4x7_1_01_n_n_01_1_117 T I (ix2 n j) = T (ix3 n i j) := by
  unfold Host.gather
  congr 1
  funext a
  apply Fin.ext
  match a with
  | ⟨0, _⟩ =>
    show min (I (gather_S4x5000x7_S4x2_S4x7_1_01_n_n_01_1_117.siIdx (ix2 n j) ⟨0, Nat.zero_lt_two⟩)).toInt.toNat (4 - 1) + 0 + 0 = n.val
    rw [show gather_S4x5000x7_S4x2_S4x7_1_01_n_n_01_1_117.siIdx (ix2 n j) ⟨0, Nat.zero_lt_two⟩ = ix2 n 0 from eq_ix2 _ , h0, clamp_word n.2 (by decide), Nat.add_zero]
  | ⟨1, _⟩ =>
    show min (I (gather_S4x5000x7_S4x2_S4x7_1_01_n_n_01_1_117.siIdx (ix2 n j) ⟨1, Nat.one_lt_two⟩)).toInt.toNat (5000 - 1) + 0 + 0 = i.val
    rw [show gather_S4x5000x7_S4x2_S4x7_1_01_n_n_01_1_117.siIdx (ix2 n j) ⟨1, Nat.one_lt_two⟩ = ix2 n 1 from eq_ix2 _ , h1, clamp_word i.2 (by decide), Nat.add_zero]
  | ⟨2, _⟩ =>
    show 0 + 0 + j.val = j.val
    omega

/-- Picking one number of each row. -/
theorem gather_cells {α : Type} (T : S4x5000.Idx → α) (I : IVec S4x2 32) (n : Fin 4) (i : Fin 5000)
    (h0 : I (ix2 n 0) = BitVec.ofNat 32 n.val) (h1 : I (ix2 n 1) = BitVec.ofNat 32 i.val) :
    Host.gather gather_S4x5000_S4x2_S4_n_01_n_n_01_1_11 T I (ix1 n) = T (ix2 n i) := by
  unfold Host.gather
  congr 1
  funext a
  apply Fin.ext
  match a with
  | ⟨0, _⟩ =>
    show min (I (gather_S4x5000_S4x2_S4_n_01_n_n_01_1_11.siIdx (ix1 n) ⟨0, Nat.zero_lt_two⟩)).toInt.toNat (4 - 1) + 0 + 0 = n.val
    rw [show gather_S4x5000_S4x2_S4_n_01_n_n_01_1_11.siIdx (ix1 n) ⟨0, Nat.zero_lt_two⟩ = ix2 n 0 from eq_ix2 _ , h0, clamp_word n.2 (by decide), Nat.add_zero]
  | ⟨1, _⟩ =>
    show min (I (gather_S4x5000_S4x2_S4_n_01_n_n_01_1_11.siIdx (ix1 n) ⟨1, Nat.one_lt_two⟩)).toInt.toNat (5000 - 1) + 0 + 0 = i.val
    rw [show gather_S4x5000_S4x2_S4_n_01_n_n_01_1_11.siIdx (ix1 n) ⟨1, Nat.one_lt_two⟩ = ix2 n 1 from eq_ix2 _ , h1, clamp_word i.2 (by decide), Nat.add_zero]

/-! ## The row written -/

/-- Writing one row of the reports. -/
theorem write_row {α : Type} (D : S100x4x7.Idx → α) (U : S1x4x7.Idx → α) (start : Fin 3 → ℤ) (h : S100x4x7.Slices (fun _ => 0) S1x4x7)
    (t : ℕ) (ht : t < 100) (h0 : start 0 = t) (h1 : start 1 = 0) (h2 : start 2 = 0) (k : Fin 100) (n : Fin 4) (j : Fin 7) :
    Host.dynamicUpdateSlice D U start h (ix3 k n j) = if k.val = t then U (ix3 0 n j) else D (ix3 k n j) := by
  have c0 : Host.clampedStart S100x4x7 S1x4x7 h.1 start 0 = t := Host.clampedStart_of_le h.1 start 0 t h0 (show t + 1 ≤ 100 by omega)
  have c1 : Host.clampedStart S100x4x7 S1x4x7 h.1 start 1 = 0 := Host.clampedStart_of_le h.1 start 1 0 h1 (show 0 + 4 ≤ 4 by omega)
  have c2 : Host.clampedStart S100x4x7 S1x4x7 h.1 start 2 = 0 := Host.clampedStart_of_le h.1 start 2 0 h2 (show 0 + 7 ≤ 7 by omega)
  rw [Host.dynamicUpdateSlice_apply]
  by_cases hk : k.val = t
  · rw [if_pos hk, dif_pos]
    · congr 1
      funext b
      apply Fin.ext
      match b with
      | ⟨0, _⟩ =>
        show k.val - Host.clampedStart S100x4x7 S1x4x7 h.1 start 0 = 0
        omega
      | ⟨1, _⟩ =>
        show n.val - Host.clampedStart S100x4x7 S1x4x7 h.1 start 1 = n.val
        omega
      | ⟨2, _⟩ =>
        show j.val - Host.clampedStart S100x4x7 S1x4x7 h.1 start 2 = j.val
        omega
    · intro a
      match a with
      | ⟨0, _⟩ =>
        show Host.clampedStart S100x4x7 S1x4x7 h.1 start 0 ≤ k.val ∧ k.val < Host.clampedStart S100x4x7 S1x4x7 h.1 start 0 + 1
        omega
      | ⟨1, _⟩ =>
        show Host.clampedStart S100x4x7 S1x4x7 h.1 start 1 ≤ n.val ∧ n.val < Host.clampedStart S100x4x7 S1x4x7 h.1 start 1 + 4
        omega
      | ⟨2, _⟩ =>
        show Host.clampedStart S100x4x7 S1x4x7 h.1 start 2 ≤ j.val ∧ j.val < Host.clampedStart S100x4x7 S1x4x7 h.1 start 2 + 7
        omega
  · rw [if_neg hk, dif_neg]
    intro hin
    have q : Host.clampedStart S100x4x7 S1x4x7 h.1 start 0 ≤ k.val ∧ k.val < Host.clampedStart S100x4x7 S1x4x7 h.1 start 0 + 1 := hin 0
    omega

/-! ## Comparing numbers as words -/

theorem cmpi_word {a b : ℕ} (ha : a < 2 ^ 32) (hb : b < 2 ^ 32) :
    IntOp.cmpi .eq (BitVec.ofNat 32 a) (BitVec.ofNat 32 b) = BitVec.ofBool (decide (a = b)) := by
  have e : (BitVec.ofNat 32 a = BitVec.ofNat 32 b) ↔ a = b := by
    constructor
    · intro h
      have := congrArg BitVec.toNat h
      rwa [BitVec.toNat_ofNat, BitVec.toNat_ofNat, Nat.mod_eq_of_lt ha, Nat.mod_eq_of_lt hb] at this
    · rintro rfl; rfl
  simp only [IntOp.cmpi, beq_eq_decide, e]

theorem or_and_words (P Q R : Prop) [Decidable P] [Decidable Q] [Decidable R] :
    IntOp.ori (IntOp.andi (BitVec.ofBool (decide P)) (BitVec.ofBool (decide Q))) (BitVec.ofBool (decide R))
      = BitVec.ofBool (decide ((P ∧ Q) ∨ R)) := by
  by_cases h1 : P <;> by_cases h2 : Q <;> by_cases h3 : R <;> simp [h1, h2, h3, IntOp.ori, IntOp.andi]

end Cert.ReferenceIdeal.RefRead

end
-- ==== Proof.RefStep.lean ====
/-
One trip of the reference: what the carried arrays hold of each image before a trip (`Holds`), and that a
trip takes it one pick further.
-/
module

public import proofs.«01_k».proof.Proof.RefRead
public import proofs.«01_k».proof.Proof.Numbers

@[expose] public section

set_option maxRecDepth 16384

noncomputable section

namespace Cert.ReferenceIdeal.RefStep

open Idealize.ShloMosaic Idealize.ShloMosaic.TcCoe
open Cert.ReferenceIdeal Cert.ReferenceIdeal.Gen Cert.ReferenceIdeal.Value Cert.ReferenceIdeal.RefRead Cert.Numbers

/-- The candidates of image `n`. -/
abbrev image (x : S4x5000x85.Idx → EReal) (n : Fin 4) : Fin 5000 → Fin 85 → EReal := fun r c => x (ix3 n r c)

/-- The table of image `n`. -/
abbrev tab (x : S4x5000x85.Idx → EReal) (n : Fin 4) : Nms.Table := Nms.table (image x n)

/-- The class of a candidate. -/
abbrev cls (x : S4x5000x85.Idx → EReal) (n : Fin 4) (r : Fin 5000) : ℕ := (Nms.first (Nms.classes (image x n r))).val

/-- The seven entries the reference keeps. -/
abbrev seven (j : Fin 7) : Fin 8 := ⟨j.val, j.isLt.trans (by decide)⟩

/-- What the carried arrays hold before trip `t`. -/
structure Holds (x : S4x5000x85.Idx → EReal) (V : Valuation τ sig (Elt Ideal)) (t : ℕ) : Prop where
  img : ∀ n : Fin 4, (V (Proc.devRef .tc main_v46_0) : IVec S4 32) (ix1 n) = BitVec.ofNat 32 n.val
  row : ∀ n r j, (V (Proc.devRef .tc main_v46_1) : FVec Ideal S4x5000x7 .f32) (ix3 n r j) = tab x n (seven j) r
  x1 : ∀ n r, (V (Proc.devRef .tc main_v46_2) : FVec Ideal S4x5000 .f32) (ix2 n r) = tab x n 0 r
  y1 : ∀ n r, (V (Proc.devRef .tc main_v46_3) : FVec Ideal S4x5000 .f32) (ix2 n r) = tab x n 1 r
  x2 : ∀ n r, (V (Proc.devRef .tc main_v46_4) : FVec Ideal S4x5000 .f32) (ix2 n r) = tab x n 2 r
  y2 : ∀ n r, (V (Proc.devRef .tc main_v46_5) : FVec Ideal S4x5000 .f32) (ix2 n r) = tab x n 3 r
  cl : ∀ n r, (V (Proc.devRef .tc main_v46_6) : IVec S4x5000 32) (ix2 n r) = BitVec.ofNat 32 (cls x n r)
  num : ∀ r : Fin 5000, (V (Proc.devRef .tc main_v46_7) : IVec S1x5000 32) (ix2 0 r) = BitVec.ofNat 32 r.val
  ctr : ∀ z, (V (Proc.devRef .tc main_v46_8) : IVec S_ 32) z = BitVec.ofNat 32 t
  sc : ∀ n r, (V (Proc.devRef .tc main_v46_9) : FVec Ideal S4x5000 .f32) (ix2 n r) = Nms.after (tab x n) t r
  det : ∀ (k : Fin 100) n j, k.val < t → (V (Proc.devRef .tc main_v46_10) : FVec Ideal S100x4x7 .f32) (ix3 k n j) = Nms.det (tab x n) k (seven j)

section
variable {x : S4x5000x85.Idx → EReal} {V : Valuation τ sig (Elt Ideal)} {t : ℕ} (H : Holds x V t)
include H

theorem pick_eq (n : Fin 4) : (res_main_while0b_v48 V : IVec S4 32) (ix1 n) = BitVec.ofNat 32 (Nms.first (Nms.after (tab x n) t)).val := by
  have e : (fun r => (V (Proc.devRef .tc main_v46_9) : FVec Ideal S4x5000 .f32) (ix2 n r)) = Nms.after (tab x n) t := funext fun r => H.sc n r
  rw [← e]
  exact argmax_row _ _ _ n

theorem at_img (n : Fin 4) (u : IVec S4 32) :
    (concatenate S4x2 1 [⟨S4x1, (broadcastInDim S4x1 ![0] bcast_S4_S4x1_0 (V (Proc.devRef .tc main_v46_0) : IVec S4 32))⟩, ⟨S4x1, (broadcastInDim S4x1 ![0] bcast_S4_S4x1_0 u)⟩] concatenates_S4x1_S4x1_S4x2_d1 : IVec S4x2 32) (ix2 n 0) = BitVec.ofNat 32 n.val := by
  rw [← H.img n]
  pointwise []

theorem at_pick (n : Fin 4) (u : IVec S4 32) :
    (concatenate S4x2 1 [⟨S4x1, (broadcastInDim S4x1 ![0] bcast_S4_S4x1_0 u)⟩, ⟨S4x1, (broadcastInDim S4x1 ![0] bcast_S4_S4x1_0 (res_main_while0b_v48 V : IVec S4 32))⟩] concatenates_S4x1_S4x1_S4x2_d1 : IVec S4x2 32) (ix2 n 1) = BitVec.ofNat 32 (Nms.first (Nms.after (tab x n) t)).val := by
  rw [← pick_eq H n]
  pointwise []

theorem row_eq (n : Fin 4) (j : Fin 7) :
    (res_main_while0b_v59 V : FVec Ideal S4x7 .f32) (ix2 n j) = tab x n (seven j) (Nms.first (Nms.after (tab x n) t)) := by
  rw [← H.row]
  exact gather_rows _ _ n j _ (at_img H n _) (at_pick H n _)

theorem x1_eq (n : Fin 4) : (res_main_while0b_v61 V : FVec Ideal S4x1 .f32) (ix2 n 0) = tab x n 0 (Nms.first (Nms.after (tab x n) t)) := by
  refine Eq.trans ?_ (row_eq H n 0)
  pointwise [res_main_while0b_v61]

theorem y1_eq (n : Fin 4) : (res_main_while0b_v62 V : FVec Ideal S4x1 .f32) (ix2 n 0) = tab x n 1 (Nms.first (Nms.after (tab x n) t)) := by
  refine Eq.trans ?_ (row_eq H n 1)
  pointwise [res_main_while0b_v62]

theorem x2_eq (n : Fin 4) : (res_main_while0b_v63 V : FVec Ideal S4x1 .f32) (ix2 n 0) = tab x n 2 (Nms.first (Nms.after (tab x n) t)) := by
  refine Eq.trans ?_ (row_eq H n 2)
  pointwise [res_main_while0b_v63]

theorem y2_eq (n : Fin 4) : (res_main_while0b_v64 V : FVec Ideal S4x1 .f32) (ix2 n 0) = tab x n 3 (Nms.first (Nms.after (tab x n) t)) := by
  refine Eq.trans ?_ (row_eq H n 3)
  pointwise [res_main_while0b_v64]

theorem inter_eq (n : Fin 4) (r : Fin 5000) :
    (res_main_while0b_v79 V : FVec Ideal S4x5000 .f32) (ix2 n r) = Nms.inter (tab x n) (Nms.first (Nms.after (tab x n) t)) r := by
  unfold Nms.inter
  rw [← x1_eq H, ← x2_eq H, ← y1_eq H, ← y2_eq H, ← H.x1, ← H.x2, ← H.y1, ← H.y2]
  pointwise [res_main_while0b_v79]

theorem class_pick (n : Fin 4) (u : IVec S4x2 32) (h0 : u (ix2 n 0) = BitVec.ofNat 32 n.val)
    (h1 : u (ix2 n 1) = BitVec.ofNat 32 (Nms.first (Nms.after (tab x n) t)).val) :
    Host.gather gather_S4x5000_S4x2_S4_n_01_n_n_01_1_11 (V (Proc.devRef .tc main_v46_6) : IVec S4x5000 32) u (ix1 n)
      = BitVec.ofNat 32 (cls x n (Nms.first (Nms.after (tab x n) t))) := by
  rw [← H.cl]
  exact gather_cells _ _ n _ h0 h1

theorem score_pick (n : Fin 4) (u : IVec S4x2 32) (h0 : u (ix2 n 0) = BitVec.ofNat 32 n.val)
    (h1 : u (ix2 n 1) = BitVec.ofNat 32 (Nms.first (Nms.after (tab x n) t)).val) :
    Host.gather gather_S4x5000_S4x2_S4_n_01_n_n_01_1_11 (V (Proc.devRef .tc main_v46_9) : FVec Ideal S4x5000 .f32) u (ix1 n)
      = Nms.after (tab x n) t (Nms.first (Nms.after (tab x n) t)) := by
  rw [← H.sc]
  exact gather_cells _ _ n _ h0 h1

omit H in
theorem cls_lt (x : S4x5000x85.Idx → EReal) (n : Fin 4) (r : Fin 5000) : cls x n r < 2 ^ 32 :=
  lt_of_lt_of_le (Nms.first (Nms.classes (image x n r))).isLt (by decide)

omit H in
theorem num_lt (r : Fin 5000) : r.val < 2 ^ 32 := lt_of_lt_of_le r.isLt (by decide)

/-- The scores after the trip. -/
theorem next_sc (n : Fin 4) (r : Fin 5000) :
    (step_main_v46_9 V : FVec Ideal S4x5000 .f32) (ix2 n r) = Nms.after (tab x n) (t + 1) r := by
  have hc := class_pick H n _ (at_img H n _) (at_pick H n _)
  have hi := inter_eq H n r
  have h1 := x1_eq H n
  have h2 := y1_eq H n
  have h3 := x2_eq H n
  have h4 := y2_eq H n
  have hp := pick_eq H n
  unfold step_main_v46_9
  simp only [id_eq]
  pointwise [hc, hi, h1, h2, h3, h4, hp, H.cl n r, H.num r, H.x1 n r, H.y1 n r, H.x2 n r, H.y2 n r, H.sc n r]
  rw [cmpi_word (cls_lt x n r) (cls_lt x n _), cmpi_word (num_lt r) (num_lt _), or_and_words, select_ofBool, ofBits_bot]
  have e : ∀ {p q : Prop} (_ : p ↔ ((tab x n) 6 r = (tab x n) 6 (Nms.first (Nms.after (tab x n) t)))) (_ : q ↔ r = Nms.first (Nms.after (tab x n) t)),
      ((Ideal.ofBits .f32 0x3EE66666#32 < Nms.iou (tab x n) (Nms.first (Nms.after (tab x n) t)) r ∧ p) ∨ q)
        ↔ Nms.Drops (tab x n) (Nms.first (Nms.after (tab x n) t)) r := fun hp hq => or_congr (and_congr Iff.rfl hp) hq
  have e' := e (p := cls x n r = cls x n (Nms.first (Nms.after (tab x n) t))) (q := r.val = (Nms.first (Nms.after (tab x n) t)).val)
    coe_nat_inj.symm Fin.ext_iff.symm
  have f : Nms.after (tab x n) (t + 1) r = Nms.next (tab x n) (Nms.after (tab x n) t) r := rfl
  rw [f, Nms.next]
  split_ifs with a b b
  · rfl
  · exact absurd (e'.1 a) b
  · exact absurd (e'.2 b) a
  · rfl

theorem next_det (k : Fin 100) (n : Fin 4) (j : Fin 7) (hk : k.val < t + 1) (ht : t < 100) :
    (step_main_v46_10 V : FVec Ideal S100x4x7 .f32) (ix3 k n j) = Nms.det (tab x n) k (seven j) := by
  have hs := score_pick H n _ (at_img H n _) (at_pick H n _)
  have hr := row_eq H n j
  unfold step_main_v46_10
  simp only [id_eq]
  refine (write_row (V (Proc.devRef .tc main_v46_10) : FVec Ideal S100x4x7 .f32) _ _ updateFits_S100x4x7_S1x4x7 t ht ?_ rfl rfl k n j).trans ?_
  · refine (congrArg BitVec.toInt (H.ctr _)).trans (toInt_word (by omega))
  · by_cases h : k.val = t
    · rw [if_pos h]
      pointwise [hs, hr]
      rw [ofBits_bot, Nms.det, h]
    · rw [if_neg h]
      exact H.det k n j (by omega)

end

/-- A trip takes the arrays one pick further. -/
theorem Holds.step {x : S4x5000x85.Idx → EReal} {V : Valuation τ sig (Elt Ideal)} {t : ℕ} (H : Holds x V t) (ht : t < 100) :
    Holds x (STEP V) (t + 1) where
  img n := by rw [STEP_main_v46_0]; exact H.img n
  row n r j := by rw [STEP_main_v46_1]; exact H.row n r j
  x1 n r := by rw [STEP_main_v46_2]; exact H.x1 n r
  y1 n r := by rw [STEP_main_v46_3]; exact H.y1 n r
  x2 n r := by rw [STEP_main_v46_4]; exact H.x2 n r
  y2 n r := by rw [STEP_main_v46_5]; exact H.y2 n r
  cl n r := by rw [STEP_main_v46_6]; exact H.cl n r
  num r := by rw [STEP_main_v46_7]; exact H.num r
  ctr z := by
    rw [STEP_main_v46_8]
    unfold step_main_v46_8
    show IntOp.addi ((V (Proc.devRef .tc main_v46_8) : IVec S_ 32) z) 1#32 = _
    rw [H.ctr z, BitVec.ofNat_add]
    rfl
  sc n r := by rw [STEP_main_v46_9]; exact next_sc H n r
  det k n j hk := by rw [STEP_main_v46_10]; exact next_det H k n j hk ht

end Cert.ReferenceIdeal.RefStep

end
-- ==== Proof.RefEntry.lean ====
/-
What the reference carries into its loop: the arrays its operations before the loop make of the argument,
read at an image and a candidate.
-/
module

public import proofs.«01_k».proof.Proof.RefStep

@[expose] public section

set_option maxRecDepth 16384

noncomputable section

namespace Cert.ReferenceIdeal.RefEntry

open Idealize.ShloMosaic Idealize.ShloMosaic.TcCoe
open Cert.ReferenceIdeal Cert.ReferenceIdeal.Gen Cert.ReferenceIdeal.RefRead Cert.ReferenceIdeal.RefStep Cert.Numbers

variable (x : FVec Ideal S4x5000x85 .f32)

/-! ## The columns -/

abbrev mx : FVec Ideal S4x5000 .f32 := shapeCast S4x5000 (extractStridedSlice S4x5000x1 ![0, 0, 0] x slices_S4x5000x85_S4x5000x1_0_0_0) shapeCasts_S4x5000x1_S4x5000
abbrev my : FVec Ideal S4x5000 .f32 := shapeCast S4x5000 (extractStridedSlice S4x5000x1 ![0, 0, 1] x slices_S4x5000x85_S4x5000x1_0_0_1) shapeCasts_S4x5000x1_S4x5000
abbrev wd : FVec Ideal S4x5000 .f32 := shapeCast S4x5000 (extractStridedSlice S4x5000x1 ![0, 0, 2] x slices_S4x5000x85_S4x5000x1_0_0_2) shapeCasts_S4x5000x1_S4x5000
abbrev ht : FVec Ideal S4x5000 .f32 := shapeCast S4x5000 (extractStridedSlice S4x5000x1 ![0, 0, 3] x slices_S4x5000x85_S4x5000x1_0_0_3) shapeCasts_S4x5000x1_S4x5000
abbrev obj : FVec Ideal S4x5000 .f32 := shapeCast S4x5000 (extractStridedSlice S4x5000x1 ![0, 0, 4] x slices_S4x5000x85_S4x5000x1_0_0_4) shapeCasts_S4x5000x1_S4x5000
abbrev kinds : FVec Ideal S4x5000x80 .f32 := extractStridedSlice S4x5000x80 ![0, 0, 5] x slices_S4x5000x85_S4x5000x80_0_0_5
abbrev half (u : FVec Ideal S4x5000 .f32) : FVec Ideal S4x5000 .f32 := Host.divf u (broadcastInDim S4x5000 ![] bcast_S_S4x5000 (constant S_ .f32 0x40000000#32))

/-- The left edges. -/
def left : FVec Ideal S4x5000 .f32 := subf (mx x) (half (wd x))
/-- The upper edges. -/
def top : FVec Ideal S4x5000 .f32 := subf (my x) (half (ht x))
/-- The right edges. -/
def right : FVec Ideal S4x5000 .f32 := addf (mx x) (half (wd x))
/-- The lower edges. -/
def bottom : FVec Ideal S4x5000 .f32 := addf (my x) (half (ht x))
/-- The greatest class scores. -/
def conf : FVec Ideal S4x5000 .f32 := Host.reduce FloatOps.maximumf (kinds x) (constant S_ .f32 0xFF800000#32) reducesTo_S4x5000x80_S4x5000_d2 h_S_
/-- The classes. -/
def kind : IVec S4x5000 32 := fun j => (Host.argReduce (reducer_argmax_f32_i32 (F := Ideal)) (kinds x) (iotaInDim S4x5000x80 32 2) (constant S_ .f32 0xFF800000#32) (constantI S_ 32 0#32) reducesTo_S4x5000x80_S4x5000_d2 h_S_ j).2
/-- The candidates' scores. -/
def score : FVec Ideal S4x5000 .f32 := mulf (obj x) (conf x)
/-- The least score that enters the loop. -/
def floor : FVec Ideal S4x1 .f32 := minimumf (broadcastInDim S4x1 ![] bcast_S_S4x1 (constant S_ .f32 0x3E800000#32))
  (broadcastInDim S4x1 ![0] bcast_S4_S4x1_0 (Host.reduce FloatOps.maximumf (score x) (constant S_ .f32 0xFF800000#32) reducesTo_S4x5000_S4_d1 h_S_ : FVec Ideal S4 .f32))
/-- The scores entering the loop. -/
def scores : FVec Ideal S4x5000 .f32 := select (cmpf .oge (score x) (broadcastInDim S4x5000 ![0, 1] bcast_S4x1_S4x5000_0_1 (floor x))) (score x)
  (broadcastInDim S4x5000 ![] bcast_S_S4x5000 (constant S_ .f32 0xFF800000#32))

theorem left_apply (n : Fin 4) (r : Fin 5000) : left x (ix2 n r) = tab x n 0 r := by
  show _ = x (ix3 n r 0) - Ideal.div (x (ix3 n r 2)) Nms.two
  unfold left Nms.two
  pointwise []

theorem top_apply (n : Fin 4) (r : Fin 5000) : top x (ix2 n r) = tab x n 1 r := by
  show _ = x (ix3 n r 1) - Ideal.div (x (ix3 n r 3)) Nms.two
  unfold top Nms.two
  pointwise []

theorem right_apply (n : Fin 4) (r : Fin 5000) : right x (ix2 n r) = tab x n 2 r := by
  show _ = x (ix3 n r 0) + Ideal.div (x (ix3 n r 2)) Nms.two
  unfold right Nms.two
  pointwise []

theorem bottom_apply (n : Fin 4) (r : Fin 5000) : bottom x (ix2 n r) = tab x n 3 r := by
  show _ = x (ix3 n r 1) + Ideal.div (x (ix3 n r 3)) Nms.two
  unfold bottom Nms.two
  pointwise []

theorem obj_apply (n : Fin 4) (r : Fin 5000) : obj x (ix2 n r) = tab x n 4 r := by
  show _ = x (ix3 n r 4)
  pointwise []

theorem kinds_apply (n : Fin 4) (r : Fin 5000) (k : Fin 80) : kinds x (ix3 n r k) = Nms.classes (image x n r) k := by
  unfold Nms.classes
  pointwise []

theorem conf_apply (n : Fin 4) (r : Fin 5000) : conf x (ix2 n r) = tab x n 5 r := by
  have e : conf x (ix2 n r) = Finset.fold max ⊥ (fun k : Fin 80 => kinds x (ix3 n r k)) Finset.univ := by
    unfold conf
    generalize kinds x = u
    pointwise [ofBits_bot]
  rw [e]
  show (Finset.univ.sup fun k : Fin 80 => kinds x (ix3 n r k)) = Finset.univ.sup (Nms.classes (image x n r))
  exact congrArg _ (funext fun k => kinds_apply x n r k)

theorem kind_apply (n : Fin 4) (r : Fin 5000) : kind x (ix2 n r) = BitVec.ofNat 32 (cls x n r) := by
  have e : (fun k => kinds x (ix3 n r k)) = Nms.classes (image x n r) := funext fun k => kinds_apply x n r k
  unfold cls
  rw [← e]
  exact argmax_class _ _ _ n r

theorem score_apply (n : Fin 4) (r : Fin 5000) : score x (ix2 n r) = tab x n 4 r * tab x n 5 r := by
  rw [← obj_apply, ← conf_apply]
  unfold score
  exact mulf_apply _ _ _

theorem floor_apply (n : Fin 4) : floor x (ix2 n 0) = min (Ideal.ofBits .f32 0x3E800000#32) (Finset.univ.sup fun q => tab x n 4 q * tab x n 5 q) := by
  have e : (fun q => tab x n 4 q * tab x n 5 q) = fun q => score x (ix2 n q) := funext fun q => (score_apply x n q).symm
  rw [e]
  have f : floor x (ix2 n 0) = min (Ideal.ofBits .f32 0x3E800000#32) (Finset.fold max ⊥ (fun q : Fin 5000 => score x (ix2 n q)) Finset.univ) := by
    unfold floor
    generalize score x = u
    pointwise [ofBits_bot]
  rw [f]
  rfl

theorem scores_apply (n : Fin 4) (r : Fin 5000) : scores x (ix2 n r) = Nms.init (tab x n) r := by
  have e : scores x (ix2 n r) = if floor x (ix2 n 0) ≤ score x (ix2 n r) then score x (ix2 n r) else ⊥ := by
    unfold scores
    pointwise [ofBits_bot]
  rw [e, floor_apply, score_apply]
  unfold Nms.init
  rfl

/-! ## The seven columns -/

/-- An array as one column. -/
abbrev col (u : FVec Ideal S4x5000 .f32) : FVec Ideal S4x5000x1 .f32 := broadcastInDim S4x5000x1 ![0, 1] bcast_S4x5000_S4x5000x1_0_1 u
/-- Seven arrays side by side. -/
def cols (u0 u1 u2 u3 u4 u5 u6 : FVec Ideal S4x5000 .f32) : FVec Ideal S4x5000x7 .f32 :=
  concatenate S4x5000x7 2 [⟨S4x5000x1, col u0⟩, ⟨S4x5000x1, col u1⟩, ⟨S4x5000x1, col u2⟩, ⟨S4x5000x1, col u3⟩, ⟨S4x5000x1, col u4⟩, ⟨S4x5000x1, col u5⟩, ⟨S4x5000x1, col u6⟩]
    concatenates_S4x5000x1_S4x5000x1_S4x5000x1_S4x5000x1_S4x5000x1_S4x5000x1_S4x5000x1_S4x5000x7_d2

theorem cols_apply (u0 u1 u2 u3 u4 u5 u6 : FVec Ideal S4x5000 .f32) (n : Fin 4) (r : Fin 5000) (j : Fin 7) :
    cols u0 u1 u2 u3 u4 u5 u6 (ix3 n r j) = ![u0 (ix2 n r), u1 (ix2 n r), u2 (ix2 n r), u3 (ix2 n r), u4 (ix2 n r), u5 (ix2 n r), u6 (ix2 n r)] j := by
  unfold cols
  fin_cases j <;> pointwise []

/-- The classes as numbers. -/
abbrev kindNum : FVec Ideal S4x5000 .f32 := sitofp .f32 (kind x)

theorem kindNum_apply (n : Fin 4) (r : Fin 5000) : kindNum x (ix2 n r) = tab x n 6 r := by
  show (((kind x (ix2 n r)).toInt : ℝ) : EReal) = ((cls x n r : ℝ) : EReal)
  rw [kind_apply, toInt_word (lt_of_lt_of_le (Nms.first (Nms.classes (image x n r))).isLt (by decide)), Int.cast_natCast]

/-- The seven entries kept of each candidate. -/
def rows : FVec Ideal S4x5000x7 .f32 := cols (left x) (top x) (right x) (bottom x) (obj x) (conf x) (kindNum x)

theorem rows_apply (n : Fin 4) (r : Fin 5000) (j : Fin 7) : rows x (ix3 n r j) = tab x n (seven j) r := by
  unfold rows
  rw [cols_apply, left_apply, top_apply, right_apply, bottom_apply, obj_apply, conf_apply, kindNum_apply]
  fin_cases j <;> rfl

end Cert.ReferenceIdeal.RefEntry

end
-- ==== Proof.RefValue.lean ====
/-
The reference's result: the loop enters holding each image's table and scores, every trip takes them one pick
further, and the hundred reports are the answer.
-/
module

public import proofs.«01_k».proof.Proof.RefEntry

@[expose] public section

set_option maxRecDepth 65536
set_option maxHeartbeats 4000000

noncomputable section

namespace Cert.ReferenceIdeal.RefValue

open Idealize.ShloMosaic Idealize.ShloMosaic.TcCoe Idealize.ShloMosaic.StableHlo
open Cert.ReferenceIdeal Cert.ReferenceIdeal.Gen Cert.ReferenceIdeal.Value Cert.ReferenceIdeal.RefStep Cert.ReferenceIdeal.RefEntry Cert.Numbers

/-! ## The loop's entry -/

section
variable (V : Valuation τ sig (Elt Ideal))

/-- The buffers after the operations before the loop. -/
abbrev entering : Valuation τ sig (Elt Ideal) := after hostOps0_4 (after hostOps0_3 (after hostOps0_2 (after hostOps0_1 (after hostOps0 V))))

/-- The argument's buffer. -/
abbrev arg : FVec Ideal S4x5000x85 .f32 := V (Proc.devRef .tc main_arg0)

theorem entering_img : (entering V (Proc.devRef .tc main_v46_0) : IVec S4 32) = iotaInDim S4 32 0 := by
  after_reads_simp
  rfl

/-- The seven columns, of the arrays they are made of. -/
theorem cols_read (W : Valuation τ sig (Elt Ideal)) : (after hostOps0_4 W (Proc.devRef .tc main_v46_1) : FVec Ideal S4x5000x7 .f32)
    = cols (W (Proc.devRef .tc main_v10)) (W (Proc.devRef .tc main_v13)) (W (Proc.devRef .tc main_v16)) (W (Proc.devRef .tc main_v19))
        (W (Proc.devRef .tc main_v21)) (W (Proc.devRef .tc main_v23)) (sitofp .f32 (W (Proc.devRef .tc main_v24) : IVec S4x5000 32)) := by
  have e34 : upto hostOps0_4 W 8 (Proc.devRef .tc main_v34) = col (W (Proc.devRef .tc main_v10)) := by after_reads_simp
  have e35 : upto hostOps0_4 W 8 (Proc.devRef .tc main_v35) = col (W (Proc.devRef .tc main_v13)) := by after_reads_simp
  have e36 : upto hostOps0_4 W 8 (Proc.devRef .tc main_v36) = col (W (Proc.devRef .tc main_v16)) := by after_reads_simp
  have e37 : upto hostOps0_4 W 8 (Proc.devRef .tc main_v37) = col (W (Proc.devRef .tc main_v19)) := by after_reads_simp
  have e38 : upto hostOps0_4 W 8 (Proc.devRef .tc main_v38) = col (W (Proc.devRef .tc main_v21)) := by after_reads_simp
  have e39 : upto hostOps0_4 W 8 (Proc.devRef .tc main_v39) = col (W (Proc.devRef .tc main_v23)) := by after_reads_simp
  have e40 : upto hostOps0_4 W 8 (Proc.devRef .tc main_v40) = col (sitofp .f32 (W (Proc.devRef .tc main_v24) : IVec S4x5000 32)) := by after_reads_simp
  after_reads_simp
  unfold cols
  rw [← e34, ← e35, ← e36, ← e37, ← e38, ← e39, ← e40]
  rfl

/-- The buffers after the scores are made. -/
abbrev scored : Valuation τ sig (Elt Ideal) := after hostOps0_3 (after hostOps0_2 (after hostOps0_1 (after hostOps0 V)))

theorem scored_left : (scored V (Proc.devRef .tc main_v10) : FVec Ideal S4x5000 .f32) = left (arg V) := by
  after_reads_simp
  rfl

theorem scored_top : (scored V (Proc.devRef .tc main_v13) : FVec Ideal S4x5000 .f32) = top (arg V) := by
  after_reads_simp
  rfl

theorem scored_right : (scored V (Proc.devRef .tc main_v16) : FVec Ideal S4x5000 .f32) = right (arg V) := by
  after_reads_simp
  rfl

theorem scored_bottom : (scored V (Proc.devRef .tc main_v19) : FVec Ideal S4x5000 .f32) = bottom (arg V) := by
  after_reads_simp
  rfl

theorem scored_obj : (scored V (Proc.devRef .tc main_v21) : FVec Ideal S4x5000 .f32) = obj (arg V) := by
  after_reads_simp
  rfl

theorem scored_conf : (scored V (Proc.devRef .tc main_v23) : FVec Ideal S4x5000 .f32) = conf (arg V) := by
  after_reads_simp
  rfl

theorem scored_kind : (scored V (Proc.devRef .tc main_v24) : IVec S4x5000 32) = kind (arg V) := by
  after_reads_simp
  rfl

theorem entering_row : (entering V (Proc.devRef .tc main_v46_1) : FVec Ideal S4x5000x7 .f32) = rows (arg V) := by
  refine (cols_read (scored V)).trans ?_
  rw [scored_left, scored_top, scored_right, scored_bottom, scored_obj, scored_conf, scored_kind, rows]

theorem entering_left : (entering V (Proc.devRef .tc main_v46_2) : FVec Ideal S4x5000 .f32) = left (arg V) := by
  after_reads_simp
  rfl

theorem entering_top : (entering V (Proc.devRef .tc main_v46_3) : FVec Ideal S4x5000 .f32) = top (arg V) := by
  after_reads_simp
  rfl

theorem entering_right : (entering V (Proc.devRef .tc main_v46_4) : FVec Ideal S4x5000 .f32) = right (arg V) := by
  after_reads_simp
  rfl

theorem entering_bottom : (entering V (Proc.devRef .tc main_v46_5) : FVec Ideal S4x5000 .f32) = bottom (arg V) := by
  after_reads_simp
  rfl

theorem entering_kind : (entering V (Proc.devRef .tc main_v46_6) : IVec S4x5000 32) = kind (arg V) := by
  after_reads_simp
  rfl

theorem entering_num : (entering V (Proc.devRef .tc main_v46_7) : IVec S1x5000 32) = broadcastInDim S1x5000 ![1] bcast_S5000_S1x5000_1 (iotaInDim S5000 32 0) := by
  after_reads_simp
  rfl

theorem entering_ctr : (entering V (Proc.devRef .tc main_v46_8) : IVec S_ 32) = constantI S_ 32 0#32 := by
  after_reads_simp
  rfl

theorem entering_scores : (entering V (Proc.devRef .tc main_v46_9) : FVec Ideal S4x5000 .f32) = scores (arg V) := by
  after_reads_simp
  rfl

/-- Before the first trip. -/
theorem entering_holds : Holds (arg V) (entering V) 0 where
  img n := congrFun (entering_img V) (ix1 n)
  row n r j := (congrFun (entering_row V) (ix3 n r j)).trans (rows_apply _ n r j)
  x1 n r := (congrFun (entering_left V) (ix2 n r)).trans (left_apply _ n r)
  y1 n r := (congrFun (entering_top V) (ix2 n r)).trans (top_apply _ n r)
  x2 n r := (congrFun (entering_right V) (ix2 n r)).trans (right_apply _ n r)
  y2 n r := (congrFun (entering_bottom V) (ix2 n r)).trans (bottom_apply _ n r)
  cl n r := (congrFun (entering_kind V) (ix2 n r)).trans (kind_apply _ n r)
  num r := congrFun (entering_num V) (ix2 0 r)
  ctr z := congrFun (entering_ctr V) z
  sc n r := (congrFun (entering_scores V) (ix2 n r)).trans (scores_apply _ n r)
  det k n j hk := absurd hk (Nat.not_lt_zero _)

end

/-! ## The trips -/

/-- Before trip `t`. -/
theorem holds_iterate {x : S4x5000x85.Idx → EReal} {V : Valuation τ sig (Elt Ideal)} (H : Holds x V 0) :
    ∀ t, t ≤ 100 → Holds x (STEP^[t] V) t
  | 0, _ => H
  | t + 1, h => by
    rw [Function.iterate_succ_apply']
    exact (holds_iterate H t (by omega)).step (by omega)

/-- The reports after the last trip are the answer. -/
theorem out_answer {x : S4x5000x85.Idx → EReal} {V : Valuation τ sig (Elt Ideal)} (H : Holds x V 100) :
    (out_main_v47 V : FVec Ideal S4x100x7 .f32) = Nms.answer x := by
  funext z
  idx_vars z
  refine Eq.trans ?_ (H.det z1 z0 z2 z1.2)
  unfold out_main_v47
  pointwise []

section
variable (m : (ℓ : Loc nD τ sig) → Buf (Elt Ideal) ℓ) (ρ : Dev nD → PrngReg)

/-- The argument on a device. -/
abbrev argOf (c : Dev nD) : S4x5000x85.Idx → EReal := m ((c.tc : Thread nD τ).loc main_arg0)

/-- The reference runs to the answer and keeps its argument. -/
theorem run : θ_run (defs (F := Ideal)) (onTc (τ := τ) (main (F := Ideal))) ⟨m, fun _ => 0, ρ⟩ fun r => ∀ c : Dev nD,
      r.2.mem ((c.tc : Thread nD τ).loc main_v47) = Nms.answer (argOf m c)
      ∧ r.2.mem ((c.tc : Thread nD τ).loc main_arg0) = m ((c.tc : Thread nD τ).loc main_arg0) :=
  (θ_run defs _ _).mono (fun _ h c => ⟨(h c).1.trans (out_answer (holds_iterate (x := argOf m c) (entering_holds (launchContents m c)) 100 le_rfl)), (h c).2⟩)
    (Value.run m ρ)

end

end Cert.ReferenceIdeal.RefValue

end
-- ==== Proof.Algebraic.lean ====
/-
The equation of values: from memories agreeing on the argument, the kernel and the reference, read over the
extended reals, both end with the answer.
-/
module

public import proofs.«01_k».proof.Defs
public import proofs.«01_k».proof.Proof.KValue
public import proofs.«01_k».proof.Proof.RefValue

@[expose] public section

noncomputable section

namespace Cert.Proof

open Idealize.ShloMosaic Idealize.ShloMosaic.TcCoe

theorem algebraic : algebraic_KernelIdeal_ReferenceIdeal (hKernelIdeal := Cert.KernelIdeal.Gen.facts) (hReferenceIdeal := Cert.ReferenceIdeal.Gen.facts) := by
  intro m g m' g' _ hargs
  refine ⟨fun c => Cert.Nms.answer (Cert.KernelIdeal.KValue.argOf m c), Cert.KernelIdeal.KValue.run m g, ?_⟩
  refine (θ_run _ _ _).mono (fun r h c => ⟨(h c).1.trans ?_, (h c).2⟩) (Cert.ReferenceIdeal.RefValue.run m' g')
  exact congrArg Cert.Nms.answer (hargs c)

end Cert.Proof

end
-- ==== Proof.lean ====
/- The claims, assembled: the frames of the three programs (Proof/Frames.lean), the rewrites of the idealization, of
   which there are none, and the equation of values (Proof/Algebraic.lean). -/
module

public import proofs.«01_k».proof.Defs
public import proofs.«01_k».proof.Proof.Frames
public import proofs.«01_k».proof.Proof.Algebraic

@[expose] public section

noncomputable section

namespace Cert.Proof

theorem claim : Cert.Claim :=
  ⟨Cert.Kernel.Gen.facts, Cert.KernelIdeal.Gen.facts, Cert.ReferenceIdeal.Gen.facts, frame_p, frame_pi, frame_ri, trivial, algebraic⟩

end Cert.Proof

end
